-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x1 : Shape := ⟨2, ![100000, 1]⟩
abbrev S100000 : Shape := ⟨1, ![100000]⟩
abbrev S86x1 : Shape := ⟨2, ![86, 1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S100000 : S_.BroadcastsInDim S100000 (![] : Fin 0 → Fin S100000.rank)
  reducesTo_S100000_S_d0 : S100000.ReducesTo [0] S_

variable [Facts]

def fn {F : FTy → Type} [FloatOps F] (main_arg0 : IVec S100000x1 32) (main_arg1 : IVec S100000 32) (main_arg2 : FVec F S86x1 .f32) : IVec S_ 1 :=
  let main_c : IVec S_ 32 := constantI S_ 32 0#32
  let main_v0 : IVec S100000x1 32 := broadcastInDim S100000x1 ![] bcast_S_S100000x1 main_c
  let main_v1 : IVec S100000x1 1 := cmpi .sge main_arg0 main_v0
  let main_c_0 : IVec S_ 1 := constantI S_ 1 1#1
  let main_v2 : IVec S_ 1 := (fun x v => Host.reduce IntOp.andi x v reducesTo_S100000x1_S_d0_1 h_S_) main_v1 main_c_0
  let main_c_1 : IVec S_ 32 := constantI S_ 32 86#32
  let main_v3 : IVec S100000x1 32 := broadcastInDim S100000x1 ![] bcast_S_S100000x1 main_c_1
  let main_v4 : IVec S100000x1 1 := cmpi .slt main_arg0 main_v3
  let main_c_2 : IVec S_ 1 := constantI S_ 1 1#1
  let main_v5 : IVec S_ 1 := (fun x v => Host.reduce IntOp.andi x v reducesTo_S100000x1_S_d0_1 h_S_) main_v4 main_c_2
  let main_v6 : IVec S_ 1 := andi main_v2 main_v5
  let main_c_3 : IVec S_ 32 := constantI S_ 32 0#32
  let main_v7 : IVec S100000 32 := broadcastInDim S100000 ![] bcast_S_S100000 main_c_3
  let main_v8 : IVec S100000 1 := cmpi .sge main_arg1 main_v7
  let main_c_4 : IVec S_ 1 := constantI S_ 1 1#1
  let main_v9 : IVec S_ 1 := (fun x v => Host.reduce IntOp.andi x v reducesTo_S100000_S_d0 h_S_) main_v8 main_c_4
  let main_v10 : IVec S_ 1 := andi main_v6 main_v9
  let main_c_5 : IVec S_ 32 := constantI S_ 32 1024#32
  let main_v11 : IVec S100000 32 := broadcastInDim S100000 ![] bcast_S_S100000 main_c_5
  let main_v12 : IVec S100000 1 := cmpi .slt main_arg1 main_v11
  let main_c_6 : IVec S_ 1 := constantI S_ 1 1#1
  let main_v13 : IVec S_ 1 := (fun x v => Host.reduce IntOp.andi x v reducesTo_S100000_S_d0 h_S_) main_v12 main_c_6
  let main_v14 : IVec S_ 1 := andi main_v10 main_v13
  main_v14
-- ==== Kernel.lean ====
abbrev S100000x1 : Shape := ⟨2, ![100000, 1]⟩
abbrev S100000 : Shape := ⟨1, ![100000]⟩
abbrev S86x1 : Shape := ⟨2, ![86, 1]⟩
abbrev S86 : Shape := ⟨1, ![86]⟩
abbrev S1024 : Shape := ⟨1, ![1024]⟩
abbrev S6256 : Shape := ⟨1, ![6256]⟩
abbrev S96 : Shape := ⟨1, ![96]⟩
abbrev S4176 : Shape := ⟨1, ![4176]⟩
abbrev S16 : Shape := ⟨1, ![16]⟩
abbrev S16x16 : Shape := ⟨2, ![16, 16]⟩
abbrev S16x128 : Shape := ⟨2, ![16, 128]⟩
abbrev S128 : Shape := ⟨1, ![128]⟩
abbrev S16x1024 : Shape := ⟨2, ![16, 1024]⟩
abbrev S_ : Shape := ⟨0, ![]⟩
abbrev S6160 : Shape := ⟨1, ![6160]⟩
abbrev S1x16 : Shape := ⟨2, ![1, 16]⟩
abbrev S1 : Shape := ⟨1, ![1]⟩
abbrev S1x1024 : Shape := ⟨2, ![1, 1024]⟩
abbrev S1024x1 : Shape := ⟨2, ![1024, 1]⟩

abbrev nBuf : Table → Nat
  | .hbm => 7
  | .shared => 2
  | .local .scVector .vmem => 10
  | _ => 0

abbrev bufTy : (tb : Table) → Fin (nBuf tb) → BufTy
  | .hbm, ⟨0, _⟩ => ⟨S100000x1, .i32⟩
  | .hbm, ⟨1, _⟩ => ⟨S100000, .i32⟩
  | .hbm, ⟨2, _⟩ => ⟨S86x1, .f32⟩
  | .hbm, ⟨3, _⟩ => ⟨S100000, .i32⟩
  | .hbm, ⟨4, _⟩ => ⟨S86, .f32⟩
  | .hbm, ⟨5, _⟩ => ⟨S1024, .f32⟩
  | .hbm, ⟨6, _⟩ => ⟨S1024x1, .f32⟩
  | .shared, ⟨0, _⟩ => ⟨S16x16, .i32⟩
  | .shared, ⟨1, _⟩ => ⟨S16x1024, .f32⟩
  | .local .scVector .vmem, ⟨0, _⟩ => ⟨S6256, .i32⟩
  | .local .scVector .vmem, ⟨1, _⟩ => ⟨S6256, .i32⟩
  | .local .scVector .vmem, ⟨2, _⟩ => ⟨S96, .f32⟩
  | .local .scVector .vmem, ⟨3, _⟩ => ⟨S96, .f32⟩
  | .local .scVector .vmem, ⟨4, _⟩ => ⟨S4176, .f32⟩
  | .local .scVector .vmem, ⟨5, _⟩ => ⟨S1024, .f32⟩
  | .local .scVector .vmem, ⟨6, _⟩ => ⟨S16, .i32⟩
  | .local .scVector .vmem, ⟨7, _⟩ => ⟨S16x16, .i32⟩
  | .local .scVector .vmem, ⟨8, _⟩ => ⟨S16x128, .f32⟩
  | .local .scVector .vmem, ⟨9, _⟩ => ⟨S128, .f32⟩
  | _, _ => ⟨S100000x1, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev main_v2_scv : Ref sig .scVector := ⟨.hbm, 5, rfl⟩
abbrev cc0_scratch10 : Ref sig .scVector := ⟨.shared, 0, rfl⟩
abbrev cc0_scratch11 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c15_i32 : BitVec 32 := 15#32
  let v4 : BitVec 1 := Scalar.cmpi .slt arg1 c15_i32
  let v5 : BitVec 32 := Scalar.extui v4
  let c0_i32 : BitVec 32 := 0#32
  let v6 : BitVec 1 := Scalar.cmpi .ne v5 c0_i32
  v6

def k0_off1 (i : grid0.Coords) : Fin 1 → Nat :=
  let arg1 : BitVec 32 := BitVec.ofNat 32 (i 1).val
  let c6256_i32 : BitVec 32 := 6256#32
  let v0 : BitVec 32 := Scalar.muli arg1 c6256_i32
  ![v0.toNat]
def k0_cond2 (i : grid0.Coords) : BitVec 1 :=
  let arg1 : BitVec 32 := BitVec.ofNat 32 (i 1).val
  let c15_i32_0 : BitVec 32 := 15#32
  let v7 : BitVec 1 := Scalar.cmpi .eq arg1 c15_i32_0
  let v8 : BitVec 32 := Scalar.extui v7
  let c0_i32_1 : BitVec 32 := 0#32
  let v9 : BitVec 1 := Scalar.cmpi .ne v8 c0_i32_1
  v9

def k0_off2 (i : grid0.Coords) : Fin 1 → Nat :=
  let arg1 : BitVec 32 := BitVec.ofNat 32 (i 1).val
  let c6256_i32 : BitVec 32 := 6256#32
  let v0 : BitVec 32 := Scalar.muli arg1 c6256_i32
  ![v0.toNat]
@[reducible] def k0_t1_loop : Scf.Loop 32 :=
  let c0_i32_2 : BitVec 32 := 0#32
  let c48_i32 : BitVec 32 := 48#32
  let v11 : BitVec 32 := Scalar.addi c0_i32_2 c48_i32
  let c1_i32 : BitVec 32 := 1#32
  ⟨c0_i32_2, v11, c1_i32⟩
def k0_off3 (k0_t1 : Fin k0_t1_loop.trips) (c0_i32_50 : BitVec 32) : Fin 1 → Nat :=
  let c0_i32_2 : BitVec 32 := 0#32
  let c1_i32 : BitVec 32 := 1#32
  let arg18 : BitVec 32 := Scf.iv c0_i32_2 c1_i32 k0_t1
  let c8_i32_49 : BitVec 32 := 8#32
  let v197 : BitVec 32 := Scalar.muli arg18 c8_i32_49
  let v198 : BitVec 32 := Scalar.addi v197 c0_i32_50
  let c16_i32_51 : BitVec 32 := 16#32
  let v199 : BitVec 32 := Scalar.muli v198 c16_i32_51
  let v200 : Index := Scalar.indexCast v199
  ![v200.toNat]
def k0_off4 (i : grid0.Coords) : Fin 2 → Nat :=
  let arg1 : BitVec 32 := BitVec.ofNat 32 (i 1).val
  let c0_i32_49_r6 : BitVec 32 := 0#32
  ![arg1.toNat, 0]
@[reducible] def k0_t2_loop : Scf.Loop 32 :=
  let c0_i32_5 : BitVec 32 := 0#32
  let c261_i32 : BitVec 32 := 261#32
  let v28 : BitVec 32 := Scalar.addi c0_i32_5 c261_i32
  let c1_i32_6 : BitVec 32 := 1#32
  ⟨c0_i32_5, v28, c1_i32_6⟩
def k0_off5 (k0_t2 : Fin k0_t2_loop.trips) : Fin 1 → Nat :=
  let c0_i32_5 : BitVec 32 := 0#32
  let c1_i32_6 : BitVec 32 := 1#32
  let arg18 : BitVec 32 := Scf.iv c0_i32_5 c1_i32_6 k0_t2
  let c16_i32_49 : BitVec 32 := 16#32
  let v198 : BitVec 32 := Scalar.muli arg18 c16_i32_49
  let v199 : Index := Scalar.indexCast v198
  ![v199.toNat]
@[reducible] def k0_t3_loop : Scf.Loop 32 :=
  let c0_i32_10 : BitVec 32 := 0#32
  let c16_i32 : BitVec 32 := 16#32
  let v30 : BitVec 32 := Scalar.addi c0_i32_10 c16_i32
  let c1_i32_11 : BitVec 32 := 1#32
  ⟨c0_i32_10, v30, c1_i32_11⟩
def k0_off6 (k0_t3 : Fin k0_t3_loop.trips) : Fin 2 → Nat :=
  let c0_i32_10 : BitVec 32 := 0#32
  let c1_i32_11 : BitVec 32 := 1#32
  let arg18 : BitVec 32 := Scf.iv c0_i32_10 c1_i32_11 k0_t3
  let v197 : Index := Scalar.indexCast arg18
  let c0_49 : Index := 0#32
  ![v197.toNat, 0]

def k0_chk1 (v86 : IVec S16 32) : Prop :=
  (∀ a x, ((![v86] : Fin 1 → IVec S16 32) a x).toNat < S96.size a)
theorem k0_idx1_inb : ∀ (v86 : IVec S16 32) (k0_hw1 : k0_chk1 v86), ∀ a x, ((![v86] : Fin 1 → IVec S16 32) a x).toNat < S96.size a := fun v86 k0_hw1 => k0_hw1

def k0_chk2 (v94 : IVec S16 32) : Prop :=
  (∀ a x, ((![v94] : Fin 1 → IVec S16 32) a x).toNat < S96.size a)
theorem k0_idx2_inb : ∀ (v94 : IVec S16 32) (k0_hw2 : k0_chk2 v94), ∀ a x, ((![v94] : Fin 1 → IVec S16 32) a x).toNat < S96.size a := fun v94 k0_hw2 => k0_hw2

def k0_chk3 (v102 : IVec S16 32) : Prop :=
  (∀ a x, ((![v102] : Fin 1 → IVec S16 32) a x).toNat < S96.size a)
theorem k0_idx3_inb : ∀ (v102 : IVec S16 32) (k0_hw3 : k0_chk3 v102), ∀ a x, ((![v102] : Fin 1 → IVec S16 32) a x).toNat < S96.size a := fun v102 k0_hw3 => k0_hw3

def k0_chk4 (v110 : IVec S16 32) : Prop :=
  (∀ a x, ((![v110] : Fin 1 → IVec S16 32) a x).toNat < S96.size a)
theorem k0_idx4_inb : ∀ (v110 : IVec S16 32) (k0_hw4 : k0_chk4 v110), ∀ a x, ((![v110] : Fin 1 → IVec S16 32) a x).toNat < S96.size a := fun v110 k0_hw4 => k0_hw4

def k0_chk5 (v118 : IVec S16 32) : Prop :=
  (∀ a x, ((![v118] : Fin 1 → IVec S16 32) a x).toNat < S96.size a)
theorem k0_idx5_inb : ∀ (v118 : IVec S16 32) (k0_hw5 : k0_chk5 v118), ∀ a x, ((![v118] : Fin 1 → IVec S16 32) a x).toNat < S96.size a := fun v118 k0_hw5 => k0_hw5

def k0_chk6 (v126 : IVec S16 32) : Prop :=
  (∀ a x, ((![v126] : Fin 1 → IVec S16 32) a x).toNat < S96.size a)
theorem k0_idx6_inb : ∀ (v126 : IVec S16 32) (k0_hw6 : k0_chk6 v126), ∀ a x, ((![v126] : Fin 1 → IVec S16 32) a x).toNat < S96.size a := fun v126 k0_hw6 => k0_hw6
@[reducible] def k0_t4_loop : Scf.Loop 32 :=
  let c0_i32_31 : BitVec 32 := 0#32
  let c48_i32_32 : BitVec 32 := 48#32
  let v149 : BitVec 32 := Scalar.addi c0_i32_31 c48_i32_32
  let c1_i32_33 : BitVec 32 := 1#32
  ⟨c0_i32_31, v149, c1_i32_33⟩

def k0_chk7 (arg19 : IVec S16 32) : Prop :=
  (∀ a x, ((![arg19] : Fin 1 → IVec S16 32) a x).toNat < S6256.size a) ∧
  (∀ a x, ((![arg19] : Fin 1 → IVec S16 32) a x).toNat < S6256.size a)
theorem k0_idx7_inb : ∀ (arg19 : IVec S16 32) (k0_hw7 : k0_chk7 arg19), ∀ a x, ((![arg19] : Fin 1 → IVec S16 32) a x).toNat < S6256.size a := fun arg19 k0_hw7 => k0_hw7.1
theorem k0_idx8_inb : ∀ (arg19 : IVec S16 32) (k0_hw7 : k0_chk7 arg19), ∀ a x, ((![arg19] : Fin 1 → IVec S16 32) a x).toNat < S6256.size a := fun arg19 k0_hw7 => k0_hw7.2

def k0_chk8 (v197 : IVec S16 32) : Prop :=
  (∀ a x, ((![v197] : Fin 1 → IVec S16 32) a x).toNat < S96.size a)
theorem k0_idx9_inb : ∀ (v197 : IVec S16 32) (k0_hw8 : k0_chk8 v197), ∀ a x, ((![v197] : Fin 1 → IVec S16 32) a x).toNat < S96.size a := fun v197 k0_hw8 => k0_hw8

def k0_chk9 (v200 : IVec S16 32) : Prop :=
  (∀ a x, ((![v200] : Fin 1 → IVec S16 32) a x).toNat < S4176.size a)
theorem k0_idx10_inb : ∀ (v200 : IVec S16 32) (k0_hw9 : k0_chk9 v200), ∀ a x, ((![v200] : Fin 1 → IVec S16 32) a x).toNat < S4176.size a := fun v200 k0_hw9 => k0_hw9

def k0_chk10 (v202 : IVec S16 32) : Prop :=
  (∀ a x, ((![v202] : Fin 1 → IVec S16 32) a x).toNat < S6256.size a) ∧
  (∀ a x, ((![v202] : Fin 1 → IVec S16 32) a x).toNat < S6256.size a)
theorem k0_idx11_inb : ∀ (v202 : IVec S16 32) (k0_hw10 : k0_chk10 v202), ∀ a x, ((![v202] : Fin 1 → IVec S16 32) a x).toNat < S6256.size a := fun v202 k0_hw10 => k0_hw10.1
theorem k0_idx12_inb : ∀ (v202 : IVec S16 32) (k0_hw10 : k0_chk10 v202), ∀ a x, ((![v202] : Fin 1 → IVec S16 32) a x).toNat < S6256.size a := fun v202 k0_hw10 => k0_hw10.2

def k0_chk11 (v203 : IVec S16 32) : Prop :=
  (∀ a x, ((![v203] : Fin 1 → IVec S16 32) a x).toNat < S96.size a)
theorem k0_idx13_inb : ∀ (v203 : IVec S16 32) (k0_hw11 : k0_chk11 v203), ∀ a x, ((![v203] : Fin 1 → IVec S16 32) a x).toNat < S96.size a := fun v203 k0_hw11 => k0_hw11

def k0_chk12 (v206 : IVec S16 32) : Prop :=
  (∀ a x, ((![v206] : Fin 1 → IVec S16 32) a x).toNat < S4176.size a)
theorem k0_idx14_inb : ∀ (v206 : IVec S16 32) (k0_hw12 : k0_chk12 v206), ∀ a x, ((![v206] : Fin 1 → IVec S16 32) a x).toNat < S4176.size a := fun v206 k0_hw12 => k0_hw12

def k0_chk13 (v208 : IVec S16 32) : Prop :=
  (∀ a x, ((![v208] : Fin 1 → IVec S16 32) a x).toNat < S6256.size a) ∧
  (∀ a x, ((![v208] : Fin 1 → IVec S16 32) a x).toNat < S6256.size a)
theorem k0_idx15_inb : ∀ (v208 : IVec S16 32) (k0_hw13 : k0_chk13 v208), ∀ a x, ((![v208] : Fin 1 → IVec S16 32) a x).toNat < S6256.size a := fun v208 k0_hw13 => k0_hw13.1
theorem k0_idx16_inb : ∀ (v208 : IVec S16 32) (k0_hw13 : k0_chk13 v208), ∀ a x, ((![v208] : Fin 1 → IVec S16 32) a x).toNat < S6256.size a := fun v208 k0_hw13 => k0_hw13.2

def k0_chk14 (v209 : IVec S16 32) : Prop :=
  (∀ a x, ((![v209] : Fin 1 → IVec S16 32) a x).toNat < S96.size a)
theorem k0_idx17_inb : ∀ (v209 : IVec S16 32) (k0_hw14 : k0_chk14 v209), ∀ a x, ((![v209] : Fin 1 → IVec S16 32) a x).toNat < S96.size a := fun v209 k0_hw14 => k0_hw14

def k0_chk15 (v212 : IVec S16 32) : Prop :=
  (∀ a x, ((![v212] : Fin 1 → IVec S16 32) a x).toNat < S4176.size a)
theorem k0_idx18_inb : ∀ (v212 : IVec S16 32) (k0_hw15 : k0_chk15 v212), ∀ a x, ((![v212] : Fin 1 → IVec S16 32) a x).toNat < S4176.size a := fun v212 k0_hw15 => k0_hw15

def k0_chk16 (v214 : IVec S16 32) : Prop :=
  (∀ a x, ((![v214] : Fin 1 → IVec S16 32) a x).toNat < S6256.size a) ∧
  (∀ a x, ((![v214] : Fin 1 → IVec S16 32) a x).toNat < S6256.size a)
theorem k0_idx19_inb : ∀ (v214 : IVec S16 32) (k0_hw16 : k0_chk16 v214), ∀ a x, ((![v214] : Fin 1 → IVec S16 32) a x).toNat < S6256.size a := fun v214 k0_hw16 => k0_hw16.1
theorem k0_idx20_inb : ∀ (v214 : IVec S16 32) (k0_hw16 : k0_chk16 v214), ∀ a x, ((![v214] : Fin 1 → IVec S16 32) a x).toNat < S6256.size a := fun v214 k0_hw16 => k0_hw16.2

def k0_chk17 (v215 : IVec S16 32) : Prop :=
  (∀ a x, ((![v215] : Fin 1 → IVec S16 32) a x).toNat < S96.size a)
theorem k0_idx21_inb : ∀ (v215 : IVec S16 32) (k0_hw17 : k0_chk17 v215), ∀ a x, ((![v215] : Fin 1 → IVec S16 32) a x).toNat < S96.size a := fun v215 k0_hw17 => k0_hw17

def k0_chk18 (v218 : IVec S16 32) : Prop :=
  (∀ a x, ((![v218] : Fin 1 → IVec S16 32) a x).toNat < S4176.size a)
theorem k0_idx22_inb : ∀ (v218 : IVec S16 32) (k0_hw18 : k0_chk18 v218), ∀ a x, ((![v218] : Fin 1 → IVec S16 32) a x).toNat < S4176.size a := fun v218 k0_hw18 => k0_hw18

def k0_chk19 (v220 : IVec S16 32) : Prop :=
  (∀ a x, ((![v220] : Fin 1 → IVec S16 32) a x).toNat < S6256.size a) ∧
  (∀ a x, ((![v220] : Fin 1 → IVec S16 32) a x).toNat < S6256.size a)
theorem k0_idx23_inb : ∀ (v220 : IVec S16 32) (k0_hw19 : k0_chk19 v220), ∀ a x, ((![v220] : Fin 1 → IVec S16 32) a x).toNat < S6256.size a := fun v220 k0_hw19 => k0_hw19.1
theorem k0_idx24_inb : ∀ (v220 : IVec S16 32) (k0_hw19 : k0_chk19 v220), ∀ a x, ((![v220] : Fin 1 → IVec S16 32) a x).toNat < S6256.size a := fun v220 k0_hw19 => k0_hw19.2

def k0_chk20 (v221 : IVec S16 32) : Prop :=
  (∀ a x, ((![v221] : Fin 1 → IVec S16 32) a x).toNat < S96.size a)
theorem k0_idx25_inb : ∀ (v221 : IVec S16 32) (k0_hw20 : k0_chk20 v221), ∀ a x, ((![v221] : Fin 1 → IVec S16 32) a x).toNat < S96.size a := fun v221 k0_hw20 => k0_hw20

def k0_chk21 (v224 : IVec S16 32) : Prop :=
  (∀ a x, ((![v224] : Fin 1 → IVec S16 32) a x).toNat < S4176.size a)
theorem k0_idx26_inb : ∀ (v224 : IVec S16 32) (k0_hw21 : k0_chk21 v224), ∀ a x, ((![v224] : Fin 1 → IVec S16 32) a x).toNat < S4176.size a := fun v224 k0_hw21 => k0_hw21

def k0_chk22 (v226 : IVec S16 32) : Prop :=
  (∀ a x, ((![v226] : Fin 1 → IVec S16 32) a x).toNat < S6256.size a) ∧
  (∀ a x, ((![v226] : Fin 1 → IVec S16 32) a x).toNat < S6256.size a)
theorem k0_idx27_inb : ∀ (v226 : IVec S16 32) (k0_hw22 : k0_chk22 v226), ∀ a x, ((![v226] : Fin 1 → IVec S16 32) a x).toNat < S6256.size a := fun v226 k0_hw22 => k0_hw22.1
theorem k0_idx28_inb : ∀ (v226 : IVec S16 32) (k0_hw22 : k0_chk22 v226), ∀ a x, ((![v226] : Fin 1 → IVec S16 32) a x).toNat < S6256.size a := fun v226 k0_hw22 => k0_hw22.2

def k0_chk23 (v227 : IVec S16 32) : Prop :=
  (∀ a x, ((![v227] : Fin 1 → IVec S16 32) a x).toNat < S96.size a)
theorem k0_idx29_inb : ∀ (v227 : IVec S16 32) (k0_hw23 : k0_chk23 v227), ∀ a x, ((![v227] : Fin 1 → IVec S16 32) a x).toNat < S96.size a := fun v227 k0_hw23 => k0_hw23

def k0_chk24 (v230 : IVec S16 32) : Prop :=
  (∀ a x, ((![v230] : Fin 1 → IVec S16 32) a x).toNat < S4176.size a)
theorem k0_idx30_inb : ∀ (v230 : IVec S16 32) (k0_hw24 : k0_chk24 v230), ∀ a x, ((![v230] : Fin 1 → IVec S16 32) a x).toNat < S4176.size a := fun v230 k0_hw24 => k0_hw24

def k0_chk25 (v232 : IVec S16 32) : Prop :=
  (∀ a x, ((![v232] : Fin 1 → IVec S16 32) a x).toNat < S6256.size a) ∧
  (∀ a x, ((![v232] : Fin 1 → IVec S16 32) a x).toNat < S6256.size a)
theorem k0_idx31_inb : ∀ (v232 : IVec S16 32) (k0_hw25 : k0_chk25 v232), ∀ a x, ((![v232] : Fin 1 → IVec S16 32) a x).toNat < S6256.size a := fun v232 k0_hw25 => k0_hw25.1
theorem k0_idx32_inb : ∀ (v232 : IVec S16 32) (k0_hw25 : k0_chk25 v232), ∀ a x, ((![v232] : Fin 1 → IVec S16 32) a x).toNat < S6256.size a := fun v232 k0_hw25 => k0_hw25.2

def k0_chk26 (v233 : IVec S16 32) : Prop :=
  (∀ a x, ((![v233] : Fin 1 → IVec S16 32) a x).toNat < S96.size a)
theorem k0_idx33_inb : ∀ (v233 : IVec S16 32) (k0_hw26 : k0_chk26 v233), ∀ a x, ((![v233] : Fin 1 → IVec S16 32) a x).toNat < S96.size a := fun v233 k0_hw26 => k0_hw26

def k0_chk27 (v236 : IVec S16 32) : Prop :=
  (∀ a x, ((![v236] : Fin 1 → IVec S16 32) a x).toNat < S4176.size a)
theorem k0_idx34_inb : ∀ (v236 : IVec S16 32) (k0_hw27 : k0_chk27 v236), ∀ a x, ((![v236] : Fin 1 → IVec S16 32) a x).toNat < S4176.size a := fun v236 k0_hw27 => k0_hw27

def k0_chk28 (v238 : IVec S16 32) : Prop :=
  (∀ a x, ((![v238] : Fin 1 → IVec S16 32) a x).toNat < S6256.size a) ∧
  (∀ a x, ((![v238] : Fin 1 → IVec S16 32) a x).toNat < S6256.size a)
theorem k0_idx35_inb : ∀ (v238 : IVec S16 32) (k0_hw28 : k0_chk28 v238), ∀ a x, ((![v238] : Fin 1 → IVec S16 32) a x).toNat < S6256.size a := fun v238 k0_hw28 => k0_hw28.1
theorem k0_idx36_inb : ∀ (v238 : IVec S16 32) (k0_hw28 : k0_chk28 v238), ∀ a x, ((![v238] : Fin 1 → IVec S16 32) a x).toNat < S6256.size a := fun v238 k0_hw28 => k0_hw28.2

def k0_chk29 (v239 : IVec S16 32) : Prop :=
  (∀ a x, ((![v239] : Fin 1 → IVec S16 32) a x).toNat < S96.size a)
theorem k0_idx37_inb : ∀ (v239 : IVec S16 32) (k0_hw29 : k0_chk29 v239), ∀ a x, ((![v239] : Fin 1 → IVec S16 32) a x).toNat < S96.size a := fun v239 k0_hw29 => k0_hw29

def k0_chk30 (v242 : IVec S16 32) : Prop :=
  (∀ a x, ((![v242] : Fin 1 → IVec S16 32) a x).toNat < S4176.size a)
theorem k0_idx38_inb : ∀ (v242 : IVec S16 32) (k0_hw30 : k0_chk30 v242), ∀ a x, ((![v242] : Fin 1 → IVec S16 32) a x).toNat < S4176.size a := fun v242 k0_hw30 => k0_hw30

def k0_chk31 (v150 : IVec S16 32) : Prop :=
  (∀ a x, ((![v150] : Fin 1 → IVec S16 32) a x).toNat < S6256.size a) ∧
  (∀ a x, ((![v150] : Fin 1 → IVec S16 32) a x).toNat < S6256.size a)
theorem k0_idx39_inb : ∀ (v150 : IVec S16 32) (k0_hw31 : k0_chk31 v150), ∀ a x, ((![v150] : Fin 1 → IVec S16 32) a x).toNat < S6256.size a := fun v150 k0_hw31 => k0_hw31.1
theorem k0_idx40_inb : ∀ (v150 : IVec S16 32) (k0_hw31 : k0_chk31 v150), ∀ a x, ((![v150] : Fin 1 → IVec S16 32) a x).toNat < S6256.size a := fun v150 k0_hw31 => k0_hw31.2

def k0_chk32 (v151 : IVec S16 32) : Prop :=
  (∀ a x, ((![v151] : Fin 1 → IVec S16 32) a x).toNat < S96.size a)
theorem k0_idx41_inb : ∀ (v151 : IVec S16 32) (k0_hw32 : k0_chk32 v151), ∀ a x, ((![v151] : Fin 1 → IVec S16 32) a x).toNat < S96.size a := fun v151 k0_hw32 => k0_hw32

def k0_chk33 (v154 : IVec S16 32) : Prop :=
  (∀ a x, ((![v154] : Fin 1 → IVec S16 32) a x).toNat < S4176.size a)
theorem k0_idx42_inb : ∀ (v154 : IVec S16 32) (k0_hw33 : k0_chk33 v154), ∀ a x, ((![v154] : Fin 1 → IVec S16 32) a x).toNat < S4176.size a := fun v154 k0_hw33 => k0_hw33

def k0_chk34 (v156 : IVec S16 32) : Prop :=
  (∀ a x, ((![v156] : Fin 1 → IVec S16 32) a x).toNat < S6256.size a) ∧
  (∀ a x, ((![v156] : Fin 1 → IVec S16 32) a x).toNat < S6256.size a)
theorem k0_idx43_inb : ∀ (v156 : IVec S16 32) (k0_hw34 : k0_chk34 v156), ∀ a x, ((![v156] : Fin 1 → IVec S16 32) a x).toNat < S6256.size a := fun v156 k0_hw34 => k0_hw34.1
theorem k0_idx44_inb : ∀ (v156 : IVec S16 32) (k0_hw34 : k0_chk34 v156), ∀ a x, ((![v156] : Fin 1 → IVec S16 32) a x).toNat < S6256.size a := fun v156 k0_hw34 => k0_hw34.2

def k0_chk35 (v157 : IVec S16 32) : Prop :=
  (∀ a x, ((![v157] : Fin 1 → IVec S16 32) a x).toNat < S96.size a)
theorem k0_idx45_inb : ∀ (v157 : IVec S16 32) (k0_hw35 : k0_chk35 v157), ∀ a x, ((![v157] : Fin 1 → IVec S16 32) a x).toNat < S96.size a := fun v157 k0_hw35 => k0_hw35

def k0_chk36 (v160 : IVec S16 32) : Prop :=
  (∀ a x, ((![v160] : Fin 1 → IVec S16 32) a x).toNat < S4176.size a)
theorem k0_idx46_inb : ∀ (v160 : IVec S16 32) (k0_hw36 : k0_chk36 v160), ∀ a x, ((![v160] : Fin 1 → IVec S16 32) a x).toNat < S4176.size a := fun v160 k0_hw36 => k0_hw36

def k0_chk37 (v162 : IVec S16 32) : Prop :=
  (∀ a x, ((![v162] : Fin 1 → IVec S16 32) a x).toNat < S6256.size a) ∧
  (∀ a x, ((![v162] : Fin 1 → IVec S16 32) a x).toNat < S6256.size a)
theorem k0_idx47_inb : ∀ (v162 : IVec S16 32) (k0_hw37 : k0_chk37 v162), ∀ a x, ((![v162] : Fin 1 → IVec S16 32) a x).toNat < S6256.size a := fun v162 k0_hw37 => k0_hw37.1
theorem k0_idx48_inb : ∀ (v162 : IVec S16 32) (k0_hw37 : k0_chk37 v162), ∀ a x, ((![v162] : Fin 1 → IVec S16 32) a x).toNat < S6256.size a := fun v162 k0_hw37 => k0_hw37.2

def k0_chk38 (v163 : IVec S16 32) : Prop :=
  (∀ a x, ((![v163] : Fin 1 → IVec S16 32) a x).toNat < S96.size a)
theorem k0_idx49_inb : ∀ (v163 : IVec S16 32) (k0_hw38 : k0_chk38 v163), ∀ a x, ((![v163] : Fin 1 → IVec S16 32) a x).toNat < S96.size a := fun v163 k0_hw38 => k0_hw38

def k0_chk39 (v166 : IVec S16 32) : Prop :=
  (∀ a x, ((![v166] : Fin 1 → IVec S16 32) a x).toNat < S4176.size a)
theorem k0_idx50_inb : ∀ (v166 : IVec S16 32) (k0_hw39 : k0_chk39 v166), ∀ a x, ((![v166] : Fin 1 → IVec S16 32) a x).toNat < S4176.size a := fun v166 k0_hw39 => k0_hw39

def k0_chk40 (v168 : IVec S16 32) : Prop :=
  (∀ a x, ((![v168] : Fin 1 → IVec S16 32) a x).toNat < S6256.size a) ∧
  (∀ a x, ((![v168] : Fin 1 → IVec S16 32) a x).toNat < S6256.size a)
theorem k0_idx51_inb : ∀ (v168 : IVec S16 32) (k0_hw40 : k0_chk40 v168), ∀ a x, ((![v168] : Fin 1 → IVec S16 32) a x).toNat < S6256.size a := fun v168 k0_hw40 => k0_hw40.1
theorem k0_idx52_inb : ∀ (v168 : IVec S16 32) (k0_hw40 : k0_chk40 v168), ∀ a x, ((![v168] : Fin 1 → IVec S16 32) a x).toNat < S6256.size a := fun v168 k0_hw40 => k0_hw40.2

def k0_chk41 (v169 : IVec S16 32) : Prop :=
  (∀ a x, ((![v169] : Fin 1 → IVec S16 32) a x).toNat < S96.size a)
theorem k0_idx53_inb : ∀ (v169 : IVec S16 32) (k0_hw41 : k0_chk41 v169), ∀ a x, ((![v169] : Fin 1 → IVec S16 32) a x).toNat < S96.size a := fun v169 k0_hw41 => k0_hw41

def k0_chk42 (v172 : IVec S16 32) : Prop :=
  (∀ a x, ((![v172] : Fin 1 → IVec S16 32) a x).toNat < S4176.size a)
theorem k0_idx54_inb : ∀ (v172 : IVec S16 32) (k0_hw42 : k0_chk42 v172), ∀ a x, ((![v172] : Fin 1 → IVec S16 32) a x).toNat < S4176.size a := fun v172 k0_hw42 => k0_hw42

def k0_chk43 (v174 : IVec S16 32) : Prop :=
  (∀ a x, ((![v174] : Fin 1 → IVec S16 32) a x).toNat < S6256.size a) ∧
  (∀ a x, ((![v174] : Fin 1 → IVec S16 32) a x).toNat < S6256.size a)
theorem k0_idx55_inb : ∀ (v174 : IVec S16 32) (k0_hw43 : k0_chk43 v174), ∀ a x, ((![v174] : Fin 1 → IVec S16 32) a x).toNat < S6256.size a := fun v174 k0_hw43 => k0_hw43.1
theorem k0_idx56_inb : ∀ (v174 : IVec S16 32) (k0_hw43 : k0_chk43 v174), ∀ a x, ((![v174] : Fin 1 → IVec S16 32) a x).toNat < S6256.size a := fun v174 k0_hw43 => k0_hw43.2

def k0_chk44 (v175 : IVec S16 32) : Prop :=
  (∀ a x, ((![v175] : Fin 1 → IVec S16 32) a x).toNat < S96.size a)
theorem k0_idx57_inb : ∀ (v175 : IVec S16 32) (k0_hw44 : k0_chk44 v175), ∀ a x, ((![v175] : Fin 1 → IVec S16 32) a x).toNat < S96.size a := fun v175 k0_hw44 => k0_hw44

def k0_chk45 (v178 : IVec S16 32) : Prop :=
  (∀ a x, ((![v178] : Fin 1 → IVec S16 32) a x).toNat < S4176.size a)
theorem k0_idx58_inb : ∀ (v178 : IVec S16 32) (k0_hw45 : k0_chk45 v178), ∀ a x, ((![v178] : Fin 1 → IVec S16 32) a x).toNat < S4176.size a := fun v178 k0_hw45 => k0_hw45

def k0_chk46 (v180 : IVec S16 32) : Prop :=
  (∀ a x, ((![v180] : Fin 1 → IVec S16 32) a x).toNat < S6256.size a) ∧
  (∀ a x, ((![v180] : Fin 1 → IVec S16 32) a x).toNat < S6256.size a)
theorem k0_idx59_inb : ∀ (v180 : IVec S16 32) (k0_hw46 : k0_chk46 v180), ∀ a x, ((![v180] : Fin 1 → IVec S16 32) a x).toNat < S6256.size a := fun v180 k0_hw46 => k0_hw46.1
theorem k0_idx60_inb : ∀ (v180 : IVec S16 32) (k0_hw46 : k0_chk46 v180), ∀ a x, ((![v180] : Fin 1 → IVec S16 32) a x).toNat < S6256.size a := fun v180 k0_hw46 => k0_hw46.2

def k0_chk47 (v181 : IVec S16 32) : Prop :=
  (∀ a x, ((![v181] : Fin 1 → IVec S16 32) a x).toNat < S96.size a)
theorem k0_idx61_inb : ∀ (v181 : IVec S16 32) (k0_hw47 : k0_chk47 v181), ∀ a x, ((![v181] : Fin 1 → IVec S16 32) a x).toNat < S96.size a := fun v181 k0_hw47 => k0_hw47

def k0_chk48 (v184 : IVec S16 32) : Prop :=
  (∀ a x, ((![v184] : Fin 1 → IVec S16 32) a x).toNat < S4176.size a)
theorem k0_idx62_inb : ∀ (v184 : IVec S16 32) (k0_hw48 : k0_chk48 v184), ∀ a x, ((![v184] : Fin 1 → IVec S16 32) a x).toNat < S4176.size a := fun v184 k0_hw48 => k0_hw48

def k0_chk49 (v186 : IVec S16 32) : Prop :=
  (∀ a x, ((![v186] : Fin 1 → IVec S16 32) a x).toNat < S6256.size a) ∧
  (∀ a x, ((![v186] : Fin 1 → IVec S16 32) a x).toNat < S6256.size a)
theorem k0_idx63_inb : ∀ (v186 : IVec S16 32) (k0_hw49 : k0_chk49 v186), ∀ a x, ((![v186] : Fin 1 → IVec S16 32) a x).toNat < S6256.size a := fun v186 k0_hw49 => k0_hw49.1
theorem k0_idx64_inb : ∀ (v186 : IVec S16 32) (k0_hw49 : k0_chk49 v186), ∀ a x, ((![v186] : Fin 1 → IVec S16 32) a x).toNat < S6256.size a := fun v186 k0_hw49 => k0_hw49.2

def k0_chk50 (v187 : IVec S16 32) : Prop :=
  (∀ a x, ((![v187] : Fin 1 → IVec S16 32) a x).toNat < S96.size a)
theorem k0_idx65_inb : ∀ (v187 : IVec S16 32) (k0_hw50 : k0_chk50 v187), ∀ a x, ((![v187] : Fin 1 → IVec S16 32) a x).toNat < S96.size a := fun v187 k0_hw50 => k0_hw50

def k0_chk51 (v190 : IVec S16 32) : Prop :=
  (∀ a x, ((![v190] : Fin 1 → IVec S16 32) a x).toNat < S4176.size a)
theorem k0_idx66_inb : ∀ (v190 : IVec S16 32) (k0_hw51 : k0_chk51 v190), ∀ a x, ((![v190] : Fin 1 → IVec S16 32) a x).toNat < S4176.size a := fun v190 k0_hw51 => k0_hw51
@[reducible] def k0_t5_loop : Scf.Loop 32 :=
  let c0_i32_43 : BitVec 32 := 0#32
  let c64_i32_44 : BitVec 32 := 64#32
  let v193 : BitVec 32 := Scalar.addi c0_i32_43 c64_i32_44
  let c1_i32_45 : BitVec 32 := 1#32
  ⟨c0_i32_43, v193, c1_i32_45⟩
def k0_off7 (k0_t5 : Fin k0_t5_loop.trips) : Fin 1 → Nat :=
  let c0_i32_43 : BitVec 32 := 0#32
  let c1_i32_45 : BitVec 32 := 1#32
  let arg18 : BitVec 32 := Scf.iv c0_i32_43 c1_i32_45 k0_t5
  let c16_i32_49 : BitVec 32 := 16#32
  let v197 : BitVec 32 := Scalar.muli arg18 c16_i32_49
  let v198 : Index := Scalar.indexCast v197
  ![v198.toNat]
def k0_off8 (k0_t5 : Fin k0_t5_loop.trips) (c1041_i32_51 : BitVec 32) : Fin 1 → Nat :=
  let c0_i32_43 : BitVec 32 := 0#32
  let c1_i32_45 : BitVec 32 := 1#32
  let arg18 : BitVec 32 := Scf.iv c0_i32_43 c1_i32_45 k0_t5
  let c16_i32_50 : BitVec 32 := 16#32
  let v200 : BitVec 32 := Scalar.muli arg18 c16_i32_50
  let v201 : BitVec 32 := Scalar.addi c1041_i32_51 v200
  let v202 : Index := Scalar.indexCast v201
  ![v202.toNat]
def k0_off9 (k0_t5 : Fin k0_t5_loop.trips) : Fin 1 → Nat :=
  let c0_i32_43 : BitVec 32 := 0#32
  let c1_i32_45 : BitVec 32 := 1#32
  let arg18 : BitVec 32 := Scf.iv c0_i32_43 c1_i32_45 k0_t5
  let c16_i32_54 : BitVec 32 := 16#32
  let v215 : BitVec 32 := Scalar.muli arg18 c16_i32_54
  let v216 : Index := Scalar.indexCast v215
  ![v216.toNat]
def k0_off10 (i : grid0.Coords) : Fin 2 → Nat :=
  let arg1 : BitVec 32 := BitVec.ofNat 32 (i 1).val
  let c0_i32_49_r8 : BitVec 32 := 0#32
  ![arg1.toNat, 0]
def k0_cond3 (i : grid0.Coords) : BitVec 1 :=
  let arg1 : BitVec 32 := BitVec.ofNat 32 (i 1).val
  let c8_i32 : BitVec 32 := 8#32
  let v194 : BitVec 1 := Scalar.cmpi .slt arg1 c8_i32
  let v195 : BitVec 32 := Scalar.extui v194
  let c0_i32_48 : BitVec 32 := 0#32
  let v196 : BitVec 1 := Scalar.cmpi .ne v195 c0_i32_48
  v196

def k0_off11 (i : grid0.Coords) : Fin 2 → Nat :=
  let c0_i32_67_r9 : BitVec 32 := 0#32
  let arg1 : BitVec 32 := BitVec.ofNat 32 (i 1).val
  let c128_i32 : BitVec 32 := 128#32
  let v197 : BitVec 32 := Scalar.muli arg1 c128_i32
  ![0, v197.toNat]
@[reducible] def k0_t6_loop : Scf.Loop 32 :=
  let c0_i32_56 : BitVec 32 := 0#32
  let c16_i32_57 : BitVec 32 := 16#32
  let v206 : BitVec 32 := Scalar.addi c0_i32_56 c16_i32_57
  let c1_i32_58 : BitVec 32 := 1#32
  ⟨c0_i32_56, v206, c1_i32_58⟩
def k0_off12 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v217 : Index := Scalar.indexCast arg18
  let c0_67 : Index := 0#32
  ![v217.toNat, 0]
def k0_off13 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v220 : Index := Scalar.indexCast arg18
  let c16_68 : Index := 16#32
  ![v220.toNat, 16]
def k0_off14 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v223 : Index := Scalar.indexCast arg18
  let c32_69 : Index := 32#32
  ![v223.toNat, 32]
def k0_off15 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v226 : Index := Scalar.indexCast arg18
  let c48_70 : Index := 48#32
  ![v226.toNat, 48]
def k0_off16 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v229 : Index := Scalar.indexCast arg18
  let c64_71 : Index := 64#32
  ![v229.toNat, 64]
def k0_off17 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v232 : Index := Scalar.indexCast arg18
  let c80_72 : Index := 80#32
  ![v232.toNat, 80]
def k0_off18 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v235 : Index := Scalar.indexCast arg18
  let c96_73 : Index := 96#32
  ![v235.toNat, 96]
def k0_off19 (k0_t6 : Fin k0_t6_loop.trips) : Fin 2 → Nat :=
  let c0_i32_56 : BitVec 32 := 0#32
  let c1_i32_58 : BitVec 32 := 1#32
  let arg18 : BitVec 32 := Scf.iv c0_i32_56 c1_i32_58 k0_t6
  let v238 : Index := Scalar.indexCast arg18
  let c112_74 : Index := 112#32
  ![v238.toNat, 112]
def k0_off20 (i : grid0.Coords) : Fin 1 → Nat :=
  let arg1 : BitVec 32 := BitVec.ofNat 32 (i 1).val
  let c128_i32_66 : BitVec 32 := 128#32
  let v216 : BitVec 32 := Scalar.muli arg1 c128_i32_66
  ![v216.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x1 : Shape := ⟨2, ![100000, 1]⟩
abbrev S100000 : Shape := ⟨1, ![100000]⟩
abbrev S86x1 : Shape := ⟨2, ![86, 1]⟩
abbrev S_ : Shape := ⟨0, ![]⟩
abbrev S1 : Shape := ⟨1, ![1]⟩
abbrev S1x1 : Shape := ⟨2, ![1, 1]⟩
abbrev S1024x1 : Shape := ⟨2, ![1024, 1]⟩

abbrev nBuf : Space → Nat
  | .hbm => 54
  | .vmem => 0
  | .smem => 0
  | _ => 0

abbrev bufTy : (tb : Table) → Fin (tcTables nBuf tb) → BufTy
  | .hbm, ⟨0, _⟩ => ⟨S100000x1, .i32⟩
  | .hbm, ⟨1, _⟩ => ⟨S100000, .i32⟩
  | .hbm, ⟨2, _⟩ => ⟨S86x1, .f32⟩
  | .hbm, ⟨3, _⟩ => ⟨S100000, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i1⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S1, .i32⟩
  | .hbm, ⟨36, _⟩ => ⟨S_, .i32⟩
  | .hbm, ⟨37, _⟩ => ⟨S100000x1, .i32⟩
  | .hbm, ⟨38, _⟩ => ⟨S100000x1, .i1⟩
  | .hbm, ⟨39, _⟩ => ⟨S1x1, .i32⟩
  | .hbm, ⟨40, _⟩ => ⟨S100000x1, .i32⟩
  | .hbm, ⟨41, _⟩ => ⟨S100000x1, .i1⟩
  | .hbm, ⟨42, _⟩ => ⟨S100000x1, .i1⟩
  | .hbm, ⟨43, _⟩ => ⟨S_, .i1⟩
  | .hbm, ⟨44, _⟩ => ⟨S100000, .i1⟩
  | .hbm, ⟨45, _⟩ => ⟨S100000x1, .f32⟩
  | .hbm, ⟨46, _⟩ => ⟨S100000x1, .i1⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S1024x1, .f32⟩
  | .hbm, ⟨52, _⟩ => ⟨S100000x1, .i32⟩
  | .hbm, ⟨53, _⟩ => ⟨S1024x1, .f32⟩
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_c_2 : Ref sig .tc := ⟨.hbm, 10, rfl⟩
abbrev main_v4 : Ref sig .tc := ⟨.hbm, 11, rfl⟩
abbrev main_v5 : Ref sig .tc := ⟨.hbm, 12, rfl⟩
abbrev main_c_3 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_c_6 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_cst : Ref sig .tc := ⟨.hbm, 47, rfl⟩
abbrev main_call2_v15 : Ref sig .tc := ⟨.hbm, 48, rfl⟩
abbrev main_v11 : Ref sig .tc := ⟨.hbm, 49, rfl⟩
abbrev main_cst : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩

abbrev nD : Nat := 1
abbrev τ : Topo := Topo.v7x

variable {F : FTy → Type} [FloatOps F]
-- ==== Proof.Base.lean ====
/-
  The program as the launch theorem sees it, the ghost state of the proof, and what every buffer of the
  kernel holds, as functions on natural numbers: these are what the tile's proof carries from line to line.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The stages of the one call

The tiles meet at the same barrier semaphores twice. The first meeting is at stage 0 of the call, the second at stage 1. -/

/-- The one call owns both stages. -/
@[reducible] def blocks : Blocks 1 2 where
  first := fun _ => 0
  last := fun _ => 1
  fst := fun n => if n = 0 then 0 else 2
  blk := fun _ ι => ι = some 0 ∨ ι = some 1
  first_le_last := fun _ => by decide
  fst_val := fun q => by obtain rfl : q = 0 := Subsingleton.elim _ _; rfl
  fst_le := fun n q h => by obtain rfl : q = 0 := Subsingleton.elim _ _; obtain rfl : n = 0 := Nat.le_zero.mp h; exact le_rfl
  last_lt_fst := fun q => by obtain rfl : q = 0 := Subsingleton.elim _ _; decide
  blk_iff := fun q ι => by
    constructor
    · rintro (rfl | rfl)
      · exact ⟨0, le_rfl, by decide, rfl⟩
      · exact ⟨1, by decide, le_rfl, rfl⟩
    · rintro ⟨j, -, -, rfl⟩
      fin_cases j
      · exact .inl rfl
      · exact .inr rfl

attribute [local instance] blocks

/-! ## The resource algebra: the handshakes' rounds library, the barrier cells' (and the deposits'), the transfers' counters -/

abbrev UH : Type := URounds (GSem nD τ sig) ℕ
abbrev UB : Type := URounds (GSem nD τ sig) ℕ
abbrev UU : Type := UH × (UB × Counters)

abbrev MM (F : FTy → Type) : Type := MT nD τ sig (HIx 2) (Elt F) ℕ UU ℕ

local notation "𝕄" => MT nD τ sig (HIx 2) (Elt F) ℕ UU ℕ

abbrev EH : Emb UH (MT nD τ sig (HIx 2) (Elt F) ℕ UU ℕ) := embL
/-- The barrier cells' rounds library: the left half of the right factor. -/
def EB : Emb UB (MT nD τ sig (HIx 2) (Elt F) ℕ UU ℕ) :=
  ((Emb.inl : Emb UB (UB × Counters)).trans (Emb.inr : Emb (UB × Counters) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance

/-! ## The kernel's memrefs -/

abbrev aIdx : Memref sig .scVector .hbm S100000 .i32 := Memref.whole main_v0_scv
abbrev aBat : Memref sig .scVector .hbm S100000 .i32 := Memref.whole main_arg1_scv
abbrev aW : Memref sig .scVector .hbm S86 .f32 := Memref.whole main_v1_scv
abbrev aOut : Memref sig .scVector .hbm S1024 .f32 := Memref.whole main_v2_scv
abbrev bIdx : Memref sig .scVector .vmem S6256 .i32 := Memref.whole cc0_scratch0
abbrev bBat : Memref sig .scVector .vmem S6256 .i32 := Memref.whole cc0_scratch1
abbrev bW : Memref sig .scVector .vmem S96 .f32 := Memref.whole cc0_scratch2
abbrev bWe : Memref sig .scVector .vmem S96 .f32 := Memref.whole cc0_scratch3
abbrev bAcc16 : Memref sig .scVector .vmem S4176 .f32 := Memref.whole cc0_scratch4
abbrev bAcc : Memref sig .scVector .vmem S1024 .f32 := Memref.whole cc0_scratch5
abbrev bMin : Memref sig .scVector .vmem S16 .i32 := Memref.whole cc0_scratch6
abbrev bGmin : Memref sig .scVector .vmem S16x16 .i32 := Memref.whole cc0_scratch7
abbrev bComb : Memref sig .scVector .vmem S16x128 .f32 := Memref.whole cc0_scratch8
abbrev bOut : Memref sig .scVector .vmem S128 .f32 := Memref.whole cc0_scratch9
abbrev shMin : Memref sig .scVector .shared S16x16 .i32 := Memref.whole cc0_scratch10
abbrev shAcc : Memref sig .scVector .shared S16x1024 .f32 := Memref.whole cc0_scratch11

/-- A body of the kernel over its memrefs and its semaphores, at the ones the launch passes. -/
abbrev onArgs {β : Type 1} (f : (arg2 : Memref sig .scVector .hbm S100000 .i32) → arg2.IsWhole → (arg3 : Memref sig .scVector .hbm S100000 .i32) → arg3.IsWhole →
    (arg4 : Memref sig .scVector .hbm S86 .f32) → arg4.IsWhole → (arg5 : Memref sig .scVector .hbm S1024 .f32) → arg5.IsWhole →
    (arg6 : Memref sig .scVector .vmem S6256 .i32) → arg6.IsWhole → (arg7 : Memref sig .scVector .vmem S6256 .i32) → arg7.IsWhole →
    (arg8 : Memref sig .scVector .vmem S96 .f32) → arg8.IsWhole → (arg9 : Memref sig .scVector .vmem S96 .f32) → arg9.IsWhole →
    (arg10 : Memref sig .scVector .vmem S4176 .f32) → arg10.IsWhole → (arg11 : Memref sig .scVector .vmem S1024 .f32) → arg11.IsWhole →
    (arg12 : Memref sig .scVector .vmem S16 .i32) → arg12.IsWhole → (arg13 : Memref sig .scVector .vmem S16x16 .i32) → arg13.IsWhole →
    (arg14 : Memref sig .scVector .vmem S16x128 .f32) → arg14.IsWhole → (arg15 : Memref sig .scVector .vmem S128 .f32) → arg15.IsWhole →
    (arg16 : Memref sig .scVector .shared S16x16 .i32) → arg16.IsWhole → (arg17 : Memref sig .scVector .shared S16x1024 .f32) → arg17.IsWhole →
    DmaSems sig S_ → DmaSems sig S_ → DmaSems sig S_ → DmaSems sig S_ → DmaSems sig S_ → DmaSems sig S_ → DmaSems sig S_ → DmaSems sig S_ →
    DmaSems sig S_ → DmaSems sig S_ → DmaSems sig S_ → β) : β :=
  f aIdx (Memref.isWhole_whole _) aBat (Memref.isWhole_whole _) aW (Memref.isWhole_whole _) aOut (Memref.isWhole_whole _)
    bIdx (Memref.isWhole_whole _) bBat (Memref.isWhole_whole _) bW (Memref.isWhole_whole _) bWe (Memref.isWhole_whole _)
    bAcc16 (Memref.isWhole_whole _) bAcc (Memref.isWhole_whole _) bMin (Memref.isWhole_whole _) bGmin (Memref.isWhole_whole _)
    bComb (Memref.isWhole_whole _) bOut (Memref.isWhole_whole _) shMin (Memref.isWhole_whole _) shAcc (Memref.isWhole_whole _)
    cc0_scoped0 cc0_scoped1 cc0_scoped2 cc0_scoped3 cc0_scoped4 cc0_scoped5 cc0_scoped6 cc0_scoped7 cc0_scoped8 cc0_scoped9 cc0_scoped10

/-! ## The running tile and its buffers -/

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)
/-- The tile at coordinates `L` of device `d`. -/
abbrev tV (d : Dev nD) (L : grid0.Coords) := V (nD := nD) d (cV L) (jV L)

/-- A buffer of the running tile, whole, at contents `f`. -/
abbrev own (d : Dev nD) (L : grid0.Coords) (r : Ref sig .scVector) (f : Buf (Elt F) ((tV d L).loc r)) : sProp 𝕄 :=
  (tV d L).loc r ↦{fullShare} f

/-! ## What the buffers hold -/

section Values

/-- An index of a rank-one array, from its number. -/
abbrev ix1 {n : ℕ} (k : ℕ) (h : k < n) : (⟨1, ![n]⟩ : Shape).Idx := fun a => ⟨k, by fin_cases a; exact h⟩

variable (X B : S100000.Idx → BitVec 32) (W : S86.Idx → F .f32)

/-- Node `n`'s feature index (85 past the last node). -/
def nodeX (n : ℕ) : BitVec 32 := if h : n < 100000 then X (ix1 n h) else 85#32
/-- Node `n`'s graph number (1024, a graph that is not there, past the last node). -/
def nodeB (n : ℕ) : BitVec 32 := if h : n < 100000 then B (ix1 n h) else 1024#32

/-- The minimum of tile `i`'s lane `l` over the first `n` of its chunk's rows of sixteen, from `2^30`. -/
def laneMin (i l : ℕ) : ℕ → BitVec 32
  | 0 => 1073741824#32
  | n + 1 => IntOp.minsi (laneMin i l n) (nodeX X (6256 * i + (16 * n + l)))
/-- The minimum of lane `l` over the first `k` tiles. -/
def tileMin (l : ℕ) : ℕ → BitVec 32
  | 0 => 1073741824#32
  | k + 1 => IntOp.minsi (tileMin l k) (laneMin X k l 391)
/-- The minimum over the lanes `0 … l`. -/
def allMin : ℕ → BitVec 32
  | 0 => tileMin X 0 16
  | l + 1 => IntOp.minsi (allMin l) (tileMin X (l + 1) 16)
/-- By how much every feature index is shifted down: by one if every index is at least one. -/
def shift : BitVec 32 := Scalar.select (Scalar.cmpi .sge (allMin X 15) 1#32) 1#32 0#32
/-- The weight that row `j` of the shifted table holds. -/
def wRow (j : ℕ) : F .f32 := if h : j - (shift X).toNat < 86 then W (ix1 (j - (shift X).toNat) h) else W (ix1 0 (by decide))

variable [FloatOps F]

/-- Lane `l` of step `t` of tile `i` adds its node's weight to the node's graph's sum of the lane's region. -/
def laneAdd (i t : ℕ) (A : ℕ → F .f32) (l : ℕ) : ℕ → F .f32 := fun g =>
  if g = (nodeB B (6256 * i + (391 * l + t))).toNat + 1041 * (l % 4)
    then FloatOps.idxAddf (A g) (wRow X W (nodeX X (6256 * i + (391 * l + t))).toNat) else A g
/-- The four regions' sums of tile `i` after `t` steps. -/
def accAt (i : ℕ) : ℕ → ℕ → F .f32
  | 0 => fun _ => Scalar.ofBits .f32 0x00000000#32
  | t + 1 => (List.range 16).foldl (laneAdd X B W i t) (accAt i t)
/-- Tile `i`'s sum of graph `g`: the four regions' added. -/
def accV (i g : ℕ) : F .f32 :=
  FloatOps.addf (FloatOps.addf (FloatOps.addf (accAt X B W i 391 g) (accAt X B W i 391 (1041 + g))) (accAt X B W i 391 (2082 + g))) (accAt X B W i 391 (3123 + g))
/-- Graph `g`'s sum over the first `k` tiles. -/
def outAt (g : ℕ) : ℕ → F .f32
  | 0 => Scalar.ofBits .f32 0x00000000#32
  | k + 1 => FloatOps.addf (outAt g k) (accV X B W k g)

end Values

end Cert.Proof.Seg
-- ==== Proof.Scatter.lean ====
/-
  One step of the segment sum: sixteen nodes' feature indices and graph numbers gathered from the tile's
  chunk, their weights gathered from the tile's table, and the weights added into the tile's four regions.
  The kernel prints fifteen such steps; each is these two lemmas.
-/
module

public import proofs.«01_k».proof.Proof.Base

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-! ## Index arithmetic -/

/-- Where the lanes of step `t` read their chunk: lane `l` at `391·l + t`. -/
def posV (t : ℕ) : IVec S16 32 := fun x => BitVec.ofNat 32 (391 * (x 0).val + t)
/-- Where the lanes' regions begin. -/
def regV : IVec S16 32 := fun x => BitVec.ofNat 32 (1041 * ((x 0).val % 4))
/-- The lanes' numbers. -/
def laneV : IVec S16 32 := fun x => BitVec.ofNat 32 (x 0).val

theorem lane_lt (x : S16.Idx) : (x 0).val < 16 := (x 0).isLt

theorem posV_toNat {t : ℕ} (ht : t < 391) (x : S16.Idx) : (posV t x).toNat = 391 * (x 0).val + t := by
  have := lane_lt x
  unfold posV; rw [BitVec.toNat_ofNat]; exact Nat.mod_eq_of_lt (by omega)

theorem posV_lt {t : ℕ} (ht : t < 391) : ∀ a x, ((![posV t] : Fin 1 → IVec S16 32) a x).toNat < S6256.size a := fun a x => by
  obtain rfl : a = 0 := Subsingleton.elim _ _
  show (posV t x).toNat < 6256
  rw [posV_toNat ht]; have := lane_lt x; omega

/-- One added to every lane is the next step's positions. -/
theorem posV_succ (t : ℕ) : addi (posV t) (broadcast S16 1#32) = posV (t + 1) := by
  funext x
  show BitVec.ofNat 32 _ + 1#32 = BitVec.ofNat 32 _
  exact (BitVec.ofNat_add _ 1).symm

theorem posV_next {t : ℕ} {p : IVec S16 32} (hp : p = posV t) : addi p (broadcast S16 1#32) = posV (t + 1) := hp ▸ posV_succ t

section

variable (X B : S100000.Idx → BitVec 32)

/-- Every feature index names a row of the table; every graph number a graph. -/
def InRange : Prop := (∀ x, (X x).toNat < 86) ∧ ∀ x, (B x).toNat < 1024

variable {X B}

theorem nodeX_lt (h : InRange X B) (n : ℕ) : (nodeX X n).toNat < 86 := by
  unfold nodeX; split
  · exact h.1 _
  · decide
theorem nodeB_le (h : InRange X B) (n : ℕ) : (nodeB B n).toNat ≤ 1024 := by
  unfold nodeB; split
  · exact (h.2 _).le
  · decide

variable (X B)

/-- The feature indices the lanes read at step `t` of tile `i`. -/
def vX (i t : ℕ) : IVec S16 32 := fun x => nodeX X (6256 * i + (391 * (x 0).val + t))
/-- Their graph numbers. -/
def vB (i t : ℕ) : IVec S16 32 := fun x => nodeB B (6256 * i + (391 * (x 0).val + t))

/-- The tile's chunk of feature indices, and of graph numbers. -/
def chunkX (i : ℕ) : S6256.Idx → BitVec 32 := fun y => nodeX X (6256 * i + (y 0).val)
def chunkB (i : ℕ) : S6256.Idx → BitVec 32 := fun y => nodeB B (6256 * i + (y 0).val)

/-- The elements lane by lane add to. -/
def tgtV (i t : ℕ) : IVec S16 32 := addi (vB B i t) regV

variable {X B}

theorem tgtV_toNat (h : InRange X B) (i t : ℕ) (x : S16.Idx) :
    (tgtV B i t x).toNat = (nodeB B (6256 * i + (391 * (x 0).val + t))).toNat + 1041 * ((x 0).val % 4) := by
  have h1 := nodeB_le h (6256 * i + (391 * (x 0).val + t))
  show (nodeB B _ + BitVec.ofNat 32 _).toNat = _
  rw [BitVec.toNat_add, BitVec.toNat_ofNat]
  omega

theorem tgtV_lt (h : InRange X B) (i t : ℕ) : ∀ a x, ((![tgtV B i t] : Fin 1 → IVec S16 32) a x).toNat < S4176.size a := fun a x => by
  obtain rfl : a = 0 := Subsingleton.elim _ _
  show (tgtV B i t x).toNat < 4176
  have h1 := nodeB_le h (6256 * i + (391 * (x 0).val + t))
  rw [tgtV_toNat h]; omega

theorem vX_lt (h : InRange X B) (i t : ℕ) : ∀ a x, ((![vX X i t] : Fin 1 → IVec S16 32) a x).toNat < S96.size a := fun a x => by
  obtain rfl : a = 0 := Subsingleton.elim _ _
  exact (nodeX_lt h _).trans (by decide)

theorem loadIdx_chunkX (i t : ℕ) (ht : t < 391) (h) :
    loadIdx (F := F) (e := .i32) (chunkX X i : Vec F S6256 .i32) ![posV t] h = vX X i t := by
  funext x
  show nodeX X (6256 * i + (posV t x).toNat) = nodeX X _
  rw [posV_toNat ht]
theorem loadIdx_chunkB (i t : ℕ) (ht : t < 391) (h) :
    loadIdx (F := F) (e := .i32) (chunkB B i : Vec F S6256 .i32) ![posV t] h = vB B i t := by
  funext x
  show nodeB B (6256 * i + (posV t x).toNat) = nodeB B _
  rw [posV_toNat ht]

end

section

variable [FloatOps F] {X B : S100000.Idx → BitVec 32} {W : S86.Idx → F .f32}

variable (X W) in
/-- The shifted table, on the rows a feature index can name. -/
def Table (w9 : S96.Idx → F .f32) : Prop := ∀ y : S96.Idx, (y 0).val < 86 → w9 y = wRow X W (y 0).val

/-- What one lane of the scatter leaves. -/
def putLane (_h : InRange X B) {w9 : S96.Idx → F .f32} (_hw : Table X W w9) (i t : ℕ)
    (h1 : ∀ a x, ((![vX X i t] : Fin 1 → IVec S16 32) a x).toNat < S96.size a) (h2 : ∀ a x, ((![tgtV B i t] : Fin 1 → IVec S16 32) a x).toNat < S4176.size a)
    (g : S4176.Idx → F .f32) (k : Fin 16) : S4176.Idx → F .f32 :=
  let j : S4176.Idx := idxAt (s := S4176) ![tgtV B i t] h2 (Shape.ofLane (d := ![16]) k)
  fun z => if (∀ a, (z a).val = (j a).val) then
    FloatOps.idxAddf (g j) (loadIdx (F := F) (e := .f32) (w9 : Vec F S96 .f32) ![vX X i t] h1 (Shape.ofLane (d := ![16]) k)) else g z

theorem putLane_eq (h : InRange X B) {w9 : S96.Idx → F .f32} (hw : Table X W w9) (i t : ℕ) (h1) (h2) (A : ℕ → F .f32) (k : Fin 16) :
    putLane h hw i t h1 h2 (fun y => A (y 0).val) k = fun y => laneAdd X B W i t A k.val (y 0).val := by
  funext z
  unfold putLane laneAdd
  have hj : (idxAt (s := S4176) ![tgtV B i t] h2 (Shape.ofLane (d := ![16]) k) 0).val = (nodeB B (6256 * i + (391 * k.val + t))).toNat + 1041 * (k.val % 4) :=
    tgtV_toNat h i t (Shape.ofLane (d := ![16]) k)
  have hz : (∀ a, (z a).val = (idxAt (s := S4176) ![tgtV B i t] h2 (Shape.ofLane (d := ![16]) k) a).val)
      ↔ (z 0).val = (nodeB B (6256 * i + (391 * k.val + t))).toNat + 1041 * (k.val % 4) := by
    rw [← hj]
    constructor
    · intro h; exact h 0
    · intro h a; obtain rfl : a = 0 := Subsingleton.elim _ _; exact h
  have hv : loadIdx (F := F) (e := .f32) (w9 : Vec F S96 .f32) ![vX X i t] h1 (Shape.ofLane (d := ![16]) k) = wRow X W (nodeX X (6256 * i + (391 * k.val + t))).toNat :=
    hw _ (nodeX_lt h _)
  by_cases hc : (z 0).val = (nodeB B (6256 * i + (391 * k.val + t))).toNat + 1041 * (k.val % 4)
  · rw [if_pos hc]
    refine (if_pos (hz.mpr hc)).trans ?_
    have hA : (fun y : S4176.Idx => A (y 0).val) (idxAt (s := S4176) ![tgtV B i t] h2 (Shape.ofLane (d := ![16]) k)) = A (z 0).val :=
      congrArg A (hj.trans hc.symm)
    rw [hA, hv, hc]
  · rw [if_neg hc]
    exact if_neg (fun h => hc (hz.mp h))

/-- The scatter of step `t` is the sixteen lanes' additions. -/
theorem storeIdx_acc (h : InRange X B) {w9 : S96.Idx → F .f32} (hw : Table X W w9) (i t : ℕ) (h1) (h2) :
    storeIdx (F := F) (e := .f32) (fun y : S4176.Idx => accAt X B W i t (y 0).val) ![tgtV B i t]
        (loadIdx (F := F) (e := .f32) (w9 : Vec F S96 .f32) ![vX X i t] h1) (fun _ => 1#1) true h2
      = fun y : S4176.Idx => accAt X B W i (t + 1) (y 0).val := by
  unfold storeIdx
  have key : ∀ (L : List (Fin 16)) (A : ℕ → F .f32),
      L.foldl (fun (g : S4176.Idx → F .f32) (k : Fin 16) => putLane h hw i t h1 h2 g k) (fun y => A (y 0).val)
      = fun y => ((L.map Fin.val).foldl (laneAdd X B W i t) A) (y 0).val := by
    intro L
    induction L with
    | nil => intro A; rfl
    | cons k L ih =>
      intro A
      rw [List.map_cons, List.foldl_cons, List.foldl_cons, ← ih, putLane_eq]
  have hfold := key (List.finRange 16) (accAt X B W i t)
  rw [List.map_coe_finRange_eq_range] at hfold
  refine Eq.trans ?_ hfold
  refine congrArg (fun s => List.foldl s _ (List.finRange 16)) ?_
  funext g k
  refine (if_pos rfl).trans ?_
  funext z
  unfold putLane
  by_cases hc : ∀ a, (z a).val = (idxAt (s := S4176) ![tgtV B i t] h2 (Shape.ofLane (d := ![16]) k) a).val
  · exact (if_pos hc).trans (if_pos hc).symm
  · exact (if_neg hc).trans (if_neg hc).symm

end

/-! ## A whole buffer, as an access of it reads, writes and owns it -/

theorem read_idx (f : S6256.Idx → BitVec 32) : (bIdx.access (Rect.whole S6256)).read (Elt F) f = f := Memref.read_access_whole (Elt F) cc0_scratch0 f
theorem read_bat (f : S6256.Idx → BitVec 32) : (bBat.access (Rect.whole S6256)).read (Elt F) f = f := Memref.read_access_whole (Elt F) cc0_scratch1 f
theorem read_we (f : S96.Idx → F .f32) : (bWe.access (Rect.whole S96)).read (Elt F) f = f := Memref.read_access_whole (Elt F) cc0_scratch3 f
theorem read_acc16 (f : S4176.Idx → F .f32) : (bAcc16.access (Rect.whole S4176)).read (Elt F) f = f := Memref.read_access_whole (Elt F) cc0_scratch4 f
theorem write_acc16 (f g : S4176.Idx → F .f32) : (bAcc16.access (Rect.whole S4176)).write (Elt F) f g Finset.univ = g :=
  Memref.write_access_whole_univ (Elt F) cc0_scratch4 f g
theorem pts_access (d : Dev nD) (L : grid0.Coords) (r : Ref sig .scVector) (f : Buf (Elt F) ((tV d L).loc r)) :
    ((((Memref.whole r).access (.whole _)).loc (tV d L) ↦[((Memref.whole r).access (.whole _)).set]{fullShare} f) : sProp 𝕄) = own d L r f := by
  rw [Memref.set_access_whole]

/-! ## The step's two halves -/

section Step

variable [FloatOps F] (d : Dev nD) (L : grid0.Coords) {X B : S100000.Idx → BitVec 32} {W : S86.Idx → F .f32}
  {α : Type}

/-- The program type of the running tile. -/
abbrev TileProg (F : FTy → Type) (L : grid0.Coords) (α : Type) : Type 1 := Prog (TpuEff nD τ sig (Elt F) Λ₀ (.scVector (cV L) (jV L))) α

/-- What a step needs of the chunk: its two buffers. -/
abbrev chunks (X B : S100000.Idx → BitVec 32) : sProp 𝕄 :=
  iprop(own (F := F) d L cc0_scratch0 (chunkX X (jL L).val) ∗ own (F := F) d L cc0_scratch1 (chunkB B (jL L).val))

/-- What the steps hold: the chunk, the table and the four regions' sums after `t` steps. -/
abbrev sums (X B : S100000.Idx → BitVec 32) (W : S86.Idx → F .f32) (w9 : S96.Idx → F .f32) (t : ℕ) : sProp 𝕄 :=
  iprop(chunks (F := F) d L X B ∗ own (F := F) d L cc0_scratch3 w9 ∗ own (F := F) d L cc0_scratch4 (fun y => accAt X B W (jL L).val t (y 0).val))

/-- The weights the lanes read at step `t` of tile `i`. -/
def vW (X : S100000.Idx → BitVec 32) (W : S86.Idx → F .f32) (i t : ℕ) : FVec F S16 .f32 := fun x => wRow X W (vX X i t x).toNat

theorem loadIdx_table (h : InRange X B) {w9 : S96.Idx → F .f32} (hw : Table X W w9) (i t : ℕ) (h1) :
    loadIdx (F := F) (e := .f32) (w9 : Vec F S96 .f32) ![vX X i t] h1 = vW X W i t :=
  funext fun _ => hw _ (nodeX_lt h _)

/-- The first part of a step: the check of the positions, the feature indices gathered, their check, the graph numbers and
    the weights gathered. -/
theorem wp_take (h : InRange X B) {w9 : S96.Idx → F .f32} (hw : Table X W w9) {t : ℕ} (ht : t < 391) {p : IVec S16 32} (hp : p = posV t)
    {C1 : Prop} {dec1 : Decidable C1} {C2 : IVec S16 32 → Prop} {dec2 : ∀ v, Decidable (C2 v)}
    (hC1 : C1 ↔ ∀ a x, ((![p] : Fin 1 → IVec S16 32) a x).toNat < S6256.size a)
    (hC2 : ∀ v, C2 v ↔ ∀ a x, ((![v] : Fin 1 → IVec S16 32) a x).toNat < S96.size a) {hl1 hl2} {Q : α → sProp 𝕄} {k : (v : Vec F S16 .i32) → PLift (C2 v) → Vec F S16 .i32 → TileProg F L α} :
    sums (F := F) d L X B W w9 t
      ⊢ iprop((sums (F := F) d L X B W w9 t -∗ wp frame (wpE (defs₀ (F := F)) 𝒱₀ (tV d L) none) Set.univ
            (k (vX X (jL L).val t) ⟨(hC2 _).mpr (vX_lt h _ t)⟩ (vB B (jL L).val t)) Q)
          -∗ wp frame (wpE (defs₀ (F := F)) 𝒱₀ (tV d L) none) Set.univ
            (Prog.lift (TpuEff.assume C1 dec1) >>= fun r1 =>
              SparseCore.vectorLoadIdx bIdx ![p] (hC1.mp r1.down) hl1 >>= fun v =>
              Prog.lift (TpuEff.assume (C2 v) (dec2 v)) >>= fun r2 =>
              SparseCore.vectorLoadIdx bBat ![p] (hC1.mp r1.down) hl2 >>= fun b => k v r2 b) Q) := by
  subst hp
  iintro ⟨⟨Hx, Hb⟩, Hr⟩ Hk
  simp only [Prog.lift, Prog.bind_op, Prog.bind_ret]
  rw [wp_assume_of _ _ _ _ (hC1.mpr (posV_lt ht))]
  iapply (SparseCore.wp_vectorLoadIdx 𝒱₀ (tV d L) none Set.univ (base := bIdx) (S := Finset.univ) (Finset.subset_univ _)) $$ Hx; iintro Hx
  rw [read_idx, loadIdx_chunkX _ _ ht, wp_assume_of _ _ _ _ ((hC2 _).mpr (vX_lt h _ t))]
  iapply (SparseCore.wp_vectorLoadIdx 𝒱₀ (tV d L) none Set.univ (base := bBat) (S := Finset.univ) (Finset.subset_univ _)) $$ Hb; iintro Hb
  rw [read_bat, loadIdx_chunkB _ _ ht]
  iapply Hk
  isplitl [Hx Hb]
  · isplitl [Hx]; · iexact Hx
    iexact Hb
  iexact Hr

/-- The weights gathered. -/
theorem wp_weigh (h : InRange X B) {w9 : S96.Idx → F .f32} (hw : Table X W w9) {t t' : ℕ}
    {inb : ∀ a x, ((![vX X (jL L).val t] : Fin 1 → IVec S16 32) a x).toNat < S96.size a} {hl1}
    {Q : α → sProp 𝕄} {k : Vec F S16 .f32 → TileProg F L α} :
    sums (F := F) d L X B W w9 t'
      ⊢ iprop((sums (F := F) d L X B W w9 t' -∗ wp frame (wpE (defs₀ (F := F)) 𝒱₀ (tV d L) none) Set.univ (k (vW X W (jL L).val t)) Q)
        -∗ wp frame (wpE (defs₀ (F := F)) 𝒱₀ (tV d L) none) Set.univ (SparseCore.vectorLoadIdx bWe ![vX X (jL L).val t] inb hl1 >>= k) Q) := by
  iintro ⟨Hc, Hw, Ha⟩ Hk
  iapply (SparseCore.wp_vectorLoadIdx 𝒱₀ (tV d L) none Set.univ (base := bWe) (S := Finset.univ) (Finset.subset_univ _)) $$ Hw; iintro Hw
  rw [read_we, loadIdx_table h hw]
  iapply Hk
  isplitl [Hc]; · iexact Hc
  isplitl [Hw]; · iexact Hw
  iexact Ha

/-- The check of the elements added to, and the scatter. -/
theorem wp_add (h : InRange X B) {w9 : S96.Idx → F .f32} (hw : Table X W w9) {t : ℕ} {C3 : Prop} {dec3 : Decidable C3}
    (hC3 : C3 ↔ ∀ a x, ((![tgtV B (jL L).val t] : Fin 1 → IVec S16 32) a x).toNat < S4176.size a) {hl2}
    {Q : α → sProp 𝕄} {k : PUnit → TileProg F L α} :
    sums (F := F) d L X B W w9 t
      ⊢ iprop((sums (F := F) d L X B W w9 (t + 1) -∗ wp frame (wpE (defs₀ (F := F)) 𝒱₀ (tV d L) none) Set.univ (k ⟨⟩) Q)
        -∗ wp frame (wpE (defs₀ (F := F)) 𝒱₀ (tV d L) none) Set.univ
            (Prog.lift (TpuEff.assume C3 dec3) >>= fun r3 =>
              SparseCore.vectorStoreIdx bAcc16 ![tgtV B (jL L).val t] (vW X W (jL L).val t) (fun _ => 1#1) true (hC3.mp r3.down) hl2 >>= k) Q) := by
  iintro ⟨Hc, Hw, Ha⟩ Hk
  simp only [Prog.lift, Prog.bind_op, Prog.bind_ret]
  rw [wp_assume_of _ _ _ _ (hC3.mpr (tgtV_lt h _ t))]
  ihave Ha' := (Entails.of_eq (pts_access d L cc0_scratch4 _).symm) $$ Ha
  iapply (SparseCore.wp_vectorStoreIdx 𝒱₀ (tV d L) none Set.univ (base := bAcc16)) $$ Ha'; iintro Ha'
  ihave Ha := (Entails.of_eq (pts_access d L cc0_scratch4 _)) $$ Ha'
  rw [read_acc16, write_acc16, ← loadIdx_table h hw _ _ (vX_lt h _ t)]
  ihave Ha := (Entails.of_eq (congrArg (own (F := F) d L cc0_scratch4) (storeIdx_acc h hw (jL L).val t (vX_lt h _ t) (tgtV_lt h _ t)))) $$ Ha
  iapply Hk
  isplitl [Hc]; · iexact Hc
  isplitl [Hw]; · iexact Hw
  iexact Ha

/-- One whole step. -/
theorem wp_step (h : InRange X B) {w9 : S96.Idx → F .f32} (hw : Table X W w9) {t : ℕ} (ht : t < 391) {p : IVec S16 32} (hp : p = posV t)
    {C1 : Prop} {dec1 : Decidable C1} {C2 C3 : IVec S16 32 → Prop} {dec2 : ∀ v, Decidable (C2 v)} {dec3 : ∀ v, Decidable (C3 v)}
    (hC1 : C1 ↔ ∀ a x, ((![p] : Fin 1 → IVec S16 32) a x).toNat < S6256.size a)
    (hC2 : ∀ v, C2 v ↔ ∀ a x, ((![v] : Fin 1 → IVec S16 32) a x).toNat < S96.size a)
    (hC3 : ∀ v, C3 v ↔ ∀ a x, ((![v] : Fin 1 → IVec S16 32) a x).toNat < S4176.size a) {hl1 hl2 hl3 hl4}
    {Q : α → sProp 𝕄} {k : PUnit → TileProg F L α} :
    sums (F := F) d L X B W w9 t
      ⊢ iprop((sums (F := F) d L X B W w9 (t + 1) -∗ wp frame (wpE (defs₀ (F := F)) 𝒱₀ (tV d L) none) Set.univ (k ⟨⟩) Q)
        -∗ wp frame (wpE (defs₀ (F := F)) 𝒱₀ (tV d L) none) Set.univ
            (Prog.lift (TpuEff.assume C1 dec1) >>= fun r1 =>
              SparseCore.vectorLoadIdx bIdx ![p] (hC1.mp r1.down) hl1 >>= fun v =>
              Prog.lift (TpuEff.assume (C2 v) (dec2 v)) >>= fun r2 =>
              SparseCore.vectorLoadIdx bBat ![p] (hC1.mp r1.down) hl2 >>= fun b =>
              SparseCore.vectorLoadIdx bWe ![v] ((hC2 v).mp r2.down) hl3 >>= fun w =>
              Prog.lift (TpuEff.assume (C3 (addi b regV)) (dec3 (addi b regV))) >>= fun r3 =>
              SparseCore.vectorStoreIdx bAcc16 ![addi b regV] w (fun _ => 1#1) true ((hC3 _).mp r3.down) hl4 >>= k) Q) := by
  iintro H Hk
  iapply (wp_take d L h hw ht hp hC1 hC2) $$ H; iintro H
  iapply (wp_weigh d L h hw) $$ H; iintro H
  iapply (wp_add d L h hw (hC3 _)) $$ H; iintro H
  iapply Hk; iexact H

/-! ## The steps of the kernel -/

/-- `k0_part3`: five steps and the first part of a sixth. -/
theorem wp_part3 (h : InRange X B) {w9 : S96.Idx → F .f32} (hw : Table X W w9) {t : ℕ} (ht : t + 5 < 391) (c0 c1 : BitVec 32) (n : Fin k0_t4_loop.trips)
    {Q : α → sProp 𝕄} {k : (Σ' (_ : IVec S16 32) (v227 : Vec F S16 .i32) (_ : k0_chk23 v227), Vec F S16 .i32) → TileProg F L α} :
    sums (F := F) d L X B W w9 t
      ⊢ iprop((sums (F := F) d L X B W w9 (t + 5) -∗ wp frame (wpE (defs₀ (F := F)) 𝒱₀ (tV d L) none) Set.univ
            (k ⟨posV (t + 5), vX X (jL L).val (t + 5), vX_lt h _ _, vB B (jL L).val (t + 5)⟩) Q)
        -∗ wp frame (wpE (defs₀ (F := F)) 𝒱₀ (tV d L) none) Set.univ (onArgs (k0_part3 (F := F) L) regV c0 c1 n (posV t) >>= k) Q) := by
  iintro H Hk
  simp only [onArgs, k0_part3_eq_skeleton]
  rw [wp_bind]
  unfold k0_part3_skel
  have h1 : k0_pay2 (posV t) = posV (t + 1) := posV_succ t
  have h2 : k0_pay3 (k0_pay2 (posV t)) = posV (t + 2) := posV_next h1
  have h3 : k0_pay4 (k0_pay3 (k0_pay2 (posV t))) = posV (t + 3) := posV_next h2
  have h4 : k0_pay5 (k0_pay4 (k0_pay3 (k0_pay2 (posV t)))) = posV (t + 4) := posV_next h3
  have h5 : k0_pay6 (k0_pay5 (k0_pay4 (k0_pay3 (k0_pay2 (posV t))))) = posV (t + 5) := posV_next h4
  iapply (wp_step d L h hw (by omega) rfl (C1 := k0_chk7 _) (C2 := k0_chk8) (C3 := k0_chk9) and_self_iff (fun _ => .rfl) (fun _ => .rfl)) $$ H; iintro H
  iapply (wp_step d L h hw (by omega) h1 (C1 := k0_chk10 _) (C2 := k0_chk11) (C3 := k0_chk12) and_self_iff (fun _ => .rfl) (fun _ => .rfl)) $$ H; iintro H
  iapply (wp_step d L h hw (by omega) h2 (C1 := k0_chk13 _) (C2 := k0_chk14) (C3 := k0_chk15) and_self_iff (fun _ => .rfl) (fun _ => .rfl)) $$ H; iintro H
  iapply (wp_step d L h hw (by omega) h3 (C1 := k0_chk16 _) (C2 := k0_chk17) (C3 := k0_chk18) and_self_iff (fun _ => .rfl) (fun _ => .rfl)) $$ H; iintro H
  iapply (wp_step d L h hw (by omega) h4 (C1 := k0_chk19 _) (C2 := k0_chk20) (C3 := k0_chk21) and_self_iff (fun _ => .rfl) (fun _ => .rfl)) $$ H; iintro H
  iapply (wp_take d L h hw ht h5 (C1 := k0_chk22 _) (C2 := k0_chk23) and_self_iff (fun _ => .rfl)) $$ H; iintro H
  rw [wp_pure]
  imodintro
  rw [h5]
  iapply Hk; iexact H

theorem loop4_trips : k0_t4_loop.trips = 48 := by decide

theorem pay57_lane : k0_pay57 laneV = posV 0 := by
  funext x
  have h16 : ∀ l : Fin 16, BitVec.ofNat 32 l.val * 391#32 = BitVec.ofNat 32 (391 * l.val + 0) := by decide
  exact h16 (x 0)

/-- The loop's 48 trips of eight steps each, from the lanes' first positions. -/
theorem wp_loop4 (h : InRange X B) {w9 : S96.Idx → F .f32} (hw : Table X W w9) {v3 v144 v145 : IVec S16 32} (hreg : k0_pay56 v144 v145 = regV)
    {Q : α → sProp 𝕄} {k : IVec S16 32 → TileProg F L α} :
    sums (F := F) d L X B W w9 0
      ⊢ iprop((sums (F := F) d L X B W w9 384 -∗ wp frame (wpE (defs₀ (F := F)) 𝒱₀ (tV d L) none) Set.univ (k (posV 384)) Q)
        -∗ wp frame (wpE (defs₀ (F := F)) 𝒱₀ (tV d L) none) Set.univ
          (Scf.Loop.for k0_t4_loop k0_t4_ok (posV 0) (onArgs (k0_t4_body (F := F) L) v3 v144 v145) >>= k) Q) := by
  iintro H Hk
  iapply (Scf.wp_for_bind frame (wpE (defs₀ (F := F)) 𝒱₀ (tV d L) none) Set.univ k0_t4_loop.lb k0_t4_loop.ub k0_t4_loop.st k0_t4_ok (posV 0) _
    (fun n acc => iprop(⌜acc = posV (8 * n)⌝ ∗ sums (F := F) d L X B W w9 (8 * n))) ?hbody (kk := k) (Q := Q)) $$ [H]
  case hbody =>
    intro n acc
    have hn : n.val < 48 := lt_of_lt_of_eq n.isLt loop4_trips
    iintro ⟨%hacc, H⟩
    subst hacc
    simp only [onArgs]
    unfold k0_t4_body
    rw [hreg]
    have h6 : k0_pay58 (posV (8 * n.val + 5)) = posV (8 * n.val + 6) := posV_succ _
    have h7 : k0_pay59 (k0_pay58 (posV (8 * n.val + 5))) = posV (8 * n.val + 7) := posV_next h6
    have h8 : k0_pay60 (k0_pay59 (k0_pay58 (posV (8 * n.val + 5)))) = posV (8 * n.val + 8) := posV_next h7
    iapply (wp_part3 d L h hw (t := 8 * n.val) (by omega)) $$ H; iintro H
    iapply (wp_weigh d L h hw) $$ H; iintro H
    iapply (wp_add d L h hw (C3 := k0_chk24 _) .rfl) $$ H; iintro H
    iapply (wp_step d L h hw (by omega) h6 (C1 := k0_chk25 _) (C2 := k0_chk26) (C3 := k0_chk27) and_self_iff (fun _ => .rfl) (fun _ => .rfl)) $$ H; iintro H
    iapply (wp_step d L h hw (by omega) h7 (C1 := k0_chk28 _) (C2 := k0_chk29) (C3 := k0_chk30) and_self_iff (fun _ => .rfl) (fun _ => .rfl)) $$ H; iintro H
    rw [wp_pure]
    imodintro
    isplitr; · ipureintro; exact h8
    iexact H
  · isplitr; · ipureintro; rfl
    iexact H
  · iintro %acc ⟨%hacc, H⟩
    subst hacc
    rw [show Scf.trips k0_t4_loop.lb k0_t4_loop.ub k0_t4_loop.st = 48 from loop4_trips]
    iapply Hk; iexact H

/-- `k0_part9`: the loop, four of the seven steps after it and the gathers of the fifth. -/
theorem wp_part9 (h : InRange X B) {w9 : S96.Idx → F .f32} (hw : Table X W w9) {v144 v145 : IVec S16 32} (hreg : k0_pay56 v144 v145 = regV)
    {Q : α → sProp 𝕄} {k : (Σ' (_ : IVec S16 32) (_ : IVec S16 32) (_ : Vec F S16 .f32), IVec S16 32) → TileProg F L α} :
    sums (F := F) d L X B W w9 0
      ⊢ iprop((sums (F := F) d L X B W w9 388 -∗ wp frame (wpE (defs₀ (F := F)) 𝒱₀ (tV d L) none) Set.univ
            (k ⟨regV, posV 388, vW X W (jL L).val 388, tgtV B (jL L).val 388⟩) Q)
        -∗ wp frame (wpE (defs₀ (F := F)) 𝒱₀ (tV d L) none) Set.univ (onArgs (k0_part9 (F := F) L) laneV v144 v145 >>= k) Q) := by
  iintro H Hk
  simp only [onArgs, k0_part9_eq_skeleton]
  rw [wp_bind]
  unfold k0_part9_skel
  have hpay : ∀ b : IVec S16 32, k0_pay65 (F := F) v144 v145 b = addi b regV := fun b => by rw [← hreg]; rfl
  rw [pay57_lane]
  iapply (wp_loop4 d L h hw hreg) $$ H; iintro H
  have h1 : k0_pay61 (posV 384) = posV 385 := posV_succ _
  have h2 : k0_pay62 (k0_pay61 (posV 384)) = posV 386 := posV_next h1
  have h3 : k0_pay63 (k0_pay62 (k0_pay61 (posV 384))) = posV 387 := posV_next h2
  have h4 : k0_pay64 (k0_pay63 (k0_pay62 (k0_pay61 (posV 384)))) = posV 388 := posV_next h3
  rw [hreg]
  iapply (wp_step d L h hw (by omega) rfl (C1 := k0_chk31 _) (C2 := k0_chk32) (C3 := k0_chk33) and_self_iff (fun _ => .rfl) (fun _ => .rfl)) $$ H; iintro H
  iapply (wp_step d L h hw (by omega) h1 (C1 := k0_chk34 _) (C2 := k0_chk35) (C3 := k0_chk36) and_self_iff (fun _ => .rfl) (fun _ => .rfl)) $$ H; iintro H
  iapply (wp_step d L h hw (by omega) h2 (C1 := k0_chk37 _) (C2 := k0_chk38) (C3 := k0_chk39) and_self_iff (fun _ => .rfl) (fun _ => .rfl)) $$ H; iintro H
  iapply (wp_step d L h hw (by omega) h3 (C1 := k0_chk40 _) (C2 := k0_chk41) (C3 := k0_chk42) and_self_iff (fun _ => .rfl) (fun _ => .rfl)) $$ H; iintro H
  iapply (wp_take d L h hw (by omega) h4 (C1 := k0_chk43 _) (C2 := k0_chk44) and_self_iff (fun _ => .rfl)) $$ H; iintro H
  iapply (wp_weigh d L h hw) $$ H; iintro H
  rw [wp_pure]
  imodintro
  rw [h4, hpay]
  iapply Hk; iexact H

/-- The steps left of `k0_part10`: the scatter of the fifth, the sixth and the seventh. -/
theorem wp_tail (h : InRange X B) {w9 : S96.Idx → F .f32} (hw : Table X W w9) {hl1 hl2 hl3 hl4 hl5 hl6 hl7 hl8 hl9}
    {Q : α → sProp 𝕄} {k : PUnit → TileProg F L α} :
    sums (F := F) d L X B W w9 388
      ⊢ iprop((sums (F := F) d L X B W w9 391 -∗ wp frame (wpE (defs₀ (F := F)) 𝒱₀ (tV d L) none) Set.univ (k ⟨⟩) Q)
        -∗ wp frame (wpE (defs₀ (F := F)) 𝒱₀ (tV d L) none) Set.univ
          (Prog.lift (TpuEff.assume (k0_chk45 (tgtV B (jL L).val 388)) (k0_chk45.dec _)) >>= fun r0 =>
            SparseCore.vectorStoreIdx bAcc16 ![tgtV B (jL L).val 388] (vW X W (jL L).val 388) (fun _ => 1#1) true (k0_idx58_inb _ r0.down) hl1 >>= fun _ =>
            Prog.lift (TpuEff.assume (k0_chk46 (k0_pay66 (posV 388))) (k0_chk46.dec _)) >>= fun r1 =>
            SparseCore.vectorLoadIdx bIdx ![k0_pay66 (posV 388)] (k0_idx59_inb _ r1.down) hl2 >>= fun v =>
            Prog.lift (TpuEff.assume (k0_chk47 v) (k0_chk47.dec v)) >>= fun r2 =>
            SparseCore.vectorLoadIdx bBat ![k0_pay66 (posV 388)] (k0_idx60_inb _ r1.down) hl3 >>= fun b =>
            SparseCore.vectorLoadIdx bWe ![v] (k0_idx61_inb _ r2.down) hl4 >>= fun w =>
            Prog.lift (TpuEff.assume (k0_chk48 (addi b regV)) (k0_chk48.dec _)) >>= fun r3 =>
            SparseCore.vectorStoreIdx bAcc16 ![addi b regV] w (fun _ => 1#1) true (k0_idx62_inb _ r3.down) hl5 >>= fun _ =>
            Prog.lift (TpuEff.assume (k0_chk49 (k0_pay67 (k0_pay66 (posV 388)))) (k0_chk49.dec _)) >>= fun r1 =>
            SparseCore.vectorLoadIdx bIdx ![k0_pay67 (k0_pay66 (posV 388))] (k0_idx63_inb _ r1.down) hl6 >>= fun v =>
            Prog.lift (TpuEff.assume (k0_chk50 v) (k0_chk50.dec v)) >>= fun r2 =>
            SparseCore.vectorLoadIdx bBat ![k0_pay67 (k0_pay66 (posV 388))] (k0_idx64_inb _ r1.down) hl7 >>= fun b =>
            SparseCore.vectorLoadIdx bWe ![v] (k0_idx65_inb _ r2.down) hl8 >>= fun w =>
            Prog.lift (TpuEff.assume (k0_chk51 (addi b regV)) (k0_chk51.dec _)) >>= fun r3 =>
            SparseCore.vectorStoreIdx bAcc16 ![addi b regV] w (fun _ => 1#1) true (k0_idx66_inb _ r3.down) hl9 >>= k) Q) := by
  iintro H Hk
  have h1 : k0_pay66 (posV 388) = posV 389 := posV_succ _
  have h2 : k0_pay67 (k0_pay66 (posV 388)) = posV 390 := posV_next h1
  iapply (wp_add d L h hw (C3 := k0_chk45 _) .rfl) $$ H; iintro H
  iapply (wp_step d L h hw (by omega) h1 (C1 := k0_chk46 _) (C2 := k0_chk47) (C3 := k0_chk48) and_self_iff (fun _ => .rfl) (fun _ => .rfl)) $$ H; iintro H
  iapply (wp_step d L h hw (by omega) h2 (C1 := k0_chk49 _) (C2 := k0_chk50) (C3 := k0_chk51) and_self_iff (fun _ => .rfl) (fun _ => .rfl)) $$ H; iintro H
  iapply Hk; iexact H

end Step

end Cert.Proof.Seg
-- ==== Proof.Ops.lean ====
/-
  The tile's memory operations over what a buffer is known to hold: a load of a known window, a store and a
  copy that extend the known prefix, and the two halves of a copy.
-/
module

public import proofs.«01_k».proof.Proof.Base
public import proofs.«01_k».proof.Proof.Scatter

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

attribute [local instance] blocks

section Ops

variable [FloatOps F] (d : Dev nD) (L : grid0.Coords) {α : Type} {e : EltTy}

/-! ## A buffer known up to an element -/

/-- The rank-one buffer of `m`, whole, whose first `n` elements are `g`'s. -/
def upto {cs : Space} {N : ℕ} (m : Memref sig .scVector cs ⟨1, ![N]⟩ e) (g : ℕ → Elt F e) (n : ℕ) : sProp 𝕄 :=
  iprop(∃ f : Buf (Elt F) (m.view.loc (tV d L)), ⌜∀ x, (x 0).val < n → m.view.read (Elt F) f x = g (x 0).val⌝
    ∗ m.view.loc (tV d L) ↦{fullShare} f)

theorem upto_mono {cs : Space} {N : ℕ} {m : Memref sig .scVector cs ⟨1, ![N]⟩ e} {g : ℕ → Elt F e} {n n' : ℕ} (h : n' ≤ n) :
    upto d L m g n ⊢ upto d L m g n' := by
  unfold upto
  iintro ⟨%f, %hf, H⟩
  iexists f
  isplitr; · ipureintro; exact fun x hx => hf x (lt_of_lt_of_le hx h)
  iexact H

/-- The whole buffer of `r` at contents that are a function of the element's number, as a buffer known to the end. -/
theorem upto_intro {cs : Space} {N : ℕ} (m : Memref sig .scVector cs ⟨1, ![N]⟩ e) {g : ℕ → Elt F e} {n : ℕ} {f : Buf (Elt F) (m.view.loc (tV d L))}
    (h : ∀ x, (x 0).val < n → m.view.read (Elt F) f x = g (x 0).val) :
    (m.view.loc (tV d L) ↦{fullShare} f) ⊢ upto d L m g n := by
  unfold upto
  iintro H
  iexists f
  isplitr; · ipureintro; exact h
  iexact H

/-- A load of known elements. -/
theorem wp_get {N : ℕ} {m : Memref sig .scVector .vmem ⟨1, ![N]⟩ e} {off size : Fin 1 → ℕ} {inb} {hl} {g : ℕ → Elt F e} {n : ℕ}
    (o : ℕ) (ho : off 0 = o) (hn : o + size 0 ≤ n) {Q : α → sProp 𝕄} {k : ((⟨1, size⟩ : Shape).Idx → Elt F e) → TileProg F L α} :
    upto d L m g n
      ⊢ iprop((upto d L m g n -∗ wp frame (wpE (defs₀ (F := F)) 𝒱₀ (tV d L) none) Set.univ (k fun x => g (o + (x 0).val)) Q)
        -∗ wp frame (wpE (defs₀ (F := F)) 𝒱₀ (tV d L) none) Set.univ
          (Prog.lift (.load m (Rect.unit (s := ⟨1, ![N]⟩) off size inb).toLoadRect hl) >>= k) Q) := by
  subst ho
  unfold upto
  iintro ⟨%f, %hf, H⟩ Hk
  simp only [Prog.lift, Prog.bind_op, Prog.bind_ret]
  iapply (wp_load_rect 𝒱₀ (tV d L) none Set.univ (m := m) (r := Rect.unit (s := ⟨1, ![N]⟩) off size inb) (S := Finset.univ) (Finset.subset_univ _)) $$ H; iintro H
  have hv : ((m.access (Rect.unit (s := ⟨1, ![N]⟩) off size inb)).read (Elt F) f) = fun x => g (off 0 + (x 0).val) := funext fun x => by
    have hx : ((Rect.unit (s := ⟨1, ![N]⟩) off size inb).emb x 0).val = off 0 + (x 0).val := by
      show off 0 + 1 * (x 0).val = _
      rw [Nat.one_mul]
    refine (hf ((Rect.unit (s := ⟨1, ![N]⟩) off size inb).emb x) ?_).trans (congrArg g hx)
    rw [hx]
    exact lt_of_lt_of_le (Nat.add_lt_add_left (x 0).isLt _) hn
  rw [hv]
  iapply Hk
  iexists f
  isplitr; · ipureintro; exact hf
  iexact H

/-- A load of elements not known. -/
theorem wp_peek {N : ℕ} {m : Memref sig .scVector .vmem ⟨1, ![N]⟩ e} {r : Rect ⟨1, ![N]⟩} {hl} {g : ℕ → Elt F e} {n : ℕ}
    {Q : α → sProp 𝕄} {k : (r.shape.Idx → Elt F e) → TileProg F L α} :
    upto d L m g n
      ⊢ iprop((∀ v, upto d L m g n -∗ wp frame (wpE (defs₀ (F := F)) 𝒱₀ (tV d L) none) Set.univ (k v) Q)
        -∗ wp frame (wpE (defs₀ (F := F)) 𝒱₀ (tV d L) none) Set.univ (Prog.lift (.load m r.toLoadRect hl) >>= k) Q) := by
  unfold upto
  iintro ⟨%f, %hf, H⟩ Hk
  simp only [Prog.lift, Prog.bind_op, Prog.bind_ret]
  iapply (wp_load_rect 𝒱₀ (tV d L) none Set.univ (m := m) (r := r) (S := Finset.univ) (Finset.subset_univ _)) $$ H; iintro H
  iapply Hk
  iexists f
  isplitr; · ipureintro; exact hf
  iexact H

/-- What a write through a window at the end of the known prefix leaves known. -/
theorem write_extends {cs : Space} {N : ℕ} (m : Memref sig .scVector cs ⟨1, ![N]⟩ e) {off size : Fin 1 → ℕ} {inb}
    {g : ℕ → Elt F e} {n : ℕ} (ho : off 0 ≤ n) (f : Buf (Elt F) (m.view.loc (tV d L)))
    {w : (⟨1, size⟩ : Shape).Idx → Elt F e} (hw : ∀ x, w x = g (off 0 + (x 0).val))
    (hf : ∀ x, (x 0).val < n → m.view.read (Elt F) f x = g (x 0).val) :
    ∀ x, (x 0).val < off 0 + size 0 →
      m.view.read (Elt F) ((m.access (Rect.unit (s := ⟨1, ![N]⟩) off size inb)).write (Elt F) f w Finset.univ) x = g (x 0).val := by
  intro x hx
  by_cases hm : x ∈ Finset.univ.map (Rect.unit (s := ⟨1, ![N]⟩) off size inb).emb
  · obtain ⟨y, -, rfl⟩ := Finset.mem_map.mp hm
    have hy : ((Rect.unit (s := ⟨1, ![N]⟩) off size inb).emb y 0).val = off 0 + (y 0).val := by
      show off 0 + 1 * (y 0).val = _
      rw [Nat.one_mul]
    exact (View.read_slice_write_emb (v := m.view) _ f w (Finset.mem_univ y)).trans ((hw y).trans (congrArg g hy.symm))
  · refine (View.read_slice_write_of_not_mem (v := m.view) _ f w Finset.univ hm).trans (hf x ?_)
    by_contra hlt
    refine hm (Finset.mem_map.mpr ⟨fun a => ⟨(x 0).val - off 0, by obtain rfl : a = 0 := Subsingleton.elim _ _; show _ < size 0; omega⟩,
      Finset.mem_univ _, funext fun a => ?_⟩)
    obtain rfl : a = 0 := Subsingleton.elim _ _
    refine Fin.ext ?_
    show off 0 + 1 * ((x 0).val - off 0) = _
    omega

/-- A store that extends the known prefix. -/
theorem wp_put {N : ℕ} {m : Memref sig .scVector .vmem ⟨1, ![N]⟩ e} {off size : Fin 1 → ℕ} {inb} {hx} {hm} {g : ℕ → Elt F e} {n : ℕ}
    (n' : ℕ) (ho : off 0 = n) (hn : n' = n + size 0) {w : (⟨1, size⟩ : Shape).Idx → Elt F e} (hw : ∀ x, w x = g (n + (x 0).val))
    {Q : α → sProp 𝕄} {k : PUnit → TileProg F L α} :
    upto d L m g n
      ⊢ iprop((upto d L m g n' -∗ wp frame (wpE (defs₀ (F := F)) 𝒱₀ (tV d L) none) Set.univ (k ⟨⟩) Q)
        -∗ wp frame (wpE (defs₀ (F := F)) 𝒱₀ (tV d L) none) Set.univ
          (Prog.lift (.store m (Rect.unit (s := ⟨1, ![N]⟩) off size inb) w Finset.univ hx hm) >>= k) Q) := by
  subst ho hn
  unfold upto
  iintro ⟨%f, %hf, H⟩ Hk
  simp only [Prog.lift, Prog.bind_op, Prog.bind_ret]
  iapply (wp_store 𝒱₀ (tV d L) none Set.univ (m := m) (r := Rect.unit (s := ⟨1, ![N]⟩) off size inb) (Mk := Finset.univ) (hx := hx) (hm := hm)
    (S := Finset.univ) (Finset.subset_univ _)) $$ H; iintro H
  iapply Hk
  iexists _
  isplitr; swap; · iexact H
  ipureintro
  exact write_extends d L m le_rfl f hw hf

/-! ## The tile's account, and the copies -/

/-- The levels, and the tile owing `O`, its own waits none of the handshakes'. -/
def ctl (O : CellTallies nD τ sig (HIx 2)) (W₀ : Waits sig (HIx 2)) : sProp 𝕄 :=
  iprop(levAts (K (F := F)).L (K (F := F)).lev ∗ ⌜∀ g, O g none = 0⌝
    ∗ ∃ W, ⌜∀ p ∈ W, p ∈ W₀ ∨ p.2 = none ∨ Blocks.blk (0 : Fin 1) p.2⌝ ∗ owes (tV d L) O W)

/-- A semaphore of the tile's own copies, at zero. -/
abbrev sem0 (s : DmaSem sig) : sProp 𝕄 := semVal (tV d L, .dma s) 0

/-- A copy under way on the semaphore `s` that delivers `P`. -/
abbrev underway (s : DmaSem sig) (N : ℕ) (P : sProp 𝕄) : sProp 𝕄 := Transfers.Flight (countersEmb (U := UU)) (tV d L) (.dma s) none N P

variable {O : CellTallies nD τ sig (HIx 2)} {W₀ : Waits sig (HIx 2)}

/-- A copy is started. -/
theorem wp_start {sp sp' : Space} {s : Shape} {src : Memref sig .scVector sp s e} {dst : Memref sig .scVector sp' s e} {sm : DmaSem sig}
    {h1 h2 h3} {q : PosShare TreeShare} {fs : Buf (Elt F) (src.view.loc (tV d L))} {Sd : Finset (Idx (dst.view.loc (tV d L)))}
    {fd : Buf (Elt F) (dst.view.loc (tV d L))} (N : ℕ) (hN : dst.view.amount (.dma sm) = N) (hN0 : 0 < N) (hSd : dst.view.set ⊆ Sd)
    {Q : α → sProp 𝕄} {k : PUnit → TileProg F L α} :
    iprop((src.view.loc (tV d L) ↦[src.view.set]{q} fs) ∗ (dst.view.loc (tV d L) ↦[Sd]{fullShare} fd) ∗ sem0 d L sm)
      ⊢ iprop((underway d L sm N iprop((dst.view.loc (tV d L) ↦[Sd]{fullShare} dst.view.write (Elt F) fd (src.view.read (Elt F) fs) Finset.univ)
            ∗ src.view.loc (tV d L) ↦[src.view.set]{q} fs)
          -∗ wp frame (wpE (defs₀ (F := F)) 𝒱₀ (tV d L) none) Set.univ (k ⟨⟩) Q)
        -∗ wp frame (wpE (defs₀ (F := F)) 𝒱₀ (tV d L) none) Set.univ (Prog.lift (.enqueueDma src (.here dst) (.dma sm) h1 h2 h3) >>= k) Q) := by
  simp only [Prog.lift, Prog.bind_op, Prog.bind_ret]
  exact Transfers.wp_dmaLocal (countersEmb (U := UU)) 𝒱₀ (tV d L) none (via := .same) none N hN hN0 hSd

/-- A copy is waited for. -/
theorem wp_done {sp sp' : Space} {s : Shape} {e' : EltTy} {s' : Shape} {src : Memref sig .scVector sp s' e'} {dst : Memref sig .scVector sp' s e} {sm : DmaSem sig}
    {h1 h2} {N : ℕ} (hN : dst.view.dmaCredit = N) {P : sProp 𝕄} {Q : α → sProp 𝕄} {k : PUnit → TileProg F L α} :
    iprop(ctl d L O W₀ ∗ underway d L sm N P)
      ⊢ iprop((iprop(ctl d L O W₀ ∗ sem0 d L sm ∗ P) -∗ wp frame (wpE (defs₀ (F := F)) 𝒱₀ (tV d L) none) Set.univ (k ⟨⟩) Q)
        -∗ wp frame (wpE (defs₀ (F := F)) 𝒱₀ (tV d L) none) Set.univ (Prog.lift (.waitDma2 sm src dst h1 h2) >>= k) Q) := by
  simp only [Prog.lift, Prog.bind_op, Prog.bind_ret]
  unfold ctl
  iintro ⟨⟨#Hlv, %hO, %W, %hW, HO⟩, HF⟩ Hk
  iapply (Transfers.wp_waitLocalO (countersEmb (U := UU)) 𝒱₀ (tV d L) none none hN) $$ [HO HF]
  · isplitl [HF]; · iexact HF
    isplitl [HO]; · iexact HO
    iapply (Transfers.MayWaits.elim (c := tV d L) (ι := none) (O := O) (.dma sm))
    iapply ((K (F := F)).mayWaits_none (thr := tV d L) hO); iexact Hlv
  iintro ⟨HP, Hv, HO⟩
  iapply Hk
  isplitr [Hv HP]
  · isplitr; · iexact Hlv
    isplitr; · ipureintro; exact hO
    iexists _; isplitr; swap; · iexact HO
    ipureintro
    intro p hp
    rcases Finset.mem_insert.mp hp with hp | hp; · exact .inr (.inl (hp ▸ rfl))
    exact hW p hp
  isplitl [Hv]; · iexact Hv
  iexact HP

/-- A copy whole: started, then waited for; the source held at any elements that include the copied ones. -/
theorem wp_copy {sp sp' : Space} {s : Shape} {src : Memref sig .scVector sp s e} {dst : Memref sig .scVector sp' s e} {sm : DmaSem sig}
    {h1 h2 h3 h4 h5} {q : PosShare TreeShare} {Ss : Finset (Idx (src.view.loc (tV d L)))} {fs : Buf (Elt F) (src.view.loc (tV d L))}
    {Sd : Finset (Idx (dst.view.loc (tV d L)))}
    {fd : Buf (Elt F) (dst.view.loc (tV d L))} (hN0 : 0 < dst.view.dmaCredit) (hSs : src.view.set ⊆ Ss) (hSd : dst.view.set ⊆ Sd)
    {Q : α → sProp 𝕄} {k : PUnit → TileProg F L α} :
    iprop(ctl d L O W₀ ∗ (src.view.loc (tV d L) ↦[Ss]{q} fs) ∗ (dst.view.loc (tV d L) ↦[Sd]{fullShare} fd) ∗ sem0 d L sm)
      ⊢ iprop((iprop(ctl d L O W₀ ∗ (src.view.loc (tV d L) ↦[Ss]{q} fs)
            ∗ (dst.view.loc (tV d L) ↦[Sd]{fullShare} dst.view.write (Elt F) fd (src.view.read (Elt F) fs) Finset.univ) ∗ sem0 d L sm)
          -∗ wp frame (wpE (defs₀ (F := F)) 𝒱₀ (tV d L) none) Set.univ (k ⟨⟩) Q)
        -∗ wp frame (wpE (defs₀ (F := F)) 𝒱₀ (tV d L) none) Set.univ
          (Prog.lift (.enqueueDma src (.here dst) (.dma sm) h1 h2 h3) >>= fun _ => Prog.lift (.waitDma2 sm src dst h4 h5) >>= k) Q) := by
  iintro ⟨Hc, Hs, Hd, Hv⟩ Hk
  ihave Hs := (pointsTo_split_subset hSs).1 $$ Hs
  icases Hs with ⟨Hs, Hrest⟩
  iapply (wp_start d L (dst := dst) dst.view.dmaCredit rfl hN0 hSd) $$ [Hs Hd Hv]
  · isplitl [Hs]; · iexact Hs
    isplitl [Hd]; · iexact Hd
    iexact Hv
  iintro HF
  iapply (wp_done d L (O := O) (W₀ := W₀) (dst := dst) rfl) $$ [Hc HF]
  · isplitl [Hc]; · iexact Hc
    iexact HF
  iintro ⟨Hc, Hv, Hd, Hs⟩
  iapply Hk
  isplitl [Hc]; · iexact Hc
  isplitl [Hs Hrest]
  · iapply (pointsTo_split_subset hSs).2
    isplitl [Hs]; · iexact Hs
    iexact Hrest
  isplitl [Hd]; · iexact Hd
  iexact Hv

/-- A copy into the head of a buffer: its elements are known then. -/
theorem wp_fetch {sp : Space} {N : ℕ} {off size : Fin 1 → ℕ} {inb} {hr} {src : Memref sig .scVector sp ⟨1, size⟩ e} {m : Memref sig .scVector .vmem ⟨1, ![N]⟩ e}
    {sm : DmaSem sig} {h1 h2 h3 h4 h5} {q : PosShare TreeShare} {Ss : Finset (Idx (src.view.loc (tV d L)))} {fs : Buf (Elt F) (src.view.loc (tV d L))}
    {g : ℕ → Elt F e} {n : ℕ} (n' : ℕ) (hn' : n' = size 0) (ho : off 0 = 0) (hpos : 0 < (m.slice (Rect.unit (s := ⟨1, ![N]⟩) off size inb) hr).view.dmaCredit) (hSs : src.view.set ⊆ Ss)
    (hg : ∀ x, src.view.read (Elt F) fs x = g (x 0).val) {Q : α → sProp 𝕄} {k : PUnit → TileProg F L α} :
    iprop(ctl d L O W₀ ∗ (src.view.loc (tV d L) ↦[Ss]{q} fs) ∗ upto d L m g n ∗ sem0 d L sm)
      ⊢ iprop((iprop(ctl d L O W₀ ∗ (src.view.loc (tV d L) ↦[Ss]{q} fs) ∗ upto d L m g n' ∗ sem0 d L sm)
          -∗ wp frame (wpE (defs₀ (F := F)) 𝒱₀ (tV d L) none) Set.univ (k ⟨⟩) Q)
        -∗ wp frame (wpE (defs₀ (F := F)) 𝒱₀ (tV d L) none) Set.univ
          (Prog.lift (.enqueueDma src (.here (m.slice (Rect.unit (s := ⟨1, ![N]⟩) off size inb) hr)) (.dma sm) h1 h2 h3) >>= fun _ =>
            Prog.lift (.waitDma2 sm src (m.slice (Rect.unit (s := ⟨1, ![N]⟩) off size inb) hr) h4 h5) >>= k) Q) := by
  subst hn'
  iintro ⟨Hc, Hs, Hd, Hv⟩ Hk
  ihave Hd := (show upto d L m g n ⊢ iprop(∃ f : Buf (Elt F) (m.view.loc (tV d L)), m.view.loc (tV d L) ↦{fullShare} f) from by
    unfold upto; iintro ⟨%f, -, H⟩; iexists f; iexact H) $$ Hd
  icases Hd with ⟨%f, Hd⟩
  iapply (wp_copy d L (src := src) (dst := m.slice (Rect.unit (s := ⟨1, ![N]⟩) off size inb) hr) (Sd := Finset.univ) (fd := f) hpos hSs (Finset.subset_univ _)) $$ [Hc Hs Hd Hv]
  · isplitl [Hc]; · iexact Hc
    isplitl [Hs]; · iexact Hs
    isplitl [Hd]; · iexact Hd
    iexact Hv
  iintro ⟨Hc, Hs, Hd, Hv⟩
  iapply Hk
  isplitl [Hc]; · iexact Hc
  isplitl [Hs]; · iexact Hs
  isplitl [Hd]
  · iapply (upto_intro d L m (g := g) (n := size 0) (f := (m.access (Rect.unit (s := ⟨1, ![N]⟩) off size inb)).write (Elt F) f (src.view.read (Elt F) fs) Finset.univ)
      (fun x hx => write_extends d L m (n := 0) (by rw [ho]) f (fun y => by rw [ho, Nat.zero_add]; exact hg y) (fun x hx => absurd hx (Nat.not_lt_zero _)) x (by rw [ho, Nat.zero_add]; exact hx)))
    iexact Hd
  iexact Hv

/-- A conditional: each branch brings the same. -/
theorem wp_branch {c : Prop} [Decidable c] {A : c → TileProg F L PUnit} {B : ¬c → TileProg F L PUnit} {P R : sProp 𝕄}
    (hA : ∀ h, P ⊢ wp frame (wpE (defs₀ (F := F)) 𝒱₀ (tV d L) none) Set.univ (A h) fun _ => R)
    (hB : ∀ h, P ⊢ wp frame (wpE (defs₀ (F := F)) 𝒱₀ (tV d L) none) Set.univ (B h) fun _ => R)
    {Q : α → sProp 𝕄} {k : PUnit → TileProg F L α} :
    P ⊢ iprop((R -∗ wp frame (wpE (defs₀ (F := F)) 𝒱₀ (tV d L) none) Set.univ (k ⟨⟩) Q)
        -∗ wp frame (wpE (defs₀ (F := F)) 𝒱₀ (tV d L) none) Set.univ (dite c A B >>= k) Q) := by
  rw [wp_bind]
  have hP : P ⊢ wp frame (wpE (defs₀ (F := F)) 𝒱₀ (tV d L) none) Set.univ (dite c A B) fun _ => R := by
    by_cases h : c
    · rw [dif_pos h]; exact hA h
    · rw [dif_neg h]; exact hB h
  iintro HP Hk
  iapply (wp_wand_r frame (wpE (defs₀ (F := F)) 𝒱₀ (tV d L) none) Set.univ)
  isplitl [HP]; · iapply hP; iexact HP
  iintro %_ HR
  iapply Hk; iexact HR

end Ops

end Cert.Proof.Seg
-- ==== Proof.Fetch.lean ====
/-
  The tile's chunk fetched, its padding, and the least feature index of every lane.
-/
module

public import proofs.«01_k».proof.Proof.Base
public import proofs.«01_k».proof.Proof.Scatter
public import proofs.«01_k».proof.Proof.Ops

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

attribute [local instance] blocks

section Fetch

variable [FloatOps F] (d : Dev nD) (L : grid0.Coords) {α : Type} {X B : S100000.Idx → BitVec 32} {W : S86.Idx → F .f32}
  {O : CellTallies nD τ sig (HIx 2)} {W₀ : Waits sig (HIx 2)}

/-- Row `y` of the weights. -/
def wAt (W : S86.Idx → F .f32) (y : ℕ) : F .f32 := if h : y < 86 then W (ix1 y h) else W (ix1 0 (by decide))

theorem cond1_iff : ∀ i : grid0.Coords, k0_cond1 i = 1#1 ↔ (i 1).val < 15 := by decide +kernel
theorem cond2_iff : ∀ i : grid0.Coords, k0_cond2 i = 1#1 ↔ ¬ (i 1).val < 15 := by decide +kernel
theorem cond3_iff : ∀ i : grid0.Coords, k0_cond3 i = 1#1 ↔ (i 1).val < 8 := by decide +kernel

/-- The inputs, each at a share, the tile's chunk known to its first `n` elements and its weights to the first `w`, and the
    semaphores of the copies that fetch them. -/
def fetched (q1 q2 q3 : PosShare TreeShare) (X B : S100000.Idx → BitVec 32) (W : S86.Idx → F .f32) (n w : ℕ) : sProp 𝕄 :=
  iprop((aIdx.view.loc (tV d L) ↦{q1} X) ∗ (aBat.view.loc (tV d L) ↦{q2} B) ∗ (aW.view.loc (tV d L) ↦{q3} W)
    ∗ upto d L bIdx (fun y => nodeX X (6256 * (jL L).val + y)) n ∗ upto d L bBat (fun y => nodeB B (6256 * (jL L).val + y)) n
    ∗ upto d L bW (wAt W) w
    ∗ sem0 d L cc0_scoped0.sem ∗ sem0 d L cc0_scoped1.sem ∗ sem0 d L cc0_scoped2.sem
    ∗ sem0 d L cc0_scoped3.sem ∗ sem0 d L cc0_scoped4.sem ∗ sem0 d L cc0_scoped5.sem)

theorem jL_lt : (jL L).val < 16 := (jL L).isLt

/-- A chunk's slice of the feature indices, element by element. -/
theorem read_slice (A : S100000.Idx → BitVec 32) (p : BitVec 32) {off size : Fin 1 → ℕ} {inb} {i : ℕ} (ho : off = ![6256 * i]) (x : (⟨1, size⟩ : Shape).Idx) :
    A ((Rect.unit (s := S100000) off size inb).emb x) = if h : 6256 * i + (x 0).val < 100000 then A (ix1 (6256 * i + (x 0).val) h) else p := by
  subst ho
  have hx : ((Rect.unit (s := S100000) ![6256 * i] size inb).emb x 0).val = 6256 * i + (x 0).val := by
    show 6256 * i + 1 * (x 0).val = _
    rw [Nat.one_mul]
  have hlt : 6256 * i + (x 0).val < 100000 := hx ▸ ((Rect.unit (s := S100000) ![6256 * i] size inb).emb x 0).isLt
  rw [dif_pos hlt]
  refine congrArg A (funext fun a => Fin.ext ?_)
  obtain rfl : a = 0 := Subsingleton.elim _ _
  exact hx

theorem read_x {off size : Fin 1 → ℕ} {inb} {hr} {i : ℕ} (ho : off = ![6256 * i]) (x : (⟨1, size⟩ : Shape).Idx) :
    (aIdx.slice (Rect.unit (s := S100000) off size inb) hr).view.read (Elt F) X x = nodeX X (6256 * i + (x 0).val) := read_slice X 85#32 ho x
theorem read_b {off size : Fin 1 → ℕ} {inb} {hr} {i : ℕ} (ho : off = ![6256 * i]) (x : (⟨1, size⟩ : Shape).Idx) :
    (aBat.slice (Rect.unit (s := S100000) off size inb) hr).view.read (Elt F) B x = nodeB B (6256 * i + (x 0).val) := read_slice B 1024#32 ho x
theorem read_w (x : S86.Idx) : aW.view.read (Elt F) W x = wAt W (x 0).val :=
  ((dif_pos (show (x 0).val < 86 from (x 0).isLt)).trans (congrArg W (funext fun a => by obtain rfl : a = 0 := Subsingleton.elim _ _; rfl))).symm

theorem credit_idx : 0 < (bIdx.slice (Rect.unit (s := S6256) ![0] S6160.size inb_S6256_S6160_0) (fun _ => rfl)).view.dmaCredit := by decide
theorem credit_bat : 0 < (bBat.slice (Rect.unit (s := S6256) ![0] S6160.size inb_S6256_S6160_0) (fun _ => rfl)).view.dmaCredit := by decide
theorem credit_idx' : 0 < (bIdx.slice (Rect.unit (s := S6256) ![0] S6256.size inb_S6256_S6256_0) (fun _ => rfl)).view.dmaCredit := by decide
theorem credit_bat' : 0 < (bBat.slice (Rect.unit (s := S6256) ![0] S6256.size inb_S6256_S6256_0) (fun _ => rfl)).view.dmaCredit := by decide

theorem pad_x {i y : ℕ} (hi : ¬ i < 15) (hy : 6160 ≤ y) : nodeX X (6256 * i + y) = 85#32 := dif_neg (by omega)
theorem pad_b {i y : ℕ} (hi : ¬ i < 15) (hy : 6160 ≤ y) : nodeB B (6256 * i + y) = 1024#32 := dif_neg (by omega)

/-- `k0_part1`: the last tile's three copies, and the first of its padding. -/
theorem wp_part1 {q1 q2 q3 : PosShare TreeShare} (h2 : k0_cond2 L = 1#1) {Q : α → sProp 𝕄} {k : PUnit → TileProg F L α} :
    iprop(ctl d L O W₀ ∗ fetched d L q1 q2 q3 X B W 0 0)
      ⊢ iprop((iprop(ctl d L O W₀ ∗ (aIdx.view.loc (tV d L) ↦{q1} X) ∗ (aBat.view.loc (tV d L) ↦{q2} B) ∗ (aW.view.loc (tV d L) ↦{q3} W)
    ∗ upto d L bIdx (fun y => nodeX X (6256 * (jL L).val + y)) 6224 ∗ upto d L bBat (fun y => nodeB B (6256 * (jL L).val + y)) 6208
    ∗ upto d L bW (wAt W) 86
    ∗ sem0 d L cc0_scoped0.sem ∗ sem0 d L cc0_scoped1.sem ∗ sem0 d L cc0_scoped2.sem
    ∗ sem0 d L cc0_scoped3.sem ∗ sem0 d L cc0_scoped4.sem ∗ sem0 d L cc0_scoped5.sem) -∗ wp frame (wpE (defs₀ (F := F)) 𝒱₀ (tV d L) none) Set.univ (k ⟨⟩) Q)
        -∗ wp frame (wpE (defs₀ (F := F)) 𝒱₀ (tV d L) none) Set.univ (onArgs (k0_part1 (F := F) L) k0_pay23 k0_pay24 h2 >>= k) Q) := by
  have hj : ¬ (jL L).val < 15 := (cond2_iff L).mp h2
  unfold fetched
  iintro ⟨Hc, HX, HB, HW, Hx, Hb, Hw, S0, S1, S2, S3, S4, S5⟩ Hk
  simp only [onArgs, k0_part1_eq_skeleton]
  rw [wp_bind]
  unfold k0_part1_skel
  iapply (wp_fetch d L (O := O) (W₀ := W₀) (m := bIdx) (g := fun y => nodeX X (6256 * (jL L).val + y)) (fs := X) (src := aIdx.slice (Rect.unit (s := S100000) (k0_off2 L) S6160.size (k0_off2_inb L h2)) (fun _ => rfl)) (sm := cc0_scoped3.sem) 6160 rfl rfl credit_idx (Finset.subset_univ _)
    (read_x (k0_off2_eq L))) $$ [Hc HX Hx S3]
  · isplitl [Hc]; · iexact Hc
    isplitl [HX]; · iexact HX
    isplitl [Hx]; · iexact Hx
    iexact S3
  iintro ⟨Hc, HX, Hx, S3⟩
  iapply (wp_fetch d L (O := O) (W₀ := W₀) (m := bBat) (g := fun y => nodeB B (6256 * (jL L).val + y)) (fs := B) (src := aBat.slice (Rect.unit (s := S100000) (k0_off2 L) S6160.size (k0_off2_inb L h2)) (fun _ => rfl)) (sm := cc0_scoped4.sem) 6160 rfl rfl credit_bat (Finset.subset_univ _)
    (read_b (k0_off2_eq L))) $$ [Hc HB Hb S4]
  · isplitl [Hc]; · iexact Hc
    isplitl [HB]; · iexact HB
    isplitl [Hb]; · iexact Hb
    iexact S4
  iintro ⟨Hc, HB, Hb, S4⟩
  iapply (wp_fetch d L (O := O) (W₀ := W₀) (m := bW) (g := wAt W) (fs := W) (src := aW) (sm := cc0_scoped5.sem) 86 rfl rfl (by decide) (Finset.subset_univ _)
    read_w) $$ [Hc HW Hw S5]
  · isplitl [Hc]; · iexact Hc
    isplitl [HW]; · iexact HW
    isplitl [Hw]; · iexact Hw
    iexact S5
  iintro ⟨Hc, HW, Hw, S5⟩
  iapply (wp_peek d L) $$ Hx; iintro %_ Hx
  iapply (wp_put d L (n := 6160) 6176 (by rfl) (by rfl) (fun x => (pad_x hj (by omega)).symm)) $$ Hx; iintro Hx
  iapply (wp_peek d L) $$ Hb; iintro %_ Hb
  iapply (wp_put d L (n := 6160) 6176 (by rfl) (by rfl) (fun x => (pad_b hj (by omega)).symm)) $$ Hb; iintro Hb
  iapply (wp_peek d L) $$ Hx; iintro %_ Hx
  iapply (wp_put d L (n := 6176) 6192 (by rfl) (by rfl) (fun x => (pad_x hj (by omega)).symm)) $$ Hx; iintro Hx
  iapply (wp_peek d L) $$ Hb; iintro %_ Hb
  iapply (wp_put d L (n := 6176) 6192 (by rfl) (by rfl) (fun x => (pad_b hj (by omega)).symm)) $$ Hb; iintro Hb
  iapply (wp_peek d L) $$ Hx; iintro %_ Hx
  iapply (wp_put d L (n := 6192) 6208 (by rfl) (by rfl) (fun x => (pad_x hj (by omega)).symm)) $$ Hx; iintro Hx
  iapply (wp_peek d L) $$ Hb; iintro %_ Hb
  iapply (wp_put d L (n := 6192) 6208 (by rfl) (by rfl) (fun x => (pad_b hj (by omega)).symm)) $$ Hb; iintro Hb
  iapply (wp_peek d L) $$ Hx; iintro %_ Hx
  iapply (wp_put d L (n := 6208) 6224 (by rfl) (by rfl) (fun x => (pad_x hj (by omega)).symm)) $$ Hx; iintro Hx
  rw [wp_pure]; imodintro
  iapply Hk
  isplitl [Hc]; · iexact Hc
  isplitl [HX]; · iexact HX
  isplitl [HB]; · iexact HB
  isplitl [HW]; · iexact HW
  isplitl [Hx]; · iexact Hx
  isplitl [Hb]; · iexact Hb
  isplitl [Hw]; · iexact Hw
  isplitl [S0]; · iexact S0
  isplitl [S1]; · iexact S1
  isplitl [S2]; · iexact S2
  isplitl [S3]; · iexact S3
  isplitl [S4]; · iexact S4
  iexact S5

end Fetch

end Cert.Proof.Seg
-- ==== Proof.Mins.lean ====
/-
  The least feature index of every lane of the tile's chunk.
-/
module

public import proofs.«01_k».proof.Proof.Fetch

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

attribute [local instance] blocks

section Mins

variable [FloatOps F] (d : Dev nD) (L : grid0.Coords) {α : Type} {X B : S100000.Idx → BitVec 32} {W : S86.Idx → F .f32}
  {O : CellTallies nD τ sig (HIx 2)} {W₀ : Waits sig (HIx 2)}

/-- The chunk of feature indices, known to the end. -/
abbrev idxKnown (X : S100000.Idx → BitVec 32) : sProp 𝕄 := upto d L bIdx (fun y => nodeX X (6256 * (jL L).val + y)) 6256

/-- The lanes' minima of tile `i` after `n` rows. -/
def minV (X : S100000.Idx → BitVec 32) (i n : ℕ) : IVec S16 32 := fun x => laneMin X i (x 0).val n

/-- Row `n` of tile `i`'s chunk. -/
def rowV (X : S100000.Idx → BitVec 32) (i n : ℕ) : IVec S16 32 := fun x => nodeX X (6256 * i + (16 * n + (x 0).val))

theorem minV_succ (i n : ℕ) : minsi (minV X i n) (rowV X i n) = minV X i (n + 1) := rfl

/-- A row of the chunk loaded. -/
theorem wp_row {off : Fin 1 → ℕ} {inb} {hl} (n : ℕ) (ho : off 0 = 16 * n) (hn : n < 391) {Q : α → sProp 𝕄} {k : IVec S16 32 → TileProg F L α} :
    idxKnown (F := F) d L X
      ⊢ iprop((idxKnown (F := F) d L X -∗ wp frame (wpE (defs₀ (F := F)) 𝒱₀ (tV d L) none) Set.univ (k (rowV X (jL L).val n)) Q)
        -∗ wp frame (wpE (defs₀ (F := F)) 𝒱₀ (tV d L) none) Set.univ (Prog.lift (.load bIdx (Rect.unit (s := S6256) off S16.size inb).toLoadRect hl) >>= k) Q) :=
  wp_get d L (m := bIdx) (16 * n) ho (show 16 * n + 16 ≤ 6256 by omega)

theorem off3_row (n : Fin k0_t1_loop.trips) (r : Fin 8) : k0_off3 n (BitVec.ofNat 32 r.val) 0 = 16 * (8 * n.val + r.val) := by
  rw [k0_off3_eq]
  show 128 * n.val + 16 * r.val = _
  omega

theorem loop1_trips : k0_t1_loop.trips = 48 := by decide

/-- `k0_part2`: six rows. -/
theorem wp_part2 (c0 c1 : BitVec 32) (n : Fin k0_t1_loop.trips) {Q : α → sProp 𝕄}
    {k : (Σ' (_ : BitVec 32) (_ : IVec S16 32) (_ : BitVec 32), BitVec 32) → TileProg F L α} :
    idxKnown (F := F) d L X
      ⊢ iprop((∀ a b c, idxKnown (F := F) d L X -∗ wp frame (wpE (defs₀ (F := F)) 𝒱₀ (tV d L) none) Set.univ (k ⟨a, minV X (jL L).val (8 * n.val + 6), b, c⟩) Q)
        -∗ wp frame (wpE (defs₀ (F := F)) 𝒱₀ (tV d L) none) Set.univ (onArgs (k0_part2 (F := F) L) c0 c1 n (minV X (jL L).val (8 * n.val)) >>= k) Q) := by
  have hn : n.val < 48 := lt_of_lt_of_eq n.isLt loop1_trips
  iintro H Hk
  simp only [onArgs, k0_part2_eq_skeleton]
  rw [wp_bind]
  unfold k0_part2_skel
  iapply (wp_row d L (8 * n.val) (off3_row n 0) (by omega)) $$ H; iintro H
  iapply (wp_row d L (8 * n.val + 1) (off3_row n 1) (by omega)) $$ H; iintro H
  iapply (wp_row d L (8 * n.val + 2) (off3_row n 2) (by omega)) $$ H; iintro H
  iapply (wp_row d L (8 * n.val + 3) (off3_row n 3) (by omega)) $$ H; iintro H
  iapply (wp_row d L (8 * n.val + 4) (off3_row n 4) (by omega)) $$ H; iintro H
  iapply (wp_row d L (8 * n.val + 5) (off3_row n 5) (by omega)) $$ H; iintro H
  rw [wp_pure]; imodintro
  have hp : k0_pay1 (F := F) (minV X (jL L).val (8 * n.val)) (rowV X (jL L).val (8 * n.val)) (rowV X (jL L).val (8 * n.val + 1)) (rowV X (jL L).val (8 * n.val + 2))
      (rowV X (jL L).val (8 * n.val + 3)) (rowV X (jL L).val (8 * n.val + 4)) (rowV X (jL L).val (8 * n.val + 5)) = minV X (jL L).val (8 * n.val + 6) := rfl
  rw [hp]
  iapply Hk; iexact H

/-- The loop over the chunk's first 384 rows. -/
theorem wp_loop1 {Q : α → sProp 𝕄} {k : IVec S16 32 → TileProg F L α} :
    idxKnown (F := F) d L X
      ⊢ iprop((idxKnown (F := F) d L X -∗ wp frame (wpE (defs₀ (F := F)) 𝒱₀ (tV d L) none) Set.univ (k (minV X (jL L).val 384)) Q)
        -∗ wp frame (wpE (defs₀ (F := F)) 𝒱₀ (tV d L) none) Set.univ (Scf.Loop.for k0_t1_loop k0_t1_ok k0_pay25 (onArgs (k0_t1_body (F := F) L)) >>= k) Q) := by
  iintro H Hk
  iapply (Scf.wp_for_bind frame (wpE (defs₀ (F := F)) 𝒱₀ (tV d L) none) Set.univ k0_t1_loop.lb k0_t1_loop.ub k0_t1_loop.st k0_t1_ok k0_pay25 _
    (fun n acc => iprop(⌜acc = minV X (jL L).val (8 * n)⌝ ∗ idxKnown (F := F) d L X)) ?hbody (kk := k) (Q := Q)) $$ [H]
  case hbody =>
    intro n acc
    have hn : n.val < 48 := lt_of_lt_of_eq n.isLt loop1_trips
    iintro ⟨%hacc, H⟩
    subst hacc
    simp only [onArgs]
    unfold k0_t1_body
    iapply (wp_part2 d L) $$ H; iintro %_ %_ %_ H
    iapply (wp_row d L (8 * n.val + 6) (off3_row n 6) (by omega)) $$ H; iintro H
    iapply (wp_row d L (8 * n.val + 7) (off3_row n 7) (by omega)) $$ H; iintro H
    rw [wp_pure]; imodintro
    isplitr; · ipureintro; rfl
    iexact H
  · isplitr; · ipureintro; rfl
    iexact H
  · iintro %acc ⟨%hacc, H⟩
    subst hacc
    rw [show Scf.trips k0_t1_loop.lb k0_t1_loop.ub k0_t1_loop.st = 48 from loop1_trips]
    iapply Hk; iexact H

/-- A buffer known to its end, at the contents known. -/
theorem upto_idx6 {g : ℕ → BitVec 32} : upto (F := F) d L bMin g 16 ⊢ bMin.view.loc (tV d L) ↦{fullShare} ((fun x => g (x 0).val) : Buf (Elt F) (bMin.view.loc (tV d L))) := by
  unfold upto
  iintro ⟨%f, %hf, H⟩
  obtain rfl : f = fun x => g (x 0).val := funext fun x => hf x (x 0).isLt
  iexact H

/-- The tile's row of the shared minima. -/
abbrev rowMin : Memref sig .scVector .shared S16 .i32 :=
  (shMin.slice (Rect.unit (s := S16x16) (k0_off4 L) S1x16.size (k0_off4_inb L)) (fun _ => rfl)).squeeze S16 squeezes_S1x16_S16

theorem credit_min : 0 < (rowMin L).view.dmaCredit := by revert L; decide +kernel
theorem laneV_eq : iota .scVector S16 32 [0] iota_S16_d0_w32_scVector = laneV := by
  funext x; revert x; decide +kernel

/-- `k0_part5`: the tile's chunk and the weights fetched, the lanes' minima, and the copy of them into the tile's shared row started. -/
theorem wp_part5 {q1 q2 q3 : PosShare TreeShare} {fm : Buf (Elt F) ((rowMin L).view.loc (tV d L))} {Q : α → sProp 𝕄}
    {k : (Σ' (_ : BitVec 32), IVec S16 32) → TileProg F L α} :
    iprop(ctl d L O W₀ ∗ fetched d L q1 q2 q3 X B W 0 0 ∗ upto d L bMin (fun l => laneMin X (jL L).val l 391) 0
        ∗ ((rowMin L).view.loc (tV d L) ↦[(rowMin L).view.set]{fullShare} fm) ∗ sem0 d L cc0_scoped6.sem)
      ⊢ iprop((∀ a, iprop(ctl d L O W₀ ∗ fetched d L q1 q2 q3 X B W 6256 86
          ∗ underway d L cc0_scoped6.sem (rowMin L).view.dmaCredit
            iprop(((rowMin L).view.loc (tV d L) ↦[(rowMin L).view.set]{fullShare}
                (rowMin L).view.write (Elt F) fm (minV X (jL L).val 391) Finset.univ)
              ∗ bMin.view.loc (tV d L) ↦{fullShare} (minV X (jL L).val 391 : Buf (Elt F) (bMin.view.loc (tV d L)))))
          -∗ wp frame (wpE (defs₀ (F := F)) 𝒱₀ (tV d L) none) Set.univ (k ⟨a, laneV⟩) Q)
        -∗ wp frame (wpE (defs₀ (F := F)) 𝒱₀ (tV d L) none) Set.univ (onArgs (k0_part5 (F := F) L) >>= k) Q) := by
  simp only [onArgs, k0_part5_eq_skeleton]
  rw [wp_bind]
  unfold k0_part5_skel
  rw [laneV_eq]
  extract_lets +lift arg1 v3 r1 r2 jp2 jp1 s1 s2 s3
  refine BIClass.wand_intro ?_
  generalize hG : iprop(∀ a, iprop(ctl d L O W₀ ∗ fetched d L q1 q2 q3 X B W 6256 86
          ∗ underway d L cc0_scoped6.sem (rowMin L).view.dmaCredit
            iprop(((rowMin L).view.loc (tV d L) ↦[(rowMin L).view.set]{fullShare}
                (rowMin L).view.write (Elt F) fm (minV X (jL L).val 391) Finset.univ)
              ∗ bMin.view.loc (tV d L) ↦{fullShare} (minV X (jL L).val 391 : Buf (Elt F) (bMin.view.loc (tV d L)))))
          -∗ wp frame (wpE (defs₀ (F := F)) 𝒱₀ (tV d L) none) Set.univ (k ⟨a, laneV⟩) Q) = G
  -- after the fetches
  have hJ2 : iprop((ctl d L O W₀ ∗ fetched d L q1 q2 q3 X B W 6256 86)
      ∗ (upto d L bMin (fun l => laneMin X (jL L).val l 391) 0
        ∗ ((rowMin L).view.loc (tV d L) ↦[(rowMin L).view.set]{fullShare} fm) ∗ sem0 d L cc0_scoped6.sem) ∗ G)
      ⊢ wp frame (wpE (defs₀ (F := F)) 𝒱₀ (tV d L) none) Set.univ (jp2 ⟨⟩) fun a => wp frame (wpE (defs₀ (F := F)) 𝒱₀ (tV d L) none) Set.univ (k a) Q := by
    subst hG
    unfold jp2 r2 r1 v3 arg1 fetched
    iintro ⟨⟨Hc, HX, HB, HW, Hx, Hrest⟩, ⟨Hm, Hr, S6⟩, Hk⟩
    iapply (wp_loop1 d L) $$ Hx; iintro Hx
    iapply (wp_row d L 384 (by rfl) (by omega)) $$ Hx; iintro Hx
    iapply (wp_row d L 385 (by rfl) (by omega)) $$ Hx; iintro Hx
    iapply (wp_row d L 386 (by rfl) (by omega)) $$ Hx; iintro Hx
    iapply (wp_row d L 387 (by rfl) (by omega)) $$ Hx; iintro Hx
    iapply (wp_row d L 388 (by rfl) (by omega)) $$ Hx; iintro Hx
    iapply (wp_row d L 389 (by rfl) (by omega)) $$ Hx; iintro Hx
    iapply (wp_row d L 390 (by rfl) (by omega)) $$ Hx; iintro Hx
    iapply (wp_peek d L) $$ Hm; iintro %_ Hm
    iapply (wp_put d L (n := 0) 16 (by rfl) (by rfl) (fun x => by rw [Nat.zero_add]; rfl)) $$ Hm; iintro Hm
    ihave Hm := (upto_idx6 d L) $$ Hm
    iapply (wp_start d L (dst := rowMin L) (src := bMin) (rowMin L).view.dmaCredit rfl (credit_min L) (subset_refl _)) $$ [Hm Hr S6]
    · isplitl [Hm]; · iexact Hm
      isplitl [Hr]; · iexact Hr
      iexact S6
    iintro HF
    rw [wp_pure]; imodintro
    iapply Hk
    isplitl [Hc]; · iexact Hc
    isplitr [HF]
    · isplitl [HX]; · iexact HX
      isplitl [HB]; · iexact HB
      isplitl [HW]; · iexact HW
      isplitl [Hx]; · iexact Hx
      iexact Hrest
    iexact HF
  -- the last tile's fetches
  have hJ1 : iprop((ctl d L O W₀ ∗ if (jL L).val < 15 then fetched d L q1 q2 q3 X B W 6256 86 else fetched d L q1 q2 q3 X B W 0 0)
      ∗ (upto d L bMin (fun l => laneMin X (jL L).val l 391) 0
        ∗ ((rowMin L).view.loc (tV d L) ↦[(rowMin L).view.set]{fullShare} fm) ∗ sem0 d L cc0_scoped6.sem) ∗ G)
      ⊢ wp frame (wpE (defs₀ (F := F)) 𝒱₀ (tV d L) none) Set.univ (jp1 ⟨⟩) fun a => wp frame (wpE (defs₀ (F := F)) 𝒱₀ (tV d L) none) Set.univ (k a) Q := by
    clear hG
    unfold jp1
    by_cases hj : (jL L).val < 15
    · rw [if_pos hj, dif_neg (show ¬ k0_cond2 L = 1#1 from fun h => (cond2_iff L).mp h hj)]
      exact hJ2
    have h2 : k0_cond2 L = 1#1 := (cond2_iff L).mpr hj
    rw [if_neg hj, dif_pos h2]
    refine .trans ?_ (wp_mono frame _ Set.univ fun _ => .rfl)
    iintro ⟨H, ⟨Hm, Hr, S6⟩, Hk⟩
    iapply (wp_part1 d L h2) $$ H
    iintro ⟨Hc, HX, HB, HW, Hx, Hb, Hw, S0, S1, S2, S3, S4, S5⟩
    iapply (wp_peek d L) $$ Hb; iintro %_ Hb
    iapply (wp_put d L (n := 6208) 6224 (by rfl) (by rfl) (fun x => (pad_b hj (by omega)).symm)) $$ Hb; iintro Hb
    iapply (wp_peek d L) $$ Hx; iintro %_ Hx
    iapply (wp_put d L (n := 6224) 6240 (by rfl) (by rfl) (fun x => (pad_x hj (by omega)).symm)) $$ Hx; iintro Hx
    iapply (wp_peek d L) $$ Hb; iintro %_ Hb
    iapply (wp_put d L (n := 6224) 6240 (by rfl) (by rfl) (fun x => (pad_b hj (by omega)).symm)) $$ Hb; iintro Hb
    iapply (wp_peek d L) $$ Hx; iintro %_ Hx
    iapply (wp_put d L (n := 6240) 6256 (by rfl) (by rfl) (fun x => (pad_x hj (by omega)).symm)) $$ Hx; iintro Hx
    iapply (wp_peek d L) $$ Hb; iintro %_ Hb
    iapply (wp_put d L (n := 6240) 6256 (by rfl) (by rfl) (fun x => (pad_b hj (by omega)).symm)) $$ Hb; iintro Hb
    iapply hJ2
    unfold fetched
    isplitl [Hc HX HB HW Hx Hb Hw S0 S1 S2 S3 S4 S5]
    · isplitl [Hc]; · iexact Hc
      isplitl [HX]; · iexact HX
      isplitl [HB]; · iexact HB
      isplitl [HW]; · iexact HW
      isplitl [Hx]; · iexact Hx
      isplitl [Hb]; · iexact Hb
      isplitl [Hw]; · iexact Hw
      isplitl [S0]; · iexact S0
      isplitl [S1]; · iexact S1
      isplitl [S2]; · iexact S2
      isplitl [S3]; · iexact S3
      isplitl [S4]; · iexact S4
      iexact S5
    isplitr [Hk]
    · isplitl [Hm]; · iexact Hm
      isplitl [Hr]; · iexact Hr
      iexact S6
    iexact Hk
  by_cases hj : (jL L).val < 15
  · have h1 : k0_cond1 L = 1#1 := (cond1_iff L).mpr hj
    rw [if_pos hj] at hJ1
    rw [dif_pos h1]
    clear hG hJ2
    unfold s1 s2 s3
    conv => lhs; unfold fetched
    iintro ⟨⟨Hc, ⟨HX, HB, HW, Hx, Hb, Hw, S0, S1, S2, S3, S4, S5⟩, Hm, Hr, S6⟩, Hk⟩
    iapply (wp_fetch d L (O := O) (W₀ := W₀) (m := bIdx) (g := fun y => nodeX X (6256 * (jL L).val + y)) (fs := X) (src := aIdx.slice (Rect.unit (s := S100000) (k0_off1 L) S6256.size (k0_off1_inb L h1)) (fun _ => rfl)) (sm := cc0_scoped0.sem) 6256 rfl rfl credit_idx' (Finset.subset_univ _)
      (read_x (k0_off1_eq L))) $$ [Hc HX Hx S0]
    · isplitl [Hc]; · iexact Hc
      isplitl [HX]; · iexact HX
      isplitl [Hx]; · iexact Hx
      iexact S0
    iintro ⟨Hc, HX, Hx, S0⟩
    iapply (wp_fetch d L (O := O) (W₀ := W₀) (m := bBat) (g := fun y => nodeB B (6256 * (jL L).val + y)) (fs := B) (src := aBat.slice (Rect.unit (s := S100000) (k0_off1 L) S6256.size (k0_off1_inb L h1)) (fun _ => rfl)) (sm := cc0_scoped1.sem) 6256 rfl rfl credit_bat' (Finset.subset_univ _)
      (read_b (k0_off1_eq L))) $$ [Hc HB Hb S1]
    · isplitl [Hc]; · iexact Hc
      isplitl [HB]; · iexact HB
      isplitl [Hb]; · iexact Hb
      iexact S1
    iintro ⟨Hc, HB, Hb, S1⟩
    iapply (wp_fetch d L (O := O) (W₀ := W₀) (m := bW) (g := wAt W) (fs := W) (src := aW) (sm := cc0_scoped2.sem) 86 rfl rfl (by decide) (Finset.subset_univ _)
      read_w) $$ [Hc HW Hw S2]
    · isplitl [Hc]; · iexact Hc
      isplitl [HW]; · iexact HW
      isplitl [Hw]; · iexact Hw
      iexact S2
    iintro ⟨Hc, HW, Hw, S2⟩
    iapply hJ1
    unfold fetched
    isplitl [Hc HX HB HW Hx Hb Hw S0 S1 S2 S3 S4 S5]
    · isplitl [Hc]; · iexact Hc
      isplitl [HX]; · iexact HX
      isplitl [HB]; · iexact HB
      isplitl [HW]; · iexact HW
      isplitl [Hx]; · iexact Hx
      isplitl [Hb]; · iexact Hb
      isplitl [Hw]; · iexact Hw
      isplitl [S0]; · iexact S0
      isplitl [S1]; · iexact S1
      isplitl [S2]; · iexact S2
      isplitl [S3]; · iexact S3
      isplitl [S4]; · iexact S4
      iexact S5
    isplitr [Hk]
    · isplitl [Hm]; · iexact Hm
      isplitl [Hr]; · iexact Hr
      iexact S6
    iexact Hk
  · rw [if_neg hj] at hJ1
    rw [dif_neg (show ¬ k0_cond1 L = 1#1 from fun h => hj ((cond1_iff L).mp h))]
    refine .trans ?_ hJ1
    iintro ⟨⟨Hc, Hf, Hs⟩, Hk⟩
    isplitl [Hc Hf]
    · isplitl [Hc]; · iexact Hc
      iexact Hf
    isplitl [Hs]; · iexact Hs
    iexact Hk

end Mins

end Cert.Proof.Seg
-- ==== Proof.Table.lean ====
/-
  The loops that clear the tile's regions, merge them and take the minimum over the tiles, and the shifted table.
-/
module

public import proofs.«01_k».proof.Proof.Mins

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

attribute [local instance] blocks

section Table

variable [FloatOps F] (d : Dev nD) (L : grid0.Coords) {α : Type} {e : EltTy} {X B : S100000.Idx → BitVec 32} {W : S86.Idx → F .f32}

/-! ## The loops over buffers -/

theorem loop2_trips : k0_t2_loop.trips = 261 := by decide
theorem loop3_trips : k0_t3_loop.trips = 16 := by decide
theorem loop5_trips : k0_t5_loop.trips = 64 := by decide

/-- The float that is zero. -/
abbrev zeroF : F .f32 := Scalar.ofBits .f32 0x00000000#32

/-- The four regions cleared. -/
theorem wp_loop2 {Q : α → sProp 𝕄} {k : PUnit → TileProg F L α} :
    upto d L bAcc16 (fun _ => zeroF (F := F)) 0
      ⊢ iprop((upto d L bAcc16 (fun _ => zeroF (F := F)) 4176 -∗ wp frame (wpE (defs₀ (F := F)) 𝒱₀ (tV d L) none) Set.univ (k ⟨⟩) Q)
        -∗ wp frame (wpE (defs₀ (F := F)) 𝒱₀ (tV d L) none) Set.univ (Scf.Loop.for k0_t2_loop k0_t2_ok ⟨⟩ (onArgs (k0_t2_body (F := F) L)) >>= k) Q) := by
  iintro H Hk
  iapply (Scf.wp_for_bind frame (wpE (defs₀ (F := F)) 𝒱₀ (tV d L) none) Set.univ k0_t2_loop.lb k0_t2_loop.ub k0_t2_loop.st k0_t2_ok _ _
    (fun n _ => upto d L bAcc16 (fun _ => zeroF (F := F)) (16 * n)) ?hbody (kk := k) (Q := Q)) $$ [H]
  case hbody =>
    intro n acc
    have hn : n.val < 261 := lt_of_lt_of_eq n.isLt loop2_trips
    iintro H
    simp only [onArgs]
    unfold k0_t2_body
    iapply (wp_peek d L) $$ H; iintro %_ H
    iapply (wp_put d L (n := 16 * n.val) (16 * (n.val + 1)) (by rw [k0_off5_eq]; rfl) (by rfl) (fun _ => rfl)) $$ H; iintro H
    rw [wp_pure]; imodintro
    iexact H
  · iexact H
  · iintro %acc H
    rw [show Scf.trips k0_t2_loop.lb k0_t2_loop.ub k0_t2_loop.st = 261 from loop2_trips]
    iapply Hk; iexact H

/-- The four regions' sums merged. -/
theorem wp_loop5 {A C : ℕ → F .f32} (hC : ∀ g, C g = FloatOps.addf (FloatOps.addf (FloatOps.addf (A g) (A (1041 + g))) (A (2082 + g))) (A (3123 + g)))
    {Q : α → sProp 𝕄} {k : PUnit → TileProg F L α} :
    iprop(upto d L bAcc16 A 4176 ∗ upto d L bAcc C 0)
      ⊢ iprop((iprop(upto d L bAcc16 A 4176 ∗ upto d L bAcc C 1024) -∗ wp frame (wpE (defs₀ (F := F)) 𝒱₀ (tV d L) none) Set.univ (k ⟨⟩) Q)
        -∗ wp frame (wpE (defs₀ (F := F)) 𝒱₀ (tV d L) none) Set.univ (Scf.Loop.for k0_t5_loop k0_t5_ok ⟨⟩ (onArgs (k0_t5_body (F := F) L)) >>= k) Q) := by
  iintro H Hk
  iapply (Scf.wp_for_bind frame (wpE (defs₀ (F := F)) 𝒱₀ (tV d L) none) Set.univ k0_t5_loop.lb k0_t5_loop.ub k0_t5_loop.st k0_t5_ok _ _
    (fun n _ => iprop(upto d L bAcc16 A 4176 ∗ upto d L bAcc C (16 * n))) ?hbody (kk := k) (Q := Q)) $$ [H]
  case hbody =>
    intro n acc
    have hn : n.val < 64 := lt_of_lt_of_eq n.isLt loop5_trips
    iintro ⟨H, Ho⟩
    simp only [onArgs]
    unfold k0_t5_body
    iapply (wp_get d L (16 * n.val) (by rw [k0_off7_eq]; rfl) (by show 16 * n.val + 16 ≤ 4176; omega)) $$ H; iintro H
    iapply (wp_get d L (1041 + 16 * n.val) ((congrFun (k0_off8_eq n 0) 0).trans (by show 1041 * 0 + 16 * n.val + 1041 = _; omega)) (by show 1041 + 16 * n.val + 16 ≤ 4176; omega)) $$ H; iintro H
    iapply (wp_get d L (2082 + 16 * n.val) ((congrFun (k0_off8_eq n 1) 0).trans (by show 1041 * 1 + 16 * n.val + 1041 = _; omega)) (by show 2082 + 16 * n.val + 16 ≤ 4176; omega)) $$ H; iintro H
    iapply (wp_get d L (3123 + 16 * n.val) ((congrFun (k0_off8_eq n 2) 0).trans (by show 1041 * 2 + 16 * n.val + 1041 = _; omega)) (by show 3123 + 16 * n.val + 16 ≤ 4176; omega)) $$ H; iintro H
    iapply (wp_peek d L) $$ Ho; iintro %_ Ho
    iapply (wp_put d L (n := 16 * n.val) (16 * (n.val + 1)) (by rw [k0_off9_eq]; rfl) (by rfl)
      (fun x => by rw [hC]; simp only [← Nat.add_assoc]; rfl)) $$ Ho; iintro Ho
    rw [wp_pure]; imodintro
    isplitl [H]; · iexact H
    iexact Ho
  · iexact H
  · iintro %acc H
    rw [show Scf.trips k0_t5_loop.lb k0_t5_loop.ub k0_t5_loop.st = 64 from loop5_trips]
    iapply Hk; iexact H

/-- Sixteen elements of a row of a matrix, as a vector. -/
theorem row_cast {β : Type} (f : ℕ → ℕ → β) (r o : ℕ) :
    shapeCast S16 (fun x : S1x16.Idx => f (r + (x 0).val) (o + (x 1).val)) shapeCasts_S1x16_S16 = fun x => f r (o + (x 0).val) := by
  have h : ∀ x : S16.Idx, ((Shape.reshapeEquiv shapeCasts_S1x16_S16 x) 0).val = 0 ∧ ((Shape.reshapeEquiv shapeCasts_S1x16_S16 x) 1).val = (x 0).val := by
    decide +kernel
  funext x
  show f (r + _) (o + _) = _
  rw [(h x).1, (h x).2]; rfl

/-- A load of sixteen elements of a row of a matrix known whole. -/
theorem wp_line {a b : ℕ} {m : Memref sig .scVector .vmem ⟨2, ![a, b]⟩ e} {off : Fin 2 → ℕ} {inb} {hl} {g : ℕ → ℕ → Elt F e}
    {f : Buf (Elt F) (m.view.loc (tV d L))} (hf : ∀ x, m.view.read (Elt F) f x = g (x 0).val (x 1).val) (r o : ℕ) (ho : off = ![r, o])
    {Q : α → sProp 𝕄} {k : (S1x16.Idx → Elt F e) → TileProg F L α} :
    (m.view.loc (tV d L) ↦{fullShare} f)
      ⊢ iprop(((m.view.loc (tV d L) ↦{fullShare} f) -∗ wp frame (wpE (defs₀ (F := F)) 𝒱₀ (tV d L) none) Set.univ (k fun x => g (r + (x 0).val) (o + (x 1).val)) Q)
        -∗ wp frame (wpE (defs₀ (F := F)) 𝒱₀ (tV d L) none) Set.univ
          (Prog.lift (.load m (Rect.unit (s := ⟨2, ![a, b]⟩) off S1x16.size inb).toLoadRect hl) >>= k) Q) := by
  subst ho
  iintro H Hk
  simp only [Prog.lift, Prog.bind_op, Prog.bind_ret]
  iapply (wp_load_rect 𝒱₀ (tV d L) none Set.univ (m := m) (r := Rect.unit (s := ⟨2, ![a, b]⟩) ![r, o] S1x16.size inb) (S := Finset.univ) (Finset.subset_univ _)) $$ H; iintro H
  have hv : ((m.access (Rect.unit (s := ⟨2, ![a, b]⟩) ![r, o] S1x16.size inb)).read (Elt F) f) = fun x => g (r + (x 0).val) (o + (x 1).val) := funext fun x => by
    have h0 : ((Rect.unit (s := ⟨2, ![a, b]⟩) ![r, o] S1x16.size inb).emb x 0).val = r + (x 0).val := by
      show r + 1 * (x 0).val = _
      rw [Nat.one_mul]
    have h1 : ((Rect.unit (s := ⟨2, ![a, b]⟩) ![r, o] S1x16.size inb).emb x 1).val = o + (x 1).val := by
      show o + 1 * (x 1).val = _
      rw [Nat.one_mul]
    exact (hf ((Rect.unit (s := ⟨2, ![a, b]⟩) ![r, o] S1x16.size inb).emb x)).trans (by rw [h0, h1])
  rw [hv]
  iapply Hk; iexact H

/-- The lanes' minima over all the tiles. -/
def tileMinV (X : S100000.Idx → BitVec 32) (n : ℕ) : IVec S16 32 := fun x => tileMin X (x 0).val n

/-- All the tiles' minima, as the tile holds them. -/
abbrev minsF (X : S100000.Idx → BitVec 32) : S16x16.Idx → BitVec 32 := fun x => laneMin X (x 0).val (x 1).val 391

/-- The loop over the tiles' minima. -/
theorem wp_loop3 {Q : α → sProp 𝕄} {k : IVec S16 32 → TileProg F L α} :
    (bGmin.view.loc (tV d L) ↦{fullShare} (minsF X : Buf (Elt F) (bGmin.view.loc (tV d L))))
      ⊢ iprop(((bGmin.view.loc (tV d L) ↦{fullShare} (minsF X : Buf (Elt F) (bGmin.view.loc (tV d L)))) -∗ wp frame (wpE (defs₀ (F := F)) 𝒱₀ (tV d L) none) Set.univ (k (tileMinV X 16)) Q)
        -∗ wp frame (wpE (defs₀ (F := F)) 𝒱₀ (tV d L) none) Set.univ (Scf.Loop.for k0_t3_loop k0_t3_ok k0_pay29 (onArgs (k0_t3_body (F := F) L)) >>= k) Q) := by
  iintro H Hk
  iapply (Scf.wp_for_bind frame (wpE (defs₀ (F := F)) 𝒱₀ (tV d L) none) Set.univ k0_t3_loop.lb k0_t3_loop.ub k0_t3_loop.st k0_t3_ok k0_pay29 _
    (fun n acc => iprop(⌜acc = tileMinV X n⌝ ∗ (bGmin.view.loc (tV d L) ↦{fullShare} (minsF X : Buf (Elt F) (bGmin.view.loc (tV d L)))))) ?hbody (kk := k) (Q := Q)) $$ [H]
  case hbody =>
    intro n acc
    have hn : n.val < 16 := lt_of_lt_of_eq n.isLt loop3_trips
    iintro ⟨%hacc, H⟩
    subst hacc
    simp only [onArgs]
    unfold k0_t3_body
    iapply (wp_line d L (m := bGmin) (g := fun r c => laneMin X r c 391) (fun x => rfl) n.val 0 (k0_off6_eq n)) $$ H; iintro H
    rw [wp_pure]; imodintro
    isplitr
    · ipureintro
      unfold k0_pay30
      rw [row_cast (fun r c => laneMin X r c 391)]
      funext x
      show IntOp.minsi (tileMin X (x 0).val n.val) (laneMin X n.val (0 + (x 0).val) 391) = _
      rw [Nat.zero_add]; rfl
    iexact H
  · isplitr; · ipureintro; rfl
    iexact H
  · iintro %acc ⟨%hacc, H⟩
    subst hacc
    rw [show Scf.trips k0_t3_loop.lb k0_t3_loop.ub k0_t3_loop.st = 16 from loop3_trips]
    iapply Hk; iexact H

/-! ## The shifted table -/

theorem shift_cases (X : S100000.Idx → BitVec 32) : shift X = 0#32 ∨ shift X = 1#32 := by
  unfold shift Scalar.select
  split
  · exact .inr rfl
  · exact .inl rfl

theorem wRow_eq (j : ℕ) : wRow X W j = wAt W (j - (shift X).toNat) := rfl

/-- The rows of the table that the lanes of group `g` read, at the shift `s`. -/
def rowsV (s : BitVec 32) (g : ℕ) : IVec S16 32 := maxsi (subi (addi laneV (broadcast S16 (BitVec.ofNat 32 (16 * g)))) (broadcast S16 s)) (broadcast S16 0#32)

theorem rowsV_toNat (g : Fin 6) (x : S16.Idx) : (rowsV (shift X) g.val x).toNat = 16 * g.val + (x 0).val - (shift X).toNat := by
  have h0 : ∀ (g : Fin 6) (x : S16.Idx), (rowsV 0#32 g.val x).toNat = 16 * g.val + (x 0).val - (0#32).toNat := by decide +kernel
  have h1 : ∀ (g : Fin 6) (x : S16.Idx), (rowsV 1#32 g.val x).toNat = 16 * g.val + (x 0).val - (1#32).toNat := by decide +kernel
  rcases shift_cases X with h | h <;> rw [h]
  · exact h0 g x
  · exact h1 g x

theorem rowsV_lt (g : Fin 6) : ∀ a x, ((![rowsV (shift X) g.val] : Fin 1 → IVec S16 32) a x).toNat < S96.size a := fun a x => by
  obtain rfl : a = 0 := Subsingleton.elim _ _
  show (rowsV (shift X) g.val x).toNat < 96
  rw [rowsV_toNat]
  have := lane_lt x; have := g.isLt; omega

/-- The contents of a buffer known up to an element. -/
theorem upto_open {cs : Space} {N : ℕ} (m : Memref sig .scVector cs ⟨1, ![N]⟩ e) (g : ℕ → Elt F e) (n : ℕ) :
    upto d L m g n ⊢ iprop(∃ f : Buf (Elt F) (m.view.loc (tV d L)), ⌜∀ x, (x 0).val < n → m.view.read (Elt F) f x = g (x 0).val⌝
      ∗ m.view.loc (tV d L) ↦{fullShare} f) := by
  unfold upto
  iintro H; iexact H

/-- A store that extends the known prefix by elements of which some are not known. -/
theorem wp_put' {N : ℕ} {m : Memref sig .scVector .vmem ⟨1, ![N]⟩ e} {off size : Fin 1 → ℕ} {inb} {hx} {hm} {g : ℕ → Elt F e} {n : ℕ}
    (n' : ℕ) (ho : off 0 = n) (hn : n' ≤ n + size 0) {w : (⟨1, size⟩ : Shape).Idx → Elt F e} (hw : ∀ x, n + (x 0).val < n' → w x = g (n + (x 0).val))
    {Q : α → sProp 𝕄} {k : PUnit → TileProg F L α} :
    upto d L m g n
      ⊢ iprop((upto d L m g n' -∗ wp frame (wpE (defs₀ (F := F)) 𝒱₀ (tV d L) none) Set.univ (k ⟨⟩) Q)
        -∗ wp frame (wpE (defs₀ (F := F)) 𝒱₀ (tV d L) none) Set.univ
          (Prog.lift (.store m (Rect.unit (s := ⟨1, ![N]⟩) off size inb) w Finset.univ hx hm) >>= k) Q) := by
  classical
  iintro H Hk
  ihave H := (upto_open d L m g n) $$ H
  icases H with ⟨%f, %hf, H⟩
  obtain ⟨g', h1, h2⟩ : ∃ g' : ℕ → Elt F e, (∀ y, y < n → g' y = g y) ∧ ∀ x : (⟨1, size⟩ : Shape).Idx, w x = g' (n + (x 0).val) := by
    refine ⟨fun y => if hy : n ≤ y ∧ y - n < size 0 then w (fun a => ⟨y - n, by obtain rfl : a = 0 := Subsingleton.elim _ _; exact hy.2⟩) else g y,
      fun y hy => dif_neg fun h => absurd hy (not_lt.mpr h.1), fun x => ?_⟩
    show w x = dite _ _ _
    rw [dif_pos ⟨Nat.le_add_right _ _, by rw [Nat.add_sub_cancel_left]; exact (x 0).isLt⟩]
    refine congrArg w (funext fun a => Fin.ext ?_)
    obtain rfl : a = 0 := Subsingleton.elim _ _
    exact (Nat.add_sub_cancel_left ..).symm
  iapply (wp_put d L (g := g') (n := n) (n + size 0) ho rfl h2) $$ [H]
  · iapply (upto_intro d L m (g := g') (n := n) (f := f) (fun x hx => (hf x hx).trans (h1 _ hx).symm)); iexact H
  iintro H
  iapply Hk
  ihave H := (upto_open d L m g' (n + size 0)) $$ H
  icases H with ⟨%f', %hf', H⟩
  iapply (upto_intro d L m (g := g) (n := n') (f := f') (fun x hx => by
    refine (hf' x (lt_of_lt_of_le hx hn)).trans ?_
    by_cases hlt : (x 0).val < n
    · exact h1 _ hlt
    · have hs : (x 0).val - n < size 0 := by omega
      have he : n + ((x 0).val - n) = (x 0).val := by omega
      have h3 := h2 (fun a => ⟨(x 0).val - n, by obtain rfl : a = 0 := Subsingleton.elim _ _; exact hs⟩)
      have h4 := hw (fun a => ⟨(x 0).val - n, by obtain rfl : a = 0 := Subsingleton.elim _ _; exact hs⟩) (lt_of_eq_of_lt he hx)
      have h5 := h3.symm.trans h4
      simp only [he] at h5
      exact h5))
  iexact H

theorem read_w8 (f : Buf (Elt F) (bW.view.loc (tV d L))) : (bW.access (Rect.whole S96)).read (Elt F) f = bW.view.read (Elt F) f := Memref.read_access_whole (Elt F) cc0_scratch2 f

/-- Sixteen rows of the shifted table: gathered from the weights, and stored. -/
theorem wp_rows (g : Fin 6) {off : Fin 1 → ℕ} (ho : off 0 = 16 * g.val) (n' : ℕ) (hn' : n' ≤ 16 * g.val + 16) (hn86 : n' ≤ 86) {p : IVec S16 32} (hp : p = rowsV (shift X) g.val) {C : Prop} {dec : Decidable C}
    (hC : C ↔ ∀ a x, ((![p] : Fin 1 → IVec S16 32) a x).toNat < S96.size a) {inb} {hl1 hl2 hx hm} {Q : α → sProp 𝕄} {k : PUnit → TileProg F L α} :
    iprop(upto d L bW (wAt W) 86 ∗ upto d L bWe (wRow X W) (16 * g.val))
      ⊢ iprop((iprop(upto d L bW (wAt W) 86 ∗ upto d L bWe (wRow X W) n') -∗ wp frame (wpE (defs₀ (F := F)) 𝒱₀ (tV d L) none) Set.univ (k ⟨⟩) Q)
        -∗ wp frame (wpE (defs₀ (F := F)) 𝒱₀ (tV d L) none) Set.univ
          (Prog.lift (TpuEff.assume C dec) >>= fun r =>
            SparseCore.vectorLoadIdx bW ![p] (hC.mp r.down) hl1 >>= fun v =>
            Prog.lift (.load bWe (Rect.unit (s := S96) off S16.size inb).toLoadRect hl2) >>= fun _ =>
            Prog.lift (.store bWe (Rect.unit (s := S96) off S16.size inb) v Finset.univ hx hm) >>= k) Q) := by
  subst hp
  iintro ⟨Hw, He⟩ Hk
  simp only [Prog.lift, Prog.bind_op, Prog.bind_ret]
  rw [wp_assume_of _ _ _ _ (hC.mpr (rowsV_lt g))]
  ihave Hw := (upto_open d L bW (wAt W) 86) $$ Hw
  icases Hw with ⟨%f, %hf, Hw⟩
  iapply (SparseCore.wp_vectorLoadIdx 𝒱₀ (tV d L) none Set.univ (base := bW) (S := Finset.univ) (Finset.subset_univ _)) $$ Hw; iintro Hw
  iapply (wp_peek d L) $$ He; iintro %_ He
  iapply (wp_put' d L (n := 16 * g.val) (g := wRow X W) n' ho hn' (fun x hx => by
    have hg := rowsV_toNat (X := X) g x
    rw [read_w8]
    refine (hf (idxAt (s := S96) ![rowsV (shift X) g.val] (rowsV_lt g) x) ?_).trans ?_
    · show (rowsV (shift X) g.val x).toNat < 86
      rw [hg]; omega
    · show wAt W (rowsV (shift X) g.val x).toNat = _
      rw [hg, wRow_eq])) $$ He; iintro He
  iapply Hk
  isplitl [Hw]
  · iapply (upto_intro d L bW hf); iexact Hw
  iexact He

/-- The minimum over the lanes `0 … 10`, and lane 11's. -/
theorem shift_fold : k0_pay47 laneV (tileMinV X 16) (allMin X 10) (tileMin X 11 16) = rowsV (shift X) 0
    ∧ k0_pay48 laneV (tileMinV X 16) (allMin X 10) (tileMin X 11 16) = rowsV (shift X) 1
    ∧ k0_pay49 laneV (tileMinV X 16) (allMin X 10) (tileMin X 11 16) = rowsV (shift X) 2 := ⟨rfl, rfl, rfl⟩

/-- `k0_part7`: the shift, and the table's first 48 rows. -/
theorem wp_part7 {Q : α → sProp 𝕄} {k : (Σ' (_ : BitVec 32), IVec S16 32) → TileProg F L α} :
    iprop(upto d L bW (wAt W) 86 ∗ upto d L bWe (wRow X W) 0)
      ⊢ iprop((iprop(upto d L bW (wAt W) 86 ∗ upto d L bWe (wRow X W) 48) -∗ wp frame (wpE (defs₀ (F := F)) 𝒱₀ (tV d L) none) Set.univ (k ⟨shift X, k0_pay50 laneV⟩) Q)
        -∗ wp frame (wpE (defs₀ (F := F)) 𝒱₀ (tV d L) none) Set.univ
          (onArgs (k0_part7 (F := F) L) laneV (tileMinV X 16) (allMin X 10) (tileMin X 11 16) >>= k) Q) := by
  iintro H Hk
  simp only [onArgs, k0_part7_eq_skeleton]
  rw [wp_bind]
  unfold k0_part7_skel
  iapply (wp_rows d L (X := X) (W := W) 0 rfl 16 (by decide) (by decide) (shift_fold (X := X)).1 (C := k0_chk1 _) .rfl) $$ H; iintro H
  iapply (wp_rows d L (X := X) (W := W) 1 rfl 32 (by decide) (by decide) (shift_fold (X := X)).2.1 (C := k0_chk2 _) .rfl) $$ H; iintro H
  iapply (wp_rows d L (X := X) (W := W) 2 rfl 48 (by decide) (by decide) (shift_fold (X := X)).2.2 (C := k0_chk3 _) .rfl) $$ H; iintro H
  rw [wp_pure]; imodintro
  iapply Hk; iexact H

/-- `k0_part8`: the table's other rows. -/
theorem wp_part8 {Q : α → sProp 𝕄} {k : (Σ' (_ : IVec S16 32), IVec S16 32) → TileProg F L α} :
    iprop(upto d L bW (wAt W) 86 ∗ upto d L bWe (wRow X W) 48)
      ⊢ iprop((iprop(upto d L bW (wAt W) 86 ∗ upto d L bWe (wRow X W) 86) -∗ wp frame (wpE (defs₀ (F := F)) 𝒱₀ (tV d L) none) Set.univ (k ⟨k0_pay54 laneV, k0_pay55⟩) Q)
        -∗ wp frame (wpE (defs₀ (F := F)) 𝒱₀ (tV d L) none) Set.univ
          (onArgs (k0_part8 (F := F) L) laneV (shift X) (k0_pay50 laneV) >>= k) Q) := by
  iintro H Hk
  simp only [onArgs, k0_part8_eq_skeleton]
  rw [wp_bind]
  unfold k0_part8_skel
  iapply (wp_rows d L (X := X) (W := W) 3 rfl 64 (by decide) (by decide) (show k0_pay51 (shift X) (k0_pay50 laneV) = rowsV (shift X) 3 from rfl) (C := k0_chk4 _) .rfl) $$ H; iintro H
  iapply (wp_rows d L (X := X) (W := W) 4 rfl 80 (by decide) (by decide) (show k0_pay52 laneV (shift X) = rowsV (shift X) 4 from rfl) (C := k0_chk5 _) .rfl) $$ H; iintro H
  iapply (wp_rows d L (X := X) (W := W) 5 rfl 86 (by decide) (by decide) (show k0_pay53 laneV (shift X) = rowsV (shift X) 5 from rfl) (C := k0_chk6 _) .rfl) $$ H; iintro H
  rw [wp_pure]; imodintro
  iapply Hk; iexact H

theorem regV_eq : k0_pay56 (k0_pay54 laneV) k0_pay55 = regV := by
  funext x; revert x; decide +kernel

end Table

end Cert.Proof.Seg
-- ==== Proof.Out.lean ====
/-
  The rows of the shared arrays, and the result: a band of the shared sums fetched, summed over the tiles and copied out.
-/
module

public import proofs.«01_k».proof.Proof.Table

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

attribute [local instance] blocks

section Out

variable [FloatOps F] (d : Dev nD) (L : grid0.Coords) {α : Type} {e : EltTy} {X B : S100000.Idx → BitVec 32} {W : S86.Idx → F .f32}

/-- A write of what a view reads of `g` leaves `g`'s elements in the view. -/
theorem write_pin {sp : Space} {s : Shape} (m : Memref sig .scVector sp s e) (f g : Buf (Elt F) (m.view.loc (tV d L)))
    {w : s.Idx → Elt F e} (h : m.view.read (Elt F) g = w) {q : PosShare TreeShare} :
    (m.view.loc (tV d L) ↦[m.view.set]{q} m.view.write (Elt F) f w Finset.univ : sProp 𝕄) ⊢ m.view.loc (tV d L) ↦[m.view.set]{q} g := by
  have he : (m.view.loc (tV d L) ↦[m.view.set]{q} m.view.write (Elt F) f w Finset.univ : sProp 𝕄) = m.view.loc (tV d L) ↦[m.view.set]{q} g :=
    pointsTo_congr fun i hi => by
      subst h
      rw [View.write_read_eq_piecewise]
      exact Finset.piecewise_eq_of_mem _ _ _ hi
  rw [he]

variable (X B W) in
/-- Every tile's sums, a row each. -/
def accF : S16x1024.Idx → F .f32 := fun x => accV X B W (x 0).val (x 1).val
variable (X B W) in
/-- The kernel's result. -/
def outF : S1024.Idx → F .f32 := fun x => outAt X B W (x 0).val 16

/-- The tile's minima are its row of all the tiles'. -/
theorem read_rowMin : (rowMin L).view.read (Elt F) (minsF X : Buf (Elt F) ((rowMin L).view.loc (tV d L))) = minV X (jL L).val 391 := by
  have h : ∀ x : S16.Idx, ((Shape.reshapeEquiv shapeCasts_S1x16_S16 x) 0).val = 0 ∧ ((Shape.reshapeEquiv shapeCasts_S1x16_S16 x) 1).val = (x 0).val := by
    decide +kernel
  have e0 : k0_off4 L 0 = (jL L).val := congrFun (k0_off4_eq L) 0
  have e1 : k0_off4 L 1 = 0 := congrFun (k0_off4_eq L) 1
  funext x
  show laneMin X (k0_off4 L 0 + 1 * ((Shape.reshapeEquiv shapeCasts_S1x16_S16 x) 0).val) (k0_off4 L 1 + 1 * ((Shape.reshapeEquiv shapeCasts_S1x16_S16 x) 1).val) 391 = _
  rw [(h x).1, (h x).2, e0, e1, Nat.mul_zero, Nat.add_zero, Nat.one_mul, Nat.zero_add]
  rfl

/-- The tile's row of the shared sums. -/
abbrev rowAcc : Memref sig .scVector .shared S1024 .f32 :=
  (shAcc.slice (Rect.unit (s := S16x1024) (k0_off10 L) S1x1024.size (k0_off10_inb L)) (fun _ => rfl)).squeeze S1024 squeezes_S1x1024_S1024

/-- The tile's sums are its row of all the tiles'. -/
theorem read_rowAcc : (rowAcc L).view.read (Elt F) (accF X B W : Buf (Elt F) ((rowAcc L).view.loc (tV d L))) = fun x => accV X B W (jL L).val (x 0).val := by
  have h : ∀ x : S1024.Idx, ((Shape.reshapeEquiv (s := S1x1024) (s' := S1024) rfl x) 0).val = 0 ∧ ((Shape.reshapeEquiv (s := S1x1024) (s' := S1024) rfl x) 1).val = (x 0).val := by
    decide +kernel
  have e0 : k0_off10 L 0 = (jL L).val := congrFun (k0_off10_eq L) 0
  have e1 : k0_off10 L 1 = 0 := congrFun (k0_off10_eq L) 1
  funext x
  show accV X B W (k0_off10 L 0 + 1 * ((Shape.reshapeEquiv (s := S1x1024) (s' := S1024) rfl x) 0).val) (k0_off10 L 1 + 1 * ((Shape.reshapeEquiv (s := S1x1024) (s' := S1024) rfl x) 1).val) = _
  rw [(h x).1, (h x).2, e0, e1, Nat.mul_zero, Nat.add_zero, Nat.one_mul, Nat.zero_add]

theorem cond3_lt (h : k0_cond3 L = 1#1) : (jL L).val < 8 := (cond3_iff L).mp h

/-- The tile's band of the shared sums: 128 columns. -/
abbrev bandAcc (h : k0_cond3 L = 1#1) : Memref sig .scVector .shared S16x128 .f32 :=
  shAcc.slice (Rect.unit (s := S16x1024) (k0_off11 L) S16x128.size (k0_off11_inb L h)) (fun _ => rfl)

variable (X B W) in
/-- The band, as the tile holds it. -/
def bandF : S16x128.Idx → F .f32 := fun x => accV X B W (x 0).val (128 * (jL L).val + (x 1).val)

theorem read_bandAcc (h : k0_cond3 L = 1#1) : (bandAcc L h).view.read (Elt F) (accF X B W : Buf (Elt F) ((bandAcc L h).view.loc (tV d L))) = bandF L X B W := by
  have e0 : k0_off11 L 0 = 0 := congrFun (k0_off11_eq L) 0
  have e1 : k0_off11 L 1 = 128 * (jL L).val := congrFun (k0_off11_eq L) 1
  funext x
  show accV X B W (k0_off11 L 0 + 1 * (x 0).val) (k0_off11 L 1 + 1 * (x 1).val) = accV X B W _ _
  rw [e0, e1, Nat.one_mul, Nat.one_mul, Nat.zero_add]

/-- The tile's part of the result. -/
abbrev partOut (h : k0_cond3 L = 1#1) : Memref sig .scVector .hbm S128 .f32 :=
  aOut.slice (Rect.unit (s := S1024) (k0_off20 L) S128.size (k0_off20_inb L h)) (fun _ => rfl)

theorem read_partOut (h : k0_cond3 L = 1#1) : (partOut L h).view.read (Elt F) (outF X B W : Buf (Elt F) ((partOut L h).view.loc (tV d L)))
    = fun x => outAt X B W (128 * (jL L).val + (x 0).val) 16 := by
  have e0 : k0_off20 L 0 = 128 * (jL L).val := congrFun (k0_off20_eq L) 0
  funext x
  show outAt X B W (k0_off20 L 0 + 1 * (x 0).val) 16 = outAt X B W _ _
  rw [e0, Nat.one_mul]

theorem credit_rowAcc : 0 < (rowAcc L).view.dmaCredit := by revert L; decide +kernel
theorem credit_comb : 0 < bComb.view.dmaCredit := by decide +kernel
theorem credit_gmin : 0 < bGmin.view.dmaCredit := by decide +kernel
theorem credit_out (h : k0_cond3 L = 1#1) : 0 < (partOut L h).view.dmaCredit := by revert L; decide +kernel

theorem loop6_trips : k0_t6_loop.trips = 16 := by decide

variable (X B W) in
/-- Sixteen graphs' sums over the first `n` tiles. -/
def colV (c n : ℕ) : FVec F S16 .f32 := fun x => outAt X B W (128 * (jL L).val + (16 * c + (x 0).val)) n

theorem colV_succ (c : ℕ) (n : ℕ) : addf (colV L X B W c n) (fun x => accV X B W n (128 * (jL L).val + (16 * c + (x 0).val))) = colV L X B W c (n + 1) := rfl

theorem col_line (c n : ℕ) : shapeCast S16 (fun x : S1x16.Idx => (fun r y => accV X B W r (128 * (jL L).val + y)) (n + (x 0).val) (16 * c + (x 1).val)) shapeCasts_S1x16_S16
    = fun x => accV X B W n (128 * (jL L).val + (16 * c + (x 0).val)) := row_cast (fun r y => accV X B W r (128 * (jL L).val + y)) n (16 * c)

variable (X B W) in
abbrev cols (n : ℕ) : FVec F S16 .f32 × FVec F S16 .f32 × FVec F S16 .f32 × FVec F S16 .f32 × FVec F S16 .f32 × FVec F S16 .f32 × FVec F S16 .f32 × FVec F S16 .f32 :=
  (colV L X B W 0 n, colV L X B W 1 n, colV L X B W 2 n, colV L X B W 3 n, colV L X B W 4 n, colV L X B W 5 n, colV L X B W 6 n, colV L X B W 7 n)

/-- The loop over the tiles' rows of the band. -/
theorem wp_loop6 (a : BitVec 32) (h : k0_cond3 L = 1#1) {Q : α → sProp 𝕄}
    {k : FVec F S16 .f32 × FVec F S16 .f32 × FVec F S16 .f32 × FVec F S16 .f32 × FVec F S16 .f32 × FVec F S16 .f32 × FVec F S16 .f32 × FVec F S16 .f32 → TileProg F L α} :
    own (F := F) d L cc0_scratch8 (bandF L X B W)
      ⊢ iprop((own (F := F) d L cc0_scratch8 (bandF L X B W) -∗ wp frame (wpE (defs₀ (F := F)) 𝒱₀ (tV d L) none) Set.univ (k (cols L X B W 16)) Q)
        -∗ wp frame (wpE (defs₀ (F := F)) 𝒱₀ (tV d L) none) Set.univ
          (Scf.Loop.for k0_t6_loop (k0_t6_ok L h) (k0_pay7 (F := F), k0_pay8 (F := F), k0_pay9 (F := F), k0_pay10 (F := F), k0_pay11 (F := F), k0_pay12 (F := F), k0_pay13 (F := F), k0_pay14 (F := F))
            (onArgs (k0_t6_body (F := F) L) a h) >>= k) Q) := by
  iintro H Hk
  iapply (Scf.wp_for_bind frame (wpE (defs₀ (F := F)) 𝒱₀ (tV d L) none) Set.univ k0_t6_loop.lb k0_t6_loop.ub k0_t6_loop.st (k0_t6_ok L h) _ _
    (fun n acc => iprop(⌜acc = cols L X B W n⌝ ∗ own (F := F) d L cc0_scratch8 (bandF L X B W))) ?hbody (kk := k) (Q := Q)) $$ [H]
  case hbody =>
    intro n acc
    have hn : n.val < 16 := lt_of_lt_of_eq n.isLt loop6_trips
    iintro ⟨%hacc, H⟩
    subst hacc
    simp only [onArgs, cols]
    unfold k0_t6_body
    dsimp only
    have hf : ∀ x : S16x128.Idx, bComb.view.read (Elt F) (bandF L X B W : Buf (Elt F) (bComb.view.loc (tV d L))) x = (fun r y => accV X B W r (128 * (jL L).val + y)) (x 0).val (x 1).val := fun x => rfl
    iapply (wp_line d L (m := bComb) (g := fun r y => accV X B W r (128 * (jL L).val + y)) hf n.val (16 * 0) (k0_off12_eq n)) $$ H; iintro H
    iapply (wp_line d L (m := bComb) (g := fun r y => accV X B W r (128 * (jL L).val + y)) hf n.val (16 * 1) (k0_off13_eq n)) $$ H; iintro H
    iapply (wp_line d L (m := bComb) (g := fun r y => accV X B W r (128 * (jL L).val + y)) hf n.val (16 * 2) (k0_off14_eq n)) $$ H; iintro H
    iapply (wp_line d L (m := bComb) (g := fun r y => accV X B W r (128 * (jL L).val + y)) hf n.val (16 * 3) (k0_off15_eq n)) $$ H; iintro H
    iapply (wp_line d L (m := bComb) (g := fun r y => accV X B W r (128 * (jL L).val + y)) hf n.val (16 * 4) (k0_off16_eq n)) $$ H; iintro H
    iapply (wp_line d L (m := bComb) (g := fun r y => accV X B W r (128 * (jL L).val + y)) hf n.val (16 * 5) (k0_off17_eq n)) $$ H; iintro H
    iapply (wp_line d L (m := bComb) (g := fun r y => accV X B W r (128 * (jL L).val + y)) hf n.val (16 * 6) (k0_off18_eq n)) $$ H; iintro H
    iapply (wp_line d L (m := bComb) (g := fun r y => accV X B W r (128 * (jL L).val + y)) hf n.val (16 * 7) (k0_off19_eq n)) $$ H; iintro H
    rw [wp_pure]; imodintro
    isplitr
    · ipureintro
      unfold k0_pay15 k0_pay16 k0_pay17 k0_pay18 k0_pay19 k0_pay20 k0_pay21 k0_pay22
      simp only [col_line L]
      rfl
    iexact H
  · isplitr; · ipureintro; rfl
    iexact H
  · iintro %acc ⟨%hacc, H⟩
    subst hacc
    rw [show Scf.trips k0_t6_loop.lb k0_t6_loop.ub k0_t6_loop.st = 16 from loop6_trips]
    iapply Hk; iexact H

variable {O : CellTallies nD τ sig (HIx 2)} {W₀ : Waits sig (HIx 2)}

variable (X B W) in
/-- The band's sums over the tiles, as a function of the column. -/
abbrev outG : ℕ → F .f32 := fun y => outAt X B W (128 * (jL L).val + y) 16

/-- `k0_part4`: the band fetched, and summed over the tiles. -/
theorem wp_part4 (a : BitVec 32) (h : k0_cond3 L = 1#1) {f8 : Buf (Elt F) ((tV d L).loc cc0_scratch8)} {Q : α → sProp 𝕄} {k : PUnit → TileProg F L α} :
    iprop(ctl d L O W₀ ∗ ((bandAcc L h).view.loc (tV d L) ↦[(bandAcc L h).view.set]{fullShare} (accF X B W : Buf (Elt F) ((bandAcc L h).view.loc (tV d L))))
        ∗ own (F := F) d L cc0_scratch8 f8 ∗ upto d L bOut (outG L X B W) 0 ∗ sem0 d L cc0_scoped9.sem)
      ⊢ iprop((iprop(ctl d L O W₀ ∗ ((bandAcc L h).view.loc (tV d L) ↦[(bandAcc L h).view.set]{fullShare} (accF X B W : Buf (Elt F) ((bandAcc L h).view.loc (tV d L))))
            ∗ own (F := F) d L cc0_scratch8 (bandF L X B W) ∗ upto d L bOut (outG L X B W) 128 ∗ sem0 d L cc0_scoped9.sem)
          -∗ wp frame (wpE (defs₀ (F := F)) 𝒱₀ (tV d L) none) Set.univ (k ⟨⟩) Q)
        -∗ wp frame (wpE (defs₀ (F := F)) 𝒱₀ (tV d L) none) Set.univ (onArgs (k0_part4 (F := F) L) a h >>= k) Q) := by
  iintro ⟨Hc, Hb, H8, H9, Hv⟩ Hk
  simp only [onArgs, k0_part4_eq_skeleton]
  rw [wp_bind]
  unfold k0_part4_skel
  iapply (wp_copy d L (O := O) (W₀ := W₀) (src := bandAcc L h) (dst := bComb) (Sd := Finset.univ) (fd := f8) credit_comb (Finset.Subset.refl _) (Finset.subset_univ _)) $$ [Hc Hb H8 Hv]
  · isplitl [Hc]; · iexact Hc
    isplitl [Hb]; · iexact Hb
    isplitl [H8]; · iexact H8
    iexact Hv
  iintro ⟨Hc, Hb, H8, Hv⟩
  rw [read_bandAcc, View.write_whole_univ]
  iapply (wp_loop6 d L a h) $$ H8; iintro H8
  iapply (wp_peek d L) $$ H9; iintro %_ H9
  iapply (wp_put d L (n := 0) (g := outG L X B W) 16 (by rfl) (by rfl) (fun x => rfl)) $$ H9; iintro H9
  iapply (wp_peek d L) $$ H9; iintro %_ H9
  iapply (wp_put d L (n := 16) (g := outG L X B W) 32 (by rfl) (by rfl) (fun x => rfl)) $$ H9; iintro H9
  iapply (wp_peek d L) $$ H9; iintro %_ H9
  iapply (wp_put d L (n := 32) (g := outG L X B W) 48 (by rfl) (by rfl) (fun x => rfl)) $$ H9; iintro H9
  iapply (wp_peek d L) $$ H9; iintro %_ H9
  iapply (wp_put d L (n := 48) (g := outG L X B W) 64 (by rfl) (by rfl) (fun x => rfl)) $$ H9; iintro H9
  iapply (wp_peek d L) $$ H9; iintro %_ H9
  iapply (wp_put d L (n := 64) (g := outG L X B W) 80 (by rfl) (by rfl) (fun x => rfl)) $$ H9; iintro H9
  iapply (wp_peek d L) $$ H9; iintro %_ H9
  iapply (wp_put d L (n := 80) (g := outG L X B W) 96 (by rfl) (by rfl) (fun x => rfl)) $$ H9; iintro H9
  iapply (wp_peek d L) $$ H9; iintro %_ H9
  iapply (wp_put d L (n := 96) (g := outG L X B W) 112 (by rfl) (by rfl) (fun x => rfl)) $$ H9; iintro H9
  iapply (wp_peek d L) $$ H9; iintro %_ H9
  iapply (wp_put d L (n := 112) (g := outG L X B W) 128 (by rfl) (by rfl) (fun x => rfl)) $$ H9; iintro H9
  rw [wp_pure]; imodintro
  iapply Hk
  isplitl [Hc]; · iexact Hc
  isplitl [Hb]; · iexact Hb
  isplitl [H8]; · iexact H8
  isplitl [H9]; · iexact H9
  iexact Hv

/-- The result's part copied out. -/
theorem wp_out (h : k0_cond3 L = 1#1) {fo : Buf (Elt F) ((partOut L h).view.loc (tV d L))} {h1 h2 h3 h4 h5} {Q : α → sProp 𝕄} {k : PUnit → TileProg F L α} :
    iprop(ctl d L O W₀ ∗ upto d L bOut (outG L X B W) 128 ∗ ((partOut L h).view.loc (tV d L) ↦[(partOut L h).view.set]{fullShare} fo) ∗ sem0 d L cc0_scoped10.sem)
      ⊢ iprop((iprop(ctl d L O W₀ ∗ upto d L bOut (outG L X B W) 128
            ∗ ((partOut L h).view.loc (tV d L) ↦[(partOut L h).view.set]{fullShare} (outF X B W : Buf (Elt F) ((partOut L h).view.loc (tV d L)))) ∗ sem0 d L cc0_scoped10.sem)
          -∗ wp frame (wpE (defs₀ (F := F)) 𝒱₀ (tV d L) none) Set.univ (k ⟨⟩) Q)
        -∗ wp frame (wpE (defs₀ (F := F)) 𝒱₀ (tV d L) none) Set.univ
          (Prog.lift (.enqueueDma bOut (.here (partOut L h)) (.dma cc0_scoped10.sem) h1 h2 h3) >>= fun _ =>
            Prog.lift (.waitDma2 cc0_scoped10.sem bOut (partOut L h) h4 h5) >>= k) Q) := by
  iintro ⟨Hc, H9, Ho, Hv⟩ Hk
  ihave H9 := (upto_open d L bOut (outG L X B W) 128) $$ H9
  icases H9 with ⟨%f, %hf, H9⟩
  iapply (wp_copy d L (O := O) (W₀ := W₀) (src := bOut) (dst := partOut L h) (fs := f) (fd := fo) (credit_out L h) (Finset.subset_univ _) (Finset.Subset.refl _)) $$ [Hc H9 Ho Hv]
  · isplitl [Hc]; · iexact Hc
    isplitl [H9]; · iexact H9
    isplitl [Ho]; · iexact Ho
    iexact Hv
  iintro ⟨Hc, H9, Ho, Hv⟩
  ihave Ho := (write_pin d L (partOut L h) fo (outF X B W) ((read_partOut L h).trans (funext fun x => (hf x (x 0).isLt).symm))) $$ Ho
  iapply Hk
  isplitl [Hc]; · iexact Hc
  isplitl [H9]
  · iapply (upto_intro d L bOut hf); iexact H9
  isplitl [Ho]; · iexact Ho
  iexact Hv

end Out

end Cert.Proof.Seg
-- ==== Proof.Barrier.lean ====
/-
  The tiles' meetings. One round of thirty-two unit duties on every tile's barrier cell: duty `i` is tile `i`'s first
  arrival, duty `16 + i` its second. A first wait takes sixteen of the round's units, the second the rest. Since a
  fast tile's second arrival may fill a slow tile's first wait, no arrival hands over the rows of minima: each tile
  deposits its row in an invariant before its first arrival, and an arrival brings the witness of the deposit.
-/
module

public import proofs.«01_k».proof.Proof.Out

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

attribute [local instance] blocks

/-! ## The shared arrays and their parts -/

/-- SparseCore `c`'s shared minima and shared sums, as every tile of it addresses them. -/
abbrev minLoc (d : Dev nD) (c : Fin τ.nSC) : Loc nD τ sig := (V d c ⟨0, by decide⟩).loc cc0_scratch10
abbrev accLoc (d : Dev nD) (c : Fin τ.nSC) : Loc nD τ sig := (V d c ⟨0, by decide⟩).loc cc0_scratch11

theorem minLoc_eq (d : Dev nD) (L : grid0.Coords) : shMin.view.loc (tV d L) = minLoc d (cV L) := rfl
theorem accLoc_eq (d : Dev nD) (L : grid0.Coords) : shAcc.view.loc (tV d L) = accLoc d (cV L) := rfl

/-- Row `k` of the minima; row `i` of the sums; the 128 columns of band `j`; where they meet; part `j` of the result. -/
def minRow (k : ℕ) : Finset S16x16.Idx := Finset.univ.filter fun x => (x 0).val = k
def accRow (i : ℕ) : Finset S16x1024.Idx := Finset.univ.filter fun x => (x 0).val = i
def bandSet (j : ℕ) : Finset S16x1024.Idx := Finset.univ.filter fun x => 128 * j ≤ (x 1).val ∧ (x 1).val < 128 * j + 128
def blkSet (i j : ℕ) : Finset S16x1024.Idx := Finset.univ.filter fun x => (x 0).val = i ∧ 128 * j ≤ (x 1).val ∧ (x 1).val < 128 * j + 128
def partSet (j : ℕ) : Finset S1024.Idx := Finset.univ.filter fun x => 128 * j ≤ (x 0).val ∧ (x 0).val < 128 * j + 128

variable [FloatOps F]

-- Each device's feature indices, graph numbers and weights.
variable (VX VB : Dev nD → S100000.Idx → BitVec 32) (VW : Dev nD → S86.Idx → F .f32)

abbrev minPts (d : Dev nD) (c : Fin τ.nSC) (k : ℕ) (q : PosShare TreeShare) : sProp 𝕄 :=
  minLoc d c ↦[minRow k]{q} (minsF (VX d) : Buf (Elt F) (minLoc d c))
abbrev blkPts (d : Dev nD) (c : Fin τ.nSC) (i j : ℕ) : sProp 𝕄 :=
  accLoc d c ↦[blkSet i j]{fullShare} (accF (VX d) (VB d) (VW d) : Buf (Elt F) (accLoc d c))

/-! ## The cells and their schedule -/

abbrev bcell (d : Dev nD) (c : Fin τ.nSC) (j : Fin τ.nSub) : GSem nD τ sig := (V d c j, .reg sc_bar0)
/-- The key of tile `k`'s deposit among the rounds library's cells: a position in it is all that is used. -/
abbrev gcell (d : Dev nD) (c : Fin τ.nSC) (k : Fin τ.nSub) : GSem nD τ sig := (V d c k, .reg sc_go)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- All the deposits of a SparseCore made. -/
abbrev allDone (d : Dev nD) (c : Fin τ.nSC) : sProp 𝕄 := bigSep Finset.univ fun k : Fin τ.nSub => reached EB (gcell d c k) 1

/-- What a duty brings: a first arrival, that the tile's row of minima is deposited; a second, that all are, and the tile's
    block of the owner's band of the sums. -/
def bPay (g : GSem nD τ sig) (n : ℕ) : sProp 𝕄 :=
  match g with
  | ((d, .scVector c j), _) =>
    if h : n < τ.nSub then reached EB (gcell d c ⟨n, h⟩) 1
    else iprop(allDone d c ∗ if j.val < 8 then blkPts VX VB VW d c (n - 16) j.val else emp)
  | _ => iprop(emp)

/-- One round, of thirty-two unit duties, on each tile's barrier cell. -/
def bRd : Rounds.Schedule (GSem nD τ sig) ℕ 𝕄 where
  duties g r := if isBar g ∧ r = 0 then Finset.range 32 else ∅
  amount _ _ _ := 1
  payload g _ n := bPay VX VB VW g n
  amount_pos _ _ _ _ := Nat.one_pos

instance bRd_payload_storable (g : GSem nD τ sig) (r n : ℕ) : BI.Storable (upEmb : UEmb _ 𝕄) ((bRd VX VB VW).payload g r n) := by
  show BI.Storable upEmb (bPay VX VB VW g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd VX VB VW).duties (bcell d c j) 0 = Finset.range 32 := by
  simp [bRd, isBar]
theorem bRd_duties_succ (g : GSem nD τ sig) (r : ℕ) (hr : 1 ≤ r) : (bRd VX VB VW).duties g r = ∅ :=
  if_neg fun h => absurd h.2 (Nat.ne_of_gt hr)
theorem bRd_expect (d : Dev nD) (c : Fin τ.nSC) (j : Fin τ.nSub) : (bRd VX VB VW).expect (bcell d c j) 0 = 32 := by
  unfold Rounds.Schedule.expect; rw [bRd_duties₀]
  show ∑ x ∈ Finset.range 32, 1 = 32
  rw [Finset.sum_const, Finset.card_range]; rfl

/-- A persistent assertion that follows for each member follows for all. -/
theorem pers_all {I : Type} [DecidableEq I] {P : sProp 𝕄} {Φ : I → sProp 𝕄} [∀ i, BI.Persistent (Φ i)] (s : Finset I) (h : ∀ i ∈ s, P ⊢ Φ i) : P ⊢ bigSep s Φ := by
  induction s using Finset.induction_on with
  | empty => rw [bigSep_empty]; iintro -; iempintro
  | insert a s ha ih =>
    rw [SparseCore.bigSep_insert' ha]
    iintro H
    ihave H2 := (persistent_entails_right (h a (Finset.mem_insert_self _ _))) $$ H
    icases H2 with ⟨H1, H⟩
    isplitl [H1]; · iexact H1
    iapply (ih fun i hi => h i (Finset.mem_insert_of_mem hi)); iexact H

/-- A persistent assertion beside a family reaches every member. -/
theorem beside_all {I : Type} [DecidableEq I] {P : sProp 𝕄} [BI.Persistent P] {s : Finset I} {Φ Ψ : I → sProp 𝕄} (h : ∀ i ∈ s, iprop(P ∗ Φ i) ⊢ Ψ i) :
    iprop(P ∗ bigSep s Φ) ⊢ bigSep s Ψ := by
  induction s using Finset.induction_on with
  | empty => rw [bigSep_empty, bigSep_empty]; iintro ⟨-, H⟩; iexact H
  | insert a s ha ih =>
    rw [SparseCore.bigSep_insert' ha, SparseCore.bigSep_insert' ha]
    iintro ⟨#HP, Ha, Hs⟩
    isplitl [Ha]
    · iapply (h a (Finset.mem_insert_self _ _)); isplitr; · iexact HP
      iexact Ha
    · iapply (ih fun i hi => h i (Finset.mem_insert_of_mem hi)); isplitr; · iexact HP
      iexact Hs

/-- Sixteen of the units: whoever's they are, every tile's row is deposited. -/
theorem pays_done (d : Dev nD) (c : Fin τ.nSC) (j : Fin τ.nSub) {S : Finset ℕ} (hS : S ⊆ Finset.range 32) (hc : 16 + (Finset.range 32 \ S).card ≤ 32) :
    (bigSep S fun n => (bRd VX VB VW).payload (bcell d c j) 0 n) ⊢ allDone d c := by
  by_cases h : ∃ n ∈ S, 16 ≤ n
  · obtain ⟨n, hn, h16⟩ := h
    refine (bigSep_elim hn).trans ?_
    show bPay VX VB VW (bcell d c j) n ⊢ _
    unfold bPay; dsimp only
    rw [dif_neg (show ¬ n < τ.nSub from not_lt.mpr h16)]
    exact sep_elim_left
  · refine pers_all _ fun k _ => ?_
    have hk : k.val ∈ S := by
      have hsub : S ⊆ Finset.range 16 := fun n hn => Finset.mem_range.mpr (by by_contra hlt; exact h ⟨n, hn, not_lt.mp hlt⟩)
      have hcard : 16 ≤ S.card := by
        have := Finset.card_sdiff_add_card_eq_card hS
        rw [Finset.card_range] at this; omega
      have := Finset.eq_of_subset_of_card_le hsub (by rw [Finset.card_range]; exact hcard)
      rw [this]; exact Finset.mem_range.mpr k.isLt
    refine (bigSep_elim hk).trans ?_
    show bPay VX VB VW (bcell d c j) k.val ⊢ _
    unfold bPay; dsimp only
    rw [dif_pos k.isLt]

/-- All thirty-two of a band's owner: the band's sixteen blocks. -/
theorem pays_blocks (d : Dev nD) (c : Fin τ.nSC) (j : Fin τ.nSub) (hj : j.val < 8) :
    (bigSep (Finset.range 32) fun n => (bRd VX VB VW).payload (bcell d c j) 0 n) ⊢ bigSep Finset.univ fun i : Fin 16 => blkPts VX VB VW d c i.val j.val := by
  let e : Fin 16 ↪ ℕ := ⟨fun i => 16 + i.val, fun a b h => Fin.ext (Nat.add_left_cancel h)⟩
  have hsub : Finset.univ.map e ⊆ Finset.range 32 := fun n hn => by
    obtain ⟨i, -, rfl⟩ := Finset.mem_map.mp hn
    exact Finset.mem_range.mpr (show 16 + i.val < 32 by omega)
  refine (bigSep_subset hsub).trans ?_
  rw [bigSep_map]
  refine bigSep_mono fun i _ => ?_
  show bPay VX VB VW (bcell d c j) (16 + i.val) ⊢ _
  unfold bPay; dsimp only
  rw [dif_neg (show ¬ 16 + i.val < τ.nSub from not_lt.mpr (Nat.le_add_right 16 _)), if_pos hj, Nat.add_sub_cancel_left]
  exact sep_elim_right

/-! ## The deposits -/

/-- The share of a row that is tile `j`'s. -/
abbrev cut (j : Fin τ.nSub) : PosShare TreeShare := Transfers.dealOf fullShare (Finset.univ : Finset (Fin τ.nSub)) j

/-- The deposit of tile `k`'s row of minima: not made yet; or made, and each tile's share of it there or withdrawn. -/
def depBody (d : Dev nD) (c : Fin τ.nSC) (k : Fin τ.nSub) : sProp 𝕄 :=
  iprop(roundAuth EB (gcell d c k) 0 ∅ 0
    ∨ (roundAuth EB (gcell d c k) 1 ∅ 0 ∗ bigSep Finset.univ fun j : Fin τ.nSub => iprop(minPts (F := F) VX d c k.val (cut j) ∨ dutyTok EB (gcell d c k) 0 j.val)))

instance depBody_storable (d : Dev nD) (c : Fin τ.nSC) (k : Fin τ.nSub) : BI.Storable (upEmb : UEmb _ 𝕄) (depBody (F := F) VX d c k) := by
  unfold depBody; infer_instance

/-- A tile deposits its row. -/
theorem deposit (d : Dev nD) (c : Fin τ.nSC) (k : Fin τ.nSub) {κ : ℕ} :
    iprop(inv κ (depBody (F := F) VX d c k) ∗ atPos EB (gcell d c k) 0 ∅ 0 ∗ minPts (F := F) VX d c k.val fullShare)
      ⊢ iprop(|={Set.univ}=> reached EB (gcell d c k) 1 : sProp 𝕄) := by
  iintro ⟨Hinv, Hat, Hm⟩
  imod (inv_acc (Set.mem_univ κ)) $$ Hinv with ⟨Hb, Hclose⟩
  unfold depBody
  icases Hb with (Ha | ⟨Ha, -⟩)
  · imod (roundAuth_atPos_move EB 1 ∅ 0 (Nat.zero_le 1)) $$ [Ha Hat] with ⟨Ha, -⟩
    · isplitl [Ha] <;> iassumption
    imod (roundAuth_witness EB) $$ Ha with ⟨Ha, #Hr⟩
    ihave Hc := Hclose $$ [Ha Hm]
    · iright
      isplitl [Ha]; · iexact Ha
      ihave Hm := (Entails.of_eq (Transfers.pointsTo_deal (Finset.univ : Finset (Fin τ.nSub)) ⟨⟨0, by decide⟩, Finset.mem_univ _⟩ fullShare)) $$ Hm
      iapply (SparseCore.ent (bigSep_mono (s := (Finset.univ : Finset (Fin τ.nSub))) (Φ := fun j => minPts (F := F) VX d c k.val (cut j))
        (Ψ := fun j => iprop(minPts (F := F) VX d c k.val (cut j) ∨ dutyTok EB (gcell d c k) 0 j.val)) fun j _ => or_introL))
      iexact Hm
    imod Hc
    imodintro; iexact Hr
  · iexfalso
    ihave H := (roundAuth_atPos_agree EB) $$ [Ha Hat]
    · isplitl [Ha] <;> iassumption
    icases H with %h
    exact absurd h.1 (by decide)

/-- A tile withdraws its share of a row deposited. -/
theorem withdraw (d : Dev nD) (c : Fin τ.nSC) (k j : Fin τ.nSub) {κ : ℕ} :
    iprop(inv κ (depBody (F := F) VX d c k) ∗ reached EB (gcell d c k) 1 ∗ dutyTok EB (gcell d c k) 0 j.val)
      ⊢ iprop(|={Set.univ}=> minPts (F := F) VX d c k.val (cut j) : sProp 𝕄) := by
  iintro ⟨Hinv, #Hr, Ht⟩
  imod (inv_acc (Set.mem_univ κ)) $$ Hinv with ⟨Hb, Hclose⟩
  unfold depBody
  icases Hb with (Ha | ⟨Ha, Hs⟩)
  · ihave H := (roundAuth_reached_le EB) $$ [Ha]
    · isplitl [Ha]; · iexact Ha
      iexact Hr
    icases H with %h
    exact absurd h (by decide)
  · ihave Hs := (Entails.of_eq (SparseCore.bigSep_erase' (Finset.mem_univ j))) $$ Hs
    icases Hs with ⟨(Hm | Ht'), Hs⟩
    · ihave Hc := Hclose $$ [Ha Ht Hs]
      · iright
        isplitl [Ha]; · iexact Ha
        iapply (Entails.of_eq (SparseCore.bigSep_erase' (Finset.mem_univ j)).symm)
        isplitl [Ht]; · iright; iexact Ht
        iexact Hs
      imod Hc
      imodintro; iexact Hm
    · iexfalso
      iapply (dutyTok_dutyTok_false EB); isplitl [Ht] <;> iassumption

/-- What a tile pays across all the cells is a unit on each. -/
abbrev dues (d : Dev nD) (c : Fin τ.nSC) (ι : HIx 2) : CellTallies nD τ sig (HIx 2) := ∑ j : Fin (grid0.bound 1), tallyAt (bcell d c (j.castLE hsub0)) ι 1

abbrev barInvs (d : Dev nD) (c : Fin τ.nSC) (κ : GSem nD τ sig → ℕ) : sProp 𝕄 :=
  bigSep Finset.univ fun j : Fin (grid0.bound 1) => cellInv EB (bRd VX VB VW) (κ (bcell d c (j.castLE hsub0))) (bcell d c (j.castLE hsub0))

theorem dues_none (d : Dev nD) (c : Fin τ.nSC) (q : Fin 2) (g : GSem nD τ sig) : dues d c (some q) g none = 0 := by
  unfold dues
  rw [Finset.sum_apply, Finsupp.finsetSum_apply]
  exact Finset.sum_eq_zero fun j _ => by rw [tallyAt_apply, if_neg (fun e => nomatch e.2)]

theorem dues_pos {d : Dev nD} {c : Fin τ.nSC} {ι ι' : HIx 2} {g : GSem nD τ sig} (h : 0 < dues d c ι g ι') : ∃ j : Fin (grid0.bound 1), g = bcell d c (j.castLE hsub0) ∧ ι' = ι := by
  unfold dues at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- The level of a barrier cell at the first meeting, and at the second. -/
theorem lev_bar (d : Dev nD) (c : Fin τ.nSC) (j : Fin τ.nSub) (q : Fin 2) : (K (F := F)).lev (bcell d c j) (some q) = 8 * q.val + 3 :=
  (K (F := F)).lev_V_reg d c j (show (sc_bar0 : Sem sig) ≠ (K (F := F)).go from sc_bar0_ne_go) q

section Meet

variable (d : Dev nD) (L : grid0.Coords) {α : Type}

/-- The arrivals of a meeting, each paying the duty `n` of a tile's round; the wait is left. -/
theorem wp_arrive (κ : GSem nD τ sig → ℕ) (n : ℕ) (hn : n < 32) (ι : HIx 2) (O : CellTallies nD τ sig (HIx 2)) (W : Waits sig (HIx 2))
    {Q : α → sProp 𝕄} {k : PUnit → TileProg F L α} :
    iprop(barInvs VX VB VW d (cV L) κ ∗ owes (tV d L) (O + dues d (cV L) ι) W
        ∗ (bigSep Finset.univ fun j : Fin (grid0.bound 1) => iprop(dutyTok EB (bcell d (cV L) (j.castLE hsub0)) 0 n
            ∗ bPay VX VB VW (bcell d (cV L) (j.castLE hsub0)) n ∗ reached EB (bcell d (cV L) (j.castLE hsub0)) 0)))
      ⊢ iprop((owes (tV d L) O W -∗ wp frame (wpE (defs₀ (F := F)) 𝒱₀ (tV d L) none) Set.univ (.op (TpuEff.semWait sc_bar0 (grid0.bound 1)) k) Q)
        -∗ wp frame (wpE (defs₀ (F := F)) 𝒱₀ (tV d L) none) Set.univ (SparseCore.subcoreBarrier sc_bar0 (grid0.bound 1) hsub0 >>= k) Q) := by
  rw [SparseCore.subcoreBarrier_bind, show (wp frame (wpE (defs₀ (F := F)) 𝒱₀ (tV d L) none) Set.univ (.op .deviceId _) Q : sProp 𝕄) = _ from wp_deviceId 𝒱₀ (tV d L) none Set.univ]
  -- the claim over any list of cells without repetition, the other cells' dues still among `P`
  have key : ∀ (l : List (Fin (grid0.bound 1))) (P : CellTallies nD τ sig (HIx 2)), l.Nodup →
      iprop(barInvs VX VB VW d (cV L) κ ∗ owes (tV d L) (P + ∑ j ∈ l.toFinset, tallyAt (bcell d (cV L) (j.castLE hsub0)) ι 1) W
        ∗ (bigSep l.toFinset fun j : Fin (grid0.bound 1) => iprop(dutyTok EB (bcell d (cV L) (j.castLE hsub0)) 0 n
            ∗ bPay VX VB VW (bcell d (cV L) (j.castLE hsub0)) n ∗ reached EB (bcell d (cV L) (j.castLE hsub0)) 0))
        ∗ (owes (tV d L) P W -∗ wp frame (wpE (defs₀ (F := F)) 𝒱₀ (tV d L) none) Set.univ (.op (TpuEff.semWait sc_bar0 (grid0.bound 1)) k) Q))
      ⊢ wp frame (wpE (defs₀ (F := F)) 𝒱₀ (tV d L) none) Set.univ
          (l.foldr (fun j r => .op (TpuEff.semSignal (d, .scVector (cV L) (j.castLE hsub0)) sc_bar0 1) fun _ => r) (.op (TpuEff.semWait sc_bar0 (grid0.bound 1)) k)) Q := by
    intro l
    induction l with
    | nil =>
      intro P _
      iintro ⟨-, HO, -, Hk⟩
      iapply Hk
      have h0 : P + ∑ j ∈ (([] : List (Fin (grid0.bound 1))).toFinset), tallyAt (bcell d (cV L) (j.castLE hsub0)) ι 1 = P := by
        rw [List.toFinset_nil, Finset.sum_empty, add_zero]
      rw [h0]
      iexact HO
    | cons j l ih =>
      intro P hl
      obtain ⟨hjl, hl⟩ := List.nodup_cons.mp hl
      have hj : j ∉ l.toFinset := fun h => hjl (List.mem_toFinset.mp h)
      rw [List.toFinset_cons, SparseCore.bigSep_insert' hj, Finset.sum_insert hj, List.foldr_cons]
      iintro ⟨#Hinv, HO, ⟨⟨Ht, Hp, Hr⟩, Hrest⟩, Hk⟩
      iapply (Rounds.wp_signal 𝒱₀ EB (bRd VX VB VW) (tV d L) none (dst := V d (cV L) (j.castLE hsub0)) (sem := sc_bar0) (r := 0) (d := n) (k' := 1)
        (κ := κ (bcell d (cV L) (j.castLE hsub0))) (by rw [bRd_duties₀]; exact Finset.mem_range.mpr hn) rfl ι
        (O := P + ∑ j ∈ l.toFinset, tallyAt (bcell d (cV L) (j.castLE hsub0)) ι 1)
        (O₀ := P + (tallyAt (bcell d (cV L) (j.castLE hsub0)) ι 1 + ∑ j ∈ l.toFinset, tallyAt (bcell d (cV L) (j.castLE hsub0)) ι 1))
        (by rw [add_comm (tallyAt (bcell d (cV L) (j.castLE hsub0)) ι 1), add_assoc]) (W := W)) $$ [HO Ht Hp Hr]
      · isplitr; · iapply (SparseCore.ent (bigSep_elim (Φ := fun j : Fin (grid0.bound 1) => cellInv EB (bRd VX VB VW) (κ (bcell d (cV L) (j.castLE hsub0))) (bcell d (cV L) (j.castLE hsub0))) (Finset.mem_univ j))); iexact Hinv
        isplitl [HO]; · iexact HO
        isplitl [Ht]; · iexact Ht
        isplitl [Hp]; · iapply (Entails.of_eq (show bPay VX VB VW (bcell d (cV L) (j.castLE hsub0)) n = (bRd VX VB VW).payload (V d (cV L) (j.castLE hsub0), .reg sc_bar0) 0 n from rfl)); iexact Hp
        iexact Hr
      iintro HO
      iapply (ih P hl)
      isplitr; · iexact Hinv
      isplitl [HO]; · iexact HO
      isplitl [Hrest]; · iexact Hrest
      iexact Hk
  have h := key (List.finRange (grid0.bound 1)) O (List.nodup_finRange _)
  rw [List.toFinset_finRange] at h
  iintro ⟨Hinv, HO, Hd⟩ Hk
  iapply h
  isplitl [Hinv]; · iexact Hinv
  isplitl [HO]; · iexact HO
  isplitl [Hd]; · iexact Hd
  iexact Hk

/-- The wait of a meeting is below what is still owed. -/
theorem may_meet (q : Fin 2) (O : CellTallies nD τ sig (HIx 2)) (hO : ∀ g ι, 0 < O g ι → 8 * q.val + 3 < (K (F := F)).lev g ι) :
    (levAts (K (F := F)).L (K (F := F)).lev : sProp 𝕄) ⊢ MayWait (tV d L) (.reg sc_bar0) (some q) O :=
  (K (F := F)).mayOwe_of_bound (8 * q.val + 3) (fun p hp => by
    rw [Finset.mem_singleton] at hp; subst hp
    exact le_of_eq (lev_bar (F := F) d (cV L) (jV L) q)) hO

theorem blk_zero : Blocks.blk (0 : Fin 1) (some (0 : Fin 2)) := Or.inl rfl
theorem blk_one : Blocks.blk (0 : Fin 1) (some (1 : Fin 2)) := Or.inr rfl

/-- The first meeting: a tile whose row is deposited leaves it knowing that all are. -/
theorem wp_meet1 (κ : GSem nD τ sig → ℕ) (O : CellTallies nD τ sig (HIx 2)) (W₀ : Waits sig (HIx 2)) (hO : ∀ g ι, 0 < O g ι → 14 ≤ (K (F := F)).lev g ι)
    {Q : α → sProp 𝕄} {k : PUnit → TileProg F L α} :
    iprop(barInvs VX VB VW d (cV L) κ ∗ ctl d L (O + dues d (cV L) (some 1) + dues d (cV L) (some 0)) W₀
        ∗ (bigSep Finset.univ fun j : Fin (grid0.bound 1) => iprop(dutyTok EB (bcell d (cV L) (j.castLE hsub0)) 0 (jV L).val ∗ reached EB (bcell d (cV L) (j.castLE hsub0)) 0))
        ∗ reached EB (gcell d (cV L) (jV L)) 1 ∗ cred (tallyAt (bcell d (cV L) (jV L)) (some 0) 16) ∗ atPos EB (bcell d (cV L) (jV L)) 0 ∅ 0)
      ⊢ iprop((∀ S : Finset ℕ, (⌜S ⊆ Finset.range 32⌝ ∗ allDone d (cV L) ∗ ctl d L (O + dues d (cV L) (some 1)) W₀ ∗ atPos EB (bcell d (cV L) (jV L)) 0 S 16
            ∗ bigSep S fun n => (bRd VX VB VW).payload (bcell d (cV L) (jV L)) 0 n)
          -∗ wp frame (wpE (defs₀ (F := F)) 𝒱₀ (tV d L) none) Set.univ (k ⟨⟩) Q)
        -∗ wp frame (wpE (defs₀ (F := F)) 𝒱₀ (tV d L) none) Set.univ (SparseCore.subcoreBarrier sc_bar0 (grid0.bound 1) hsub0 >>= k) Q) := by
  iintro ⟨#Hinv, Hctl, Ht, #Hdep, Hcr, Hat⟩ Hk
  unfold ctl
  icases Hctl with ⟨#Hlv, %hN, %W, %hW, HO⟩
  iapply (wp_arrive VX VB VW d L κ (jV L).val (Nat.lt_trans (jV L).isLt (by decide)) (some 0) (O + dues d (cV L) (some 1)) W) $$ [HO Ht]
  · isplitr; · iexact Hinv
    isplitl [HO]; · iexact HO
    iapply (beside_all (P := reached EB (gcell d (cV L) (jV L)) 1) (s := Finset.univ)
      (Φ := fun j : Fin (grid0.bound 1) => iprop(dutyTok EB (bcell d (cV L) (j.castLE hsub0)) 0 (jV L).val ∗ reached EB (bcell d (cV L) (j.castLE hsub0)) 0)) fun j _ => by
        iintro ⟨#Hd, Ht, Hr⟩
        isplitl [Ht]; · iexact Ht
        isplitr
        · unfold bPay; dsimp only
          rw [dif_pos (jV L).isLt]; iexact Hd
        iexact Hr)
    isplitr; · iexact Hdep
    iexact Ht
  iintro HO
  ihave Hmw := (may_meet (F := F) d L 0 (O + dues d (cV L) (some 1)) fun g ι h => by
    rw [Pi.add_apply, Finsupp.add_apply] at h
    rcases Nat.eq_zero_or_pos (O g ι) with h0 | h0
    · rw [h0, Nat.zero_add] at h
      obtain ⟨j, rfl, rfl⟩ := dues_pos h
      rw [lev_bar]; decide
    · exact Nat.lt_of_lt_of_le (by decide) (hO g ι h0)) $$ Hlv
  iapply (Rounds.wp_wait 𝒱₀ EB (bRd VX VB VW) (tV d L) none (sm := .reg sc_bar0) (k' := 16) (κ := κ (bcell d (cV L) (jV L))) (wpE_semWait_eq 𝒱₀ (tV d L) none Set.univ)
    (Set.mem_univ _) (cr := Finsupp.single (some 0) 16) (O := O + dues d (cV L) (some 1)) (W := W) {(.reg sc_bar0, some 0)} (R := 0) (m := 0) (T := ∅)
    (by rw [Util.total_single]) (image_single_subset (.reg sc_bar0) (some 0) 16)) $$ [Hcr HO Hmw Hat]
  · isplitr; · iapply (SparseCore.ent (bigSep_elim (Φ := fun j : Fin (grid0.bound 1) => cellInv EB (bRd VX VB VW) (κ (bcell d (cV L) (j.castLE hsub0))) (bcell d (cV L) (j.castLE hsub0))) (Finset.mem_univ (jL L)))); iexact Hinv
    isplitl [Hcr]; · iexact Hcr
    isplitl [HO]; · iexact HO
    isplitl [Hmw]; · iexact Hmw
    iexact Hat
  iintro %S ⟨%hS, HO, Hat, Hpay⟩
  obtain ⟨-, hS1, hS2⟩ := hS
  have hS1 : S ⊆ Finset.range 32 := by rw [← bRd_duties₀ VX VB VW d (cV L) (jV L)]; exact hS1
  have hS2 : 16 + (Finset.range 32 \ S).card ≤ 32 := by
    have h := hS2
    rw [show (bRd VX VB VW).expect (tV d L, .reg sc_bar0) 0 = 32 from bRd_expect VX VB VW d (cV L) (jV L), show (bRd VX VB VW).duties (tV d L, .reg sc_bar0) 0 = Finset.range 32 from bRd_duties₀ VX VB VW d (cV L) (jV L)] at h
    omega
  rw [Finset.sdiff_empty]
  ihave H := (persistent_entails_right (pays_done VX VB VW d (cV L) (jV L) hS1 hS2)) $$ Hpay
  icases H with ⟨Hall, Hpay⟩
  iapply Hk $$ %S
  isplitr; · ipureintro; exact hS1
  isplitl [Hall]; · iexact Hall
  isplitl [HO]
  · isplitr; · iexact Hlv
    isplitr
    · ipureintro; intro g
      have h := hN g
      rw [Pi.add_apply, Finsupp.add_apply] at h
      exact (Nat.add_eq_zero_iff.mp h).1
    iexists (W ∪ {(.reg sc_bar0, some 0)})
    isplitr
    · ipureintro; intro p hp
      rcases Finset.mem_union.mp hp with hp | hp
      · exact hW p hp
      · rw [Finset.mem_singleton] at hp; subst hp; exact Or.inr (Or.inr blk_zero)
    iexact HO
  isplitl [Hat]; · iexact Hat
  iexact Hpay

/-- The second meeting: a tile that hands over its blocks of the sums leaves it with all that its cell's round brings, the
    cell closed and at zero. -/
theorem wp_meet2 (κ : GSem nD τ sig → ℕ) (O : CellTallies nD τ sig (HIx 2)) (W₀ : Waits sig (HIx 2)) (hO : ∀ g ι, 0 < O g ι → 14 ≤ (K (F := F)).lev g ι)
    {S : Finset ℕ} (hS : S ⊆ Finset.range 32) {Q : α → sProp 𝕄} {k : PUnit → TileProg F L α} :
    iprop(barInvs VX VB VW d (cV L) κ ∗ ctl d L (O + dues d (cV L) (some 1)) W₀
        ∗ (bigSep Finset.univ fun j : Fin (grid0.bound 1) => iprop((dutyTok EB (bcell d (cV L) (j.castLE hsub0)) 0 (16 + (jV L).val) ∗ reached EB (bcell d (cV L) (j.castLE hsub0)) 0)
            ∗ if j.val < 8 then blkPts VX VB VW d (cV L) (jV L).val j.val else emp))
        ∗ allDone d (cV L) ∗ cred (tallyAt (bcell d (cV L) (jV L)) (some 1) 16) ∗ atPos EB (bcell d (cV L) (jV L)) 0 S 16
        ∗ bigSep S fun n => (bRd VX VB VW).payload (bcell d (cV L) (jV L)) 0 n)
      ⊢ iprop(((ctl d L O W₀ ∗ semVal (bcell d (cV L) (jV L)) 0 ∗ bigSep (Finset.range 32) fun n => (bRd VX VB VW).payload (bcell d (cV L) (jV L)) 0 n)
          -∗ wp frame (wpE (defs₀ (F := F)) 𝒱₀ (tV d L) none) Set.univ (k ⟨⟩) Q)
        -∗ wp frame (wpE (defs₀ (F := F)) 𝒱₀ (tV d L) none) Set.univ (SparseCore.subcoreBarrier sc_bar0 (grid0.bound 1) hsub0 >>= k) Q) := by
  iintro ⟨#Hinv, Hctl, Ht, #Hall, Hcr, Hat, Hpay⟩ Hk
  unfold ctl
  icases Hctl with ⟨#Hlv, %hN, %W, %hW, HO⟩
  have h16 : ¬ 16 + (jV L).val < τ.nSub := not_lt.mpr (Nat.le_add_right 16 _)
  iapply (wp_arrive VX VB VW d L κ (16 + (jV L).val) (Nat.add_lt_add_left (show (jV L).val < 16 from (jV L).isLt) 16) (some 1) O W) $$ [HO Ht]
  · isplitr; · iexact Hinv
    isplitl [HO]; · iexact HO
    iapply (beside_all (P := allDone d (cV L)) (s := Finset.univ)
      (Φ := fun j : Fin (grid0.bound 1) => iprop((dutyTok EB (bcell d (cV L) (j.castLE hsub0)) 0 (16 + (jV L).val) ∗ reached EB (bcell d (cV L) (j.castLE hsub0)) 0)
            ∗ if j.val < 8 then blkPts VX VB VW d (cV L) (jV L).val j.val else emp)) fun j _ => by
        iintro ⟨#Hd, ⟨Ht, Hr⟩, Hb⟩
        isplitl [Ht]; · iexact Ht
        isplitl [Hb]
        · unfold bPay; dsimp only
          rw [dif_neg h16, Nat.add_sub_cancel_left]
          isplitr; · iexact Hd
          iexact Hb
        iexact Hr)
    isplitr; · iexact Hall
    iexact Ht
  iintro HO
  ihave Hmw := (may_meet (F := F) d L 1 O fun g ι h => Nat.lt_of_lt_of_le (by decide) (hO g ι h)) $$ Hlv
  iapply (Rounds.wp_wait_rest_token 𝒱₀ EB (bRd VX VB VW) (tV d L) none (sm := .reg sc_bar0) (k' := 16) (κ := κ (bcell d (cV L) (jV L))) (wpE_semWait_eq 𝒱₀ (tV d L) none Set.univ)
    (Set.mem_univ _) (some 1) (O := O) (W := W) (R := 0) (m := 16) (T := S) (bRd_expect VX VB VW d (cV L) (jV L)).symm) $$ [Hcr HO Hmw Hat]
  · isplitr; · iapply (SparseCore.ent (bigSep_elim (Φ := fun j : Fin (grid0.bound 1) => cellInv EB (bRd VX VB VW) (κ (bcell d (cV L) (j.castLE hsub0))) (bcell d (cV L) (j.castLE hsub0))) (Finset.mem_univ (jL L)))); iexact Hinv
    isplitl [Hcr]; · iexact Hcr
    isplitl [HO]; · iexact HO
    isplitl [Hmw]; · iexact Hmw
    iexact Hat
  iintro ⟨HO, Hat, -, Hrest⟩
  imod (Rounds.cell_close EB (bRd VX VB VW) (g := bcell d (cV L) (jV L)) (κ := κ (bcell d (cV L) (jV L))) (Set.mem_univ _) (fun h => h) (R := 1) fun r hr => bRd_duties_succ VX VB VW _ r hr) $$ [Hat] with Hz
  · isplitr; · iapply (SparseCore.ent (bigSep_elim (Φ := fun j : Fin (grid0.bound 1) => cellInv EB (bRd VX VB VW) (κ (bcell d (cV L) (j.castLE hsub0))) (bcell d (cV L) (j.castLE hsub0))) (Finset.mem_univ (jL L)))); iexact Hinv
    iexact Hat
  iapply Hk
  isplitl [HO]
  · isplitr; · iexact Hlv
    isplitr
    · ipureintro; intro g
      have h := hN g
      rw [Pi.add_apply, Finsupp.add_apply] at h
      exact (Nat.add_eq_zero_iff.mp h).1
    iexists (insert (.reg sc_bar0, some 1) W)
    isplitr
    · ipureintro; intro p hp
      rcases Finset.mem_insert.mp hp with hp | hp
      · subst hp; exact Or.inr (Or.inr blk_one)
      · exact hW p hp
    iexact HO
  isplitl [Hz]; · iexact Hz
  have hd : (bRd VX VB VW).duties (tV d L, .reg sc_bar0) 0 = Finset.range 32 := bRd_duties₀ VX VB VW d (cV L) (jV L)
  rw [hd]
  have hs : (bigSep (Finset.range 32) fun n => (bRd VX VB VW).payload (bcell d (cV L) (jV L)) 0 n)
      = iprop((bigSep S fun n => (bRd VX VB VW).payload (bcell d (cV L) (jV L)) 0 n) ∗ bigSep (Finset.range 32 \ S) fun n => (bRd VX VB VW).payload (bcell d (cV L) (jV L)) 0 n) :=
    bigSep_sdiff_split hS
  iapply (Entails.of_eq hs.symm)
  isplitl [Hpay]; · iexact Hpay
  iexact Hrest

end Meet

end Cert.Proof.Seg
-- ==== Proof.Tile.lean ====
/-
  A tile's task from its first line to its last, out of its parts: the regions of the shared arrays that its slices name,
  the minima shared at the first meeting, the sums at the second, and the result's part written out.
-/
module

public import proofs.«01_k».proof.Proof.Barrier

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

attribute [local instance] blocks

/-! ## The slices' sets -/

theorem rowMin_set (L : grid0.Coords) : (rowMin L).view.set = minRow (jL L).val := by
  have e0 : k0_off4 L 0 = (jL L).val := congrFun (k0_off4_eq L) 0
  have e1 : k0_off4 L 1 = 0 := congrFun (k0_off4_eq L) 1
  rw [show (rowMin L).view.set = (Rect.unit (s := S16x16) (k0_off4 L) S1x16.size (k0_off4_inb L)).set from
    (View.set_reshape ..).trans (View.set_slice_whole ..)]
  ext x
  rw [Rect.mem_set_unit, minRow, Finset.mem_filter]
  constructor
  · intro h
    have h0 := h 0
    rw [e0, show S1x16.size 0 = 1 from rfl] at h0
    exact ⟨Finset.mem_univ _, by omega⟩
  · rintro ⟨-, h⟩ a
    fin_cases a
    · show k0_off4 L 0 ≤ (x 0).val ∧ (x 0).val < k0_off4 L 0 + 1
      omega
    · show k0_off4 L 1 ≤ (x 1).val ∧ (x 1).val < k0_off4 L 1 + 16
      have := (x 1).isLt
      have hs : S16x16.size 1 = 16 := rfl
      omega

theorem rowAcc_set (L : grid0.Coords) : (rowAcc L).view.set = accRow (jL L).val := by
  have e0 : k0_off10 L 0 = (jL L).val := congrFun (k0_off10_eq L) 0
  have e1 : k0_off10 L 1 = 0 := congrFun (k0_off10_eq L) 1
  rw [show (rowAcc L).view.set = (Rect.unit (s := S16x1024) (k0_off10 L) S1x1024.size (k0_off10_inb L)).set from
    (View.set_reshape ..).trans (View.set_slice_whole ..)]
  ext x
  rw [Rect.mem_set_unit, accRow, Finset.mem_filter]
  constructor
  · intro h
    have h0 := h 0
    rw [e0, show S1x1024.size 0 = 1 from rfl] at h0
    exact ⟨Finset.mem_univ _, by omega⟩
  · rintro ⟨-, h⟩ a
    fin_cases a
    · show k0_off10 L 0 ≤ (x 0).val ∧ (x 0).val < k0_off10 L 0 + 1
      omega
    · show k0_off10 L 1 ≤ (x 1).val ∧ (x 1).val < k0_off10 L 1 + 1024
      have := (x 1).isLt
      have hs : S16x1024.size 1 = 1024 := rfl
      omega

theorem bandAcc_set (L : grid0.Coords) (h : k0_cond3 L = 1#1) : (bandAcc L h).view.set = bandSet (jL L).val := by
  have e0 : k0_off11 L 0 = 0 := congrFun (k0_off11_eq L) 0
  have e1 : k0_off11 L 1 = 128 * (jL L).val := congrFun (k0_off11_eq L) 1
  rw [show (bandAcc L h).view.set = (Rect.unit (s := S16x1024) (k0_off11 L) S16x128.size (k0_off11_inb L h)).set from View.set_slice_whole ..]
  ext x
  rw [Rect.mem_set_unit, bandSet, Finset.mem_filter]
  constructor
  · intro h
    have h1 := h 1
    rw [e1, show S16x128.size 1 = 128 from rfl] at h1
    exact ⟨Finset.mem_univ _, h1⟩
  · rintro ⟨-, h⟩ a
    fin_cases a
    · show k0_off11 L 0 ≤ (x 0).val ∧ (x 0).val < k0_off11 L 0 + 16
      have := (x 0).isLt
      have hs : S16x1024.size 0 = 16 := rfl
      omega
    · show k0_off11 L 1 ≤ (x 1).val ∧ (x 1).val < k0_off11 L 1 + 128
      rw [e1]; exact h

theorem partOut_set (L : grid0.Coords) (h : k0_cond3 L = 1#1) : (partOut L h).view.set = partSet (jL L).val := by
  have e0 : k0_off20 L 0 = 128 * (jL L).val := congrFun (k0_off20_eq L) 0
  rw [show (partOut L h).view.set = (Rect.unit (s := S1024) (k0_off20 L) S128.size (k0_off20_inb L h)).set from View.set_slice_whole ..]
  ext x
  rw [Rect.mem_set_unit, partSet, Finset.mem_filter]
  constructor
  · intro h
    have h0 := h 0
    rw [e0, show S128.size 0 = 128 from rfl] at h0
    exact ⟨Finset.mem_univ _, h0⟩
  · rintro ⟨-, h⟩ a
    fin_cases a
    show k0_off20 L 0 ≤ (x 0).val ∧ (x 0).val < k0_off20 L 0 + 128
    rw [e0]; exact h

/-! ## The arrays by rows and by blocks -/

/-- The rows of the minima are all of them, without overlap. -/
theorem minRows_univ : (Finset.univ : Finset (Fin τ.nSub)).biUnion (fun k => minRow k.val) = Finset.univ := by
  ext x
  simp only [Finset.mem_biUnion, Finset.mem_univ, true_and, minRow, Finset.mem_filter, iff_true]
  exact ⟨⟨(x 0).val, (x 0).isLt⟩, rfl⟩
theorem minRows_disj : ∀ k ∈ (Finset.univ : Finset (Fin τ.nSub)), ∀ k' ∈ (Finset.univ : Finset (Fin τ.nSub)), k ≠ k' → Disjoint (minRow k.val) (minRow k'.val) := by
  intro k _ k' _ h
  rw [Finset.disjoint_left]; intro x hx hx'
  rw [minRow, Finset.mem_filter] at hx hx'
  exact h (Fin.ext (hx.2.symm.trans hx'.2))

theorem accRows_univ : (Finset.univ : Finset (Fin τ.nSub)).biUnion (fun k => accRow k.val) = Finset.univ := by
  ext x
  simp only [Finset.mem_biUnion, Finset.mem_univ, true_and, accRow, Finset.mem_filter, iff_true]
  exact ⟨⟨(x 0).val, (x 0).isLt⟩, rfl⟩
theorem accRows_disj : ∀ k ∈ (Finset.univ : Finset (Fin τ.nSub)), ∀ k' ∈ (Finset.univ : Finset (Fin τ.nSub)), k ≠ k' → Disjoint (accRow k.val) (accRow k'.val) := by
  intro k _ k' _ h
  rw [Finset.disjoint_left]; intro x hx hx'
  rw [accRow, Finset.mem_filter] at hx hx'
  exact h (Fin.ext (hx.2.symm.trans hx'.2))

/-- A row of the sums is its eight blocks; a band its sixteen. -/
theorem accRow_blocks (i : ℕ) : (Finset.univ : Finset (Fin 8)).biUnion (fun j => blkSet i j.val) = accRow i := by
  ext x
  simp only [Finset.mem_biUnion, Finset.mem_univ, true_and, accRow, blkSet, Finset.mem_filter]
  constructor
  · rintro ⟨j, h, -⟩; exact h
  · intro h
    have := (x 1).isLt
    have hs : S16x1024.size 1 = 1024 := rfl
    refine ⟨⟨(x 1).val / 128, by omega⟩, h, ?_, ?_⟩
    · show 128 * ((x 1).val / 128) ≤ (x 1).val; omega
    · show (x 1).val < 128 * ((x 1).val / 128) + 128; omega
theorem accRow_blocks_disj (i : ℕ) : ∀ j ∈ (Finset.univ : Finset (Fin 8)), ∀ j' ∈ (Finset.univ : Finset (Fin 8)), j ≠ j' → Disjoint (blkSet i j.val) (blkSet i j'.val) := by
  intro j _ j' _ h
  rw [Finset.disjoint_left]; intro x hx hx'
  rw [blkSet, Finset.mem_filter] at hx hx'
  exact h (Fin.ext (by omega))

theorem band_blocks (j : ℕ) : (Finset.univ : Finset (Fin 16)).biUnion (fun i => blkSet i.val j) = bandSet j := by
  ext x
  simp only [Finset.mem_biUnion, Finset.mem_univ, true_and, bandSet, blkSet, Finset.mem_filter]
  constructor
  · rintro ⟨i, -, h⟩; exact h
  · intro h; exact ⟨⟨(x 0).val, (x 0).isLt⟩, rfl, h⟩
theorem band_blocks_disj (j : ℕ) : ∀ i ∈ (Finset.univ : Finset (Fin 16)), ∀ i' ∈ (Finset.univ : Finset (Fin 16)), i ≠ i' → Disjoint (blkSet i.val j) (blkSet i'.val j) := by
  intro i _ i' _ h
  rw [Finset.disjoint_left]; intro x hx hx'
  rw [blkSet, Finset.mem_filter] at hx hx'
  exact h (Fin.ext (hx.2.1.symm.trans hx'.2.1))

theorem bands_univ : (Finset.univ : Finset (Fin 8)).biUnion (fun j => bandSet j.val) = Finset.univ := by
  ext x
  simp only [Finset.mem_biUnion, Finset.mem_univ, true_and, bandSet, Finset.mem_filter, iff_true]
  have := (x 1).isLt
  have hs : S16x1024.size 1 = 1024 := rfl
  refine ⟨⟨(x 1).val / 128, by omega⟩, ?_, ?_⟩
  · show 128 * ((x 1).val / 128) ≤ (x 1).val; omega
  · show (x 1).val < 128 * ((x 1).val / 128) + 128; omega
theorem bands_disj : ∀ j ∈ (Finset.univ : Finset (Fin 8)), ∀ j' ∈ (Finset.univ : Finset (Fin 8)), j ≠ j' → Disjoint (bandSet j.val) (bandSet j'.val) := by
  intro j _ j' _ h
  rw [Finset.disjoint_left]; intro x hx hx'
  rw [bandSet, Finset.mem_filter] at hx hx'
  exact h (Fin.ext (by omega))

theorem parts_univ : (Finset.univ : Finset (Fin 8)).biUnion (fun j => partSet j.val) = Finset.univ := by
  ext x
  simp only [Finset.mem_biUnion, Finset.mem_univ, true_and, partSet, Finset.mem_filter, iff_true]
  have := (x 0).isLt
  have hs : S1024.size 0 = 1024 := rfl
  refine ⟨⟨(x 0).val / 128, by omega⟩, ?_, ?_⟩
  · show 128 * ((x 0).val / 128) ≤ (x 0).val; omega
  · show (x 0).val < 128 * ((x 0).val / 128) + 128; omega
theorem parts_disj : ∀ j ∈ (Finset.univ : Finset (Fin 8)), ∀ j' ∈ (Finset.univ : Finset (Fin 8)), j ≠ j' → Disjoint (partSet j.val) (partSet j'.val) := by
  intro j _ j' _ h
  rw [Finset.disjoint_left]; intro x hx hx'
  rw [partSet, Finset.mem_filter] at hx hx'
  exact h (Fin.ext (by omega))

section Task

variable [FloatOps F] (VX VB : Dev nD → S100000.Idx → BitVec 32) (VW : Dev nD → S86.Idx → F .f32)
variable (d : Dev nD) (L : grid0.Coords) {α : Type}
variable {O : CellTallies nD τ sig (HIx 2)} {W₀ : Waits sig (HIx 2)}

/-! ## The shared minima, all rows -/

/-- Every row's deposit, under names of the launch's choosing. -/
abbrev depInvs (d : Dev nD) (c : Fin τ.nSC) (κ : Fin τ.nSub → ℕ) : sProp 𝕄 := bigSep Finset.univ fun k => inv (κ k) (depBody (F := F) VX d c k)
/-- A tile's rights to its shares of the rows. -/
abbrev rights (d : Dev nD) (c : Fin τ.nSC) (j : Fin τ.nSub) : sProp 𝕄 := bigSep Finset.univ fun k : Fin τ.nSub => dutyTok EB (gcell d c k) 0 j.val

/-- A tile withdraws its share of every row. -/
theorem take_all (d : Dev nD) (c : Fin τ.nSC) (j : Fin τ.nSub) (κ : Fin τ.nSub → ℕ) :
    iprop(depInvs (F := F) VX d c κ ∗ allDone d c ∗ rights d c j)
      ⊢ iprop(|={Set.univ}=> minLoc d c ↦{cut j} (minsF (VX d) : Buf (Elt F) (minLoc d c)) : sProp 𝕄) := by
  have hj : (bigSep Finset.univ fun k : Fin τ.nSub => minPts (F := F) VX d c k.val (cut j))
      = (minLoc d c ↦{cut j} (minsF (VX d) : Buf (Elt F) (minLoc d c)) : sProp 𝕄) :=
    ((congrArg (fun S => (minLoc d c ↦[S]{cut j} (minsF (VX d) : Buf (Elt F) (minLoc d c)) : sProp 𝕄)) minRows_univ).symm.trans (pointsTo_biUnion _ _ minRows_disj)).symm
  rw [← hj]
  refine BIBase.Entails.trans ?_ (bigSep_fupd _ _)
  refine BIBase.Entails.trans (Q := bigSep Finset.univ fun k : Fin τ.nSub => iprop(inv (κ k) (depBody (F := F) VX d c k) ∗ reached EB (gcell d c k) 1 ∗ dutyTok EB (gcell d c k) 0 j.val)) ?_
    (bigSep_mono fun k _ => withdraw (F := F) VX d c k j)
  rw [bigSep_sep', bigSep_sep']

/-- What a tile brings to the two meetings: its tokens, the cells begun, its credit of each meeting, its position. -/
abbrev toMeet1 (d : Dev nD) (c : Fin τ.nSC) (i : Fin τ.nSub) : sProp 𝕄 :=
  iprop((bigSep Finset.univ fun j : Fin (grid0.bound 1) => iprop(dutyTok EB (bcell d c (j.castLE hsub0)) 0 i.val ∗ reached EB (bcell d c (j.castLE hsub0)) 0))
    ∗ cred (tallyAt (bcell d c i) (some 0) 16) ∗ atPos EB (bcell d c i) 0 ∅ 0 ∗ atPos EB (gcell d c i) 0 ∅ 0 ∗ rights d c i)
abbrev toMeet2 (d : Dev nD) (c : Fin τ.nSC) (i : Fin τ.nSub) : sProp 𝕄 :=
  iprop((bigSep Finset.univ fun j : Fin (grid0.bound 1) => iprop(dutyTok EB (bcell d c (j.castLE hsub0)) 0 (16 + i.val) ∗ reached EB (bcell d c (j.castLE hsub0)) 0))
    ∗ cred (tallyAt (bcell d c i) (some 1) 16))
/-- What the first meeting leaves a tile for the second. -/
abbrev between (d : Dev nD) (c : Fin τ.nSC) (i : Fin τ.nSub) (S : Finset ℕ) : sProp 𝕄 :=
  iprop(⌜S ⊆ Finset.range 32⌝ ∗ allDone d c ∗ atPos EB (bcell d c i) 0 S 16 ∗ bigSep S fun n => (bRd VX VB VW).payload (bcell d c i) 0 n)

theorem row_pts (f : Buf (Elt F) (minLoc d (cV L))) : ((rowMin L).view.loc (tV d L) ↦[(rowMin L).view.set]{fullShare} f : sProp 𝕄) = (minLoc d (cV L) ↦[minRow (jL L).val]{fullShare} f) := by
  rw [rowMin_set]; rfl

/-- `k0_part6`: the row's copy ended, the sums zeroed, the first meeting, and the minimum of all the rows' lanes. -/
theorem wp_part6 (κ : GSem nD τ sig → ℕ) (κ' : Fin τ.nSub → ℕ) (hO : ∀ g ι, 0 < O g ι → 14 ≤ (K (F := F)).lev g ι)
    {fm : Buf (Elt F) ((rowMin L).view.loc (tV d L))} {fg : Buf (Elt F) ((tV d L).loc cc0_scratch7)} {P : sProp 𝕄} {Q : α → sProp 𝕄}
    {k : (Σ' (_ : IVec S16 32) (_ : BitVec 32), BitVec 32) → TileProg F L α} :
    iprop(barInvs VX VB VW d (cV L) κ ∗ depInvs (F := F) VX d (cV L) κ' ∗ toMeet1 d (cV L) (jV L)
        ∗ ctl d L (O + dues d (cV L) (some 1) + dues d (cV L) (some 0)) W₀
        ∗ underway d L cc0_scoped6.sem (rowMin L).view.dmaCredit
            iprop(((rowMin L).view.loc (tV d L) ↦[(rowMin L).view.set]{fullShare}
                (rowMin L).view.write (Elt F) fm (minV (VX d) (jL L).val 391) Finset.univ) ∗ P)
        ∗ upto d L bAcc16 (fun _ => zeroF (F := F)) 0 ∗ own (F := F) d L cc0_scratch7 fg ∗ sem0 d L cc0_scoped7.sem)
      ⊢ iprop((∀ S, iprop(between VX VB VW d (cV L) (jV L) S ∗ ctl d L (O + dues d (cV L) (some 1)) W₀ ∗ P ∗ sem0 d L cc0_scoped6.sem
            ∗ upto d L bAcc16 (fun _ => zeroF (F := F)) 4176 ∗ (minLoc d (cV L) ↦{cut (jV L)} (minsF (VX d) : Buf (Elt F) (minLoc d (cV L))))
            ∗ own (F := F) d L cc0_scratch7 (minsF (VX d)) ∗ sem0 d L cc0_scoped7.sem)
          -∗ wp frame (wpE (defs₀ (F := F)) 𝒱₀ (tV d L) none) Set.univ (k ⟨tileMinV (VX d) 16, allMin (VX d) 10, tileMin (VX d) 11 16⟩) Q)
        -∗ wp frame (wpE (defs₀ (F := F)) 𝒱₀ (tV d L) none) Set.univ (onArgs (k0_part6 (F := F) L) >>= k) Q) := by
  iintro ⟨#Hbar, #Hdep, ⟨Ht, Hcr, Hat, Hag, Hrt⟩, Hc, HF, Ha, Hg, S7⟩ Hk
  simp only [onArgs, k0_part6_eq_skeleton]
  rw [wp_bind]
  unfold k0_part6_skel
  iapply (wp_done d L (O := O + dues d (cV L) (some 1) + dues d (cV L) (some 0)) (W₀ := W₀) (dst := rowMin L) (sm := cc0_scoped6.sem) rfl) $$ [Hc HF]
  · isplitl [Hc]; · iexact Hc
    iexact HF
  iintro ⟨Hc, S6, Hrow, HP⟩
  ihave Hrow := (write_pin d L (rowMin L) fm (minsF (VX d)) (read_rowMin L)) $$ Hrow
  ihave Hrow := (Entails.of_eq (row_pts (F := F) d L _)) $$ Hrow
  iapply (wp_loop2 d L) $$ Ha; iintro Ha
  imod (deposit (F := F) VX d (cV L) (jV L) (κ := κ' (jV L))) $$ [Hag Hrow] with #Hme
  · isplitr; · iapply (SparseCore.ent (bigSep_elim (Φ := fun k => inv (κ' k) (depBody (F := F) VX d (cV L) k)) (Finset.mem_univ (jV L)))); iexact Hdep
    isplitl [Hag]; · iexact Hag
    iexact Hrow
  iapply (wp_meet1 VX VB VW d L κ O W₀ hO) $$ [Ht Hc Hcr Hat]
  · isplitr; · iexact Hbar
    isplitl [Hc]; · iexact Hc
    isplitl [Ht]; · iexact Ht
    isplitr; · iexact Hme
    isplitl [Hcr]; · iexact Hcr
    iexact Hat
  iintro %S ⟨%hS, #Hall, Hc, Hat, Hpay⟩
  imod (take_all (F := F) VX d (cV L) (jV L) κ') $$ [Hrt] with Hmin
  · isplitr; · iexact Hdep
    isplitr; · iexact Hall
    iexact Hrt
  iapply (wp_copy d L (O := O + dues d (cV L) (some 1)) (W₀ := W₀) (src := shMin) (dst := bGmin) (fs := minsF (VX d)) (fd := fg) credit_gmin (Finset.subset_univ _) (Finset.subset_univ _)) $$ [Hc Hmin Hg S7]
  · isplitl [Hc]; · iexact Hc
    isplitl [Hmin]; · iexact Hmin
    isplitl [Hg]; · iexact Hg
    iexact S7
  iintro ⟨Hc, Hmin, Hg, S7⟩
  have hg : bGmin.view.write (Elt F) fg (shMin.view.read (Elt F) (minsF (VX d))) Finset.univ = minsF (VX d) := View.write_whole_univ (Val := Elt F) cc0_scratch7 fg _
  rw [hg]
  iapply (wp_loop3 d L) $$ Hg; iintro Hg
  rw [wp_pure]; imodintro
  iapply Hk $$ %S
  isplitl [Hat Hpay]
  · isplitr; · ipureintro; exact hS
    isplitr; · iexact Hall
    isplitl [Hat]; · iexact Hat
    iexact Hpay
  isplitl [Hc]; · iexact Hc
  isplitl [HP]; · iexact HP
  isplitl [S6]; · iexact S6
  isplitl [Ha]; · iexact Ha
  isplitl [Hmin]; · iexact Hmin
  isplitl [Hg]; · iexact Hg
  iexact S7

/-- A buffer of the running tile at contents of its own. -/
abbrev held (d : Dev nD) (L : grid0.Coords) (r : Ref sig .scVector) : sProp 𝕄 := iprop(∃ f, own (F := F) d L r f)

theorem acc_pts (f : Buf (Elt F) (accLoc d (cV L))) : ((rowAcc L).view.loc (tV d L) ↦[(rowAcc L).view.set]{fullShare} f : sProp 𝕄) = (accLoc d (cV L) ↦[accRow (jL L).val]{fullShare} f) := by
  rw [rowAcc_set]; rfl

/-- The regions' buffer, at a function of the element's number. -/
theorem acc_upto (g : ℕ → F .f32) : own (F := F) d L cc0_scratch4 (fun y => g (y 0).val) ⊢ upto d L bAcc16 g 4176 :=
  upto_intro d L bAcc16 (f := fun y => g (y 0).val) fun _ _ => rfl

/-- Of sixteen, the first eight. -/
theorem first_eight (Φ : ℕ → sProp 𝕄) : (bigSep Finset.univ fun j : Fin 16 => if j.val < 8 then Φ j.val else (iprop(emp) : sProp 𝕄)) = bigSep Finset.univ fun j : Fin 8 => Φ j.val := by
  have e : (Finset.univ : Finset (Fin 8)).map (Fin.castLEEmb (show 8 ≤ 16 by decide)) = Finset.univ.filter fun j : Fin 16 => j.val < 8 := by decide
  have h := bigSep_map (s := (Finset.univ : Finset (Fin 8))) (Fin.castLEEmb (show 8 ≤ 16 by decide)) (Φ := fun j : Fin 16 => Φ j.val)
  rw [e, bigSep_filter] at h
  exact h

/-- The tile's row of the sums is its block of every band. -/
theorem row_blocks (d : Dev nD) (c : Fin τ.nSC) (i : ℕ) : (accLoc d c ↦[accRow i]{fullShare} (accF (VX d) (VB d) (VW d) : Buf (Elt F) (accLoc d c)) : sProp 𝕄)
    = bigSep Finset.univ fun j : Fin 16 => if j.val < 8 then blkPts VX VB VW d c i j.val else iprop(emp) := by
  rw [first_eight (fun j => blkPts VX VB VW d c i j), ← accRow_blocks i]
  exact pointsTo_biUnion _ _ (accRow_blocks_disj i)

/-- A band of the sums is every tile's block of it. -/
theorem blocks_band (d : Dev nD) (c : Fin τ.nSC) (j : ℕ) : (bigSep Finset.univ fun i : Fin 16 => blkPts VX VB VW d c i.val j)
    = (accLoc d c ↦[bandSet j]{fullShare} (accF (VX d) (VB d) (VW d) : Buf (Elt F) (accLoc d c)) : sProp 𝕄) := by
  rw [← band_blocks j]
  exact (pointsTo_biUnion _ _ (band_blocks_disj j)).symm

set_option maxHeartbeats 4000000 in
/-- `k0_part10`: all of the task that every tile does. -/
theorem wp_part10 (hin : InRange (VX d) (VB d)) (κ : GSem nD τ sig → ℕ) (κ' : Fin τ.nSub → ℕ) (hO : ∀ g ι, 0 < O g ι → 14 ≤ (K (F := F)).lev g ι)
    {q1 q2 q3 : PosShare TreeShare} {fm : Buf (Elt F) (minLoc d (cV L))} {fa : Buf (Elt F) (accLoc d (cV L))} {Q : α → sProp 𝕄} {k : BitVec 32 → TileProg F L α} :
    iprop(barInvs VX VB VW d (cV L) κ ∗ depInvs (F := F) VX d (cV L) κ' ∗ toMeet1 d (cV L) (jV L) ∗ toMeet2 d (cV L) (jV L)
        ∗ ctl d L (O + dues d (cV L) (some 1) + dues d (cV L) (some 0)) W₀ ∗ fetched d L q1 q2 q3 (VX d) (VB d) (VW d) 0 0
        ∗ (minLoc d (cV L) ↦[minRow (jL L).val]{fullShare} fm) ∗ (accLoc d (cV L) ↦[accRow (jL L).val]{fullShare} fa)
        ∗ held (F := F) d L cc0_scratch3 ∗ held (F := F) d L cc0_scratch4 ∗ held (F := F) d L cc0_scratch5 ∗ held (F := F) d L cc0_scratch6 ∗ held (F := F) d L cc0_scratch7
        ∗ sem0 d L cc0_scoped6.sem ∗ sem0 d L cc0_scoped7.sem ∗ sem0 d L cc0_scoped8.sem)
      ⊢ iprop((∀ a, iprop(ctl d L O W₀ ∗ fetched d L q1 q2 q3 (VX d) (VB d) (VW d) 0 0
            ∗ (minLoc d (cV L) ↦{cut (jV L)} (minsF (VX d) : Buf (Elt F) (minLoc d (cV L))))
            ∗ held (F := F) d L cc0_scratch3 ∗ held (F := F) d L cc0_scratch4 ∗ held (F := F) d L cc0_scratch5 ∗ held (F := F) d L cc0_scratch6 ∗ held (F := F) d L cc0_scratch7
            ∗ sem0 d L cc0_scoped6.sem ∗ sem0 d L cc0_scoped7.sem ∗ sem0 d L cc0_scoped8.sem
            ∗ semVal (bcell d (cV L) (jV L)) 0 ∗ bigSep (Finset.range 32) fun n => (bRd VX VB VW).payload (bcell d (cV L) (jV L)) 0 n)
          -∗ wp frame (wpE (defs₀ (F := F)) 𝒱₀ (tV d L) none) Set.univ (k a) Q)
        -∗ wp frame (wpE (defs₀ (F := F)) 𝒱₀ (tV d L) none) Set.univ (onArgs (k0_part10 (F := F) L) >>= k) Q) := by
  iintro ⟨#Hbar, #Hdep, H1, ⟨Ht2, Hcr2⟩, Hc, Hf, Hmin, Hacc, ⟨%f3, B3⟩, ⟨%f4, B4⟩, ⟨%f5, B5⟩, ⟨%f6, B6⟩, ⟨%f7, B7⟩, S6, S7, S8⟩ Hk
  simp only [onArgs, k0_part10_eq_skeleton]
  rw [wp_bind]
  unfold k0_part10_skel
  ihave Hmin := (Entails.of_eq (row_pts (F := F) d L _).symm) $$ Hmin
  ihave B6 := (upto_intro d L bMin (g := fun l => laneMin (VX d) (jL L).val l 391) (n := 0) (f := f6) fun x h => absurd h (Nat.not_lt_zero _)) $$ B6
  iapply (wp_part5 d L (O := O + dues d (cV L) (some 1) + dues d (cV L) (some 0)) (W₀ := W₀) (X := VX d) (B := VB d) (W := VW d)) $$ [Hc Hf B6 Hmin S6]
  · isplitl [Hc]; · iexact Hc
    isplitl [Hf]; · iexact Hf
    isplitl [B6]; · iexact B6
    isplitl [Hmin]; · iexact Hmin
    iexact S6
  iintro %a ⟨Hc, Hf, HF⟩
  ihave B4 := (upto_intro d L bAcc16 (g := fun _ => zeroF (F := F)) (n := 0) (f := f4) fun x h => absurd h (Nat.not_lt_zero _)) $$ B4
  iapply (wp_part6 VX VB VW d L κ κ' hO (W₀ := W₀)) $$ [H1 Hc HF B4 B7 S7]
  · isplitr; · iexact Hbar
    isplitr; · iexact Hdep
    isplitl [H1]; · iexact H1
    isplitl [Hc]; · iexact Hc
    isplitl [HF]; · iexact HF
    isplitl [B4]; · iexact B4
    isplitl [B7]; · iexact B7
    iexact S7
  iintro %S ⟨⟨%hS, #Hall, Hat, Hpay⟩, Hc, B6, S6, B4, Hmin, B7, S7⟩
  unfold fetched
  icases Hf with ⟨HX, HB, HW, Hx, Hb, Hw, T0, T1, T2, T3, T4, T5⟩
  ihave B3 := (upto_intro d L bWe (g := wRow (VX d) (VW d)) (n := 0) (f := f3) fun x h => absurd h (Nat.not_lt_zero _)) $$ B3
  iapply (wp_part7 d L (X := VX d) (W := VW d)) $$ [Hw B3]
  · isplitl [Hw]; · iexact Hw
    iexact B3
  iintro H
  iapply (wp_part8 d L (X := VX d) (W := VW d)) $$ H
  iintro ⟨Hw, B3⟩
  ihave B3 := (upto_open d L bWe (wRow (VX d) (VW d)) 86) $$ B3
  icases B3 with ⟨%w9, %hw9, B3⟩
  have hw : Table (VX d) (VW d) w9 := hw9
  ihave Hx := (upto_open d L bIdx _ 6256) $$ Hx
  icases Hx with ⟨%fx, %hfx, Hx⟩
  ihave Hb := (upto_open d L bBat _ 6256) $$ Hb
  icases Hb with ⟨%fb, %hfb, Hb⟩
  ihave B4 := (upto_open d L bAcc16 _ 4176) $$ B4
  icases B4 with ⟨%g4, %hg4, B4⟩
  obtain rfl : fx = chunkX (VX d) (jL L).val := funext fun x => hfx x (x 0).isLt
  obtain rfl : fb = chunkB (VB d) (jL L).val := funext fun x => hfb x (x 0).isLt
  obtain rfl : g4 = fun y => accAt (VX d) (VB d) (VW d) (jL L).val 0 (y 0).val := funext fun x => hg4 x (x 0).isLt
  ihave H : sums (F := F) d L (VX d) (VB d) (VW d) w9 0 $$ [Hx Hb B3 B4]
  · isplitl [Hx Hb]
    · isplitl [Hx]; · iexact Hx
      iexact Hb
    isplitl [B3]; · iexact B3
    iexact B4
  iapply (wp_part9 d L hin hw regV_eq) $$ H; iintro H
  iapply (wp_tail d L hin hw) $$ H; iintro ⟨⟨Hx, Hb⟩, B3, B4⟩
  ihave B4 := (acc_upto d L (accAt (VX d) (VB d) (VW d) (jL L).val 391)) $$ B4
  ihave B5 := (upto_intro d L bAcc (g := accV (VX d) (VB d) (VW d) (jL L).val) (n := 0) (f := f5) fun x h => absurd h (Nat.not_lt_zero _)) $$ B5
  iapply (wp_loop5 d L (A := accAt (VX d) (VB d) (VW d) (jL L).val 391) (C := accV (VX d) (VB d) (VW d) (jL L).val) (fun g => rfl)) $$ [B4 B5]
  · isplitl [B4]; · iexact B4
    iexact B5
  iintro ⟨B4, B5⟩
  ihave B4 := (upto_open d L bAcc16 _ 4176) $$ B4
  icases B4 with ⟨%h4, -, B4⟩
  ihave B5 := (upto_open d L bAcc _ 1024) $$ B5
  icases B5 with ⟨%h5, %hh5, B5⟩
  ihave B6 := (show (bMin.view.loc (tV d L) ↦{fullShare} (minV (VX d) (jL L).val 391 : Buf (Elt F) (bMin.view.loc (tV d L))) : sProp 𝕄) ⊢ own (F := F) d L cc0_scratch6 (minV (VX d) (jL L).val 391) from fun _ h => h) $$ B6
  ihave Hacc := (Entails.of_eq (acc_pts (F := F) d L _).symm) $$ Hacc
  iapply (wp_copy d L (O := O + dues d (cV L) (some 1)) (W₀ := W₀) (src := bAcc) (dst := rowAcc L) (fs := h5) (fd := fa) (credit_rowAcc L) (Finset.subset_univ _) (Finset.Subset.refl _)) $$ [Hc B5 Hacc S8]
  · isplitl [Hc]; · iexact Hc
    isplitl [B5]; · iexact B5
    isplitl [Hacc]; · iexact Hacc
    iexact S8
  iintro ⟨Hc, B5, Hacc, S8⟩
  have he5 : (rowAcc L).view.read (Elt F) (accF (VX d) (VB d) (VW d) : Buf (Elt F) ((rowAcc L).view.loc (tV d L))) = bAcc.view.read (Elt F) h5 :=
    (read_rowAcc L).trans (funext fun x => (hh5 x (x 0).isLt).symm)
  ihave Hacc := (write_pin d L (rowAcc L) fa (accF (VX d) (VB d) (VW d)) he5) $$ Hacc
  ihave Hacc := (Entails.of_eq ((acc_pts (F := F) d L _).trans (row_blocks VX VB VW d (cV L) (jL L).val))) $$ Hacc
  iapply (wp_meet2 VX VB VW d L κ O W₀ hO hS) $$ [Hc Ht2 Hacc Hcr2 Hat Hpay]
  · isplitr; · iexact Hbar
    isplitl [Hc]; · iexact Hc
    isplitl [Ht2 Hacc]
    · iapply (Entails.of_eq (bigSep_sep' (Finset.univ : Finset (Fin (grid0.bound 1)))
        (fun j => iprop(dutyTok EB (bcell d (cV L) (j.castLE hsub0)) 0 (16 + (jV L).val) ∗ reached EB (bcell d (cV L) (j.castLE hsub0)) 0))
        (fun j => if j.val < 8 then blkPts VX VB VW d (cV L) (jV L).val j.val else (iprop(emp) : sProp 𝕄))).symm)
      isplitl [Ht2]; · iexact Ht2
      iexact Hacc
    isplitr; · iexact Hall
    isplitl [Hcr2]; · iexact Hcr2
    isplitl [Hat]; · iexact Hat
    iexact Hpay
  iintro ⟨Hc, Hz, Hpay⟩
  rw [wp_pure]; imodintro
  iapply Hk $$ %a
  isplitl [Hc]; · iexact Hc
  isplitl [HX HB HW Hx Hb Hw T0 T1 T2 T3 T4 T5]
  · isplitl [HX]; · iexact HX
    isplitl [HB]; · iexact HB
    isplitl [HW]; · iexact HW
    isplitl [Hx]; · iapply (upto_intro d L bIdx fun x h => absurd h (Nat.not_lt_zero _)); iexact Hx
    isplitl [Hb]; · iapply (upto_intro d L bBat fun x h => absurd h (Nat.not_lt_zero _)); iexact Hb
    isplitl [Hw]; · iapply (upto_mono d L (Nat.zero_le 86)); iexact Hw
    isplitl [T0]; · iexact T0
    isplitl [T1]; · iexact T1
    isplitl [T2]; · iexact T2
    isplitl [T3]; · iexact T3
    isplitl [T4]; · iexact T4
    iexact T5
  isplitl [Hmin]; · iexact Hmin
  isplitl [B3]; · iexists _; iexact B3
  isplitl [B4]; · iexists _; iexact B4
  isplitl [B5]; · iexists _; iexact B5
  isplitl [B6]; · iexists _; iexact B6
  isplitl [B7]; · iexists _; iexact B7
  isplitl [S6]; · iexact S6
  isplitl [S7]; · iexact S7
  isplitl [S8]; · iexact S8
  isplitl [Hz]; · iexact Hz
  iexact Hpay

end Task

end Cert.Proof.Seg
-- ==== Proof.Task.lean ====
/-
  A tile's task, whole: what it is handed and what it hands back.
-/
module

public import proofs.«01_k».proof.Proof.Tile

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

attribute [local instance] blocks

/-! ## The buffers and the semaphores of a tile -/

/-- Members listed without repetition, taken out of a family. -/
theorem bigSep_list {I : Type} [DecidableEq I] (Φ : I → sProp 𝕄) : ∀ (l : List I) (s : Finset I), l.Nodup → (∀ a ∈ l, a ∈ s) →
    bigSep s Φ = l.foldr (fun a P => iprop(Φ a ∗ P)) (bigSep (s \ l.toFinset) Φ)
  | [], s, _, _ => by rw [List.toFinset_nil, Finset.sdiff_empty]; rfl
  | a :: l, s, hl, hs => by
    obtain ⟨ha, hl⟩ := List.nodup_cons.mp hl
    rw [SparseCore.bigSep_erase' (hs a List.mem_cons_self), bigSep_list Φ l (s.erase a) hl fun b hb =>
      Finset.mem_erase.mpr ⟨fun e => ha (e ▸ hb), hs b (List.mem_cons_of_mem _ hb)⟩]
    rw [show s.erase a \ l.toFinset = s \ (a :: l).toFinset by
      ext x; rw [List.toFinset_cons, Finset.mem_sdiff, Finset.mem_sdiff, Finset.mem_erase, Finset.mem_insert]; tauto]
    rfl

/-- The tile's buffers, and the semaphores of its copies, by name. -/
def bufList : List (Ref sig .scVector) := [cc0_scratch0, cc0_scratch1, cc0_scratch2, cc0_scratch3, cc0_scratch4, cc0_scratch5, cc0_scratch6, cc0_scratch7, cc0_scratch8, cc0_scratch9]
def semList : List (DmaSem sig) := [cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem]
theorem bufList_nodup : bufList.Nodup := by decide
theorem semList_nodup : semList.Nodup := by decide

section Task

variable [FloatOps F] (VX VB : Dev nD → S100000.Idx → BitVec 32) (VW : Dev nD → S86.Idx → F .f32)
variable (d : Dev nD) (L : grid0.Coords)
variable {O : CellTallies nD τ sig (HIx 2)} {W₀ : Waits sig (HIx 2)}

/-- The tile's ten buffers, each at contents of its own, and the eleven semaphores of its copies, at zero; `R` besides. -/
abbrev bufs (R : sProp 𝕄) : sProp 𝕄 :=
  iprop(held (F := F) d L cc0_scratch0 ∗ held (F := F) d L cc0_scratch1 ∗ held (F := F) d L cc0_scratch2 ∗ held (F := F) d L cc0_scratch3 ∗ held (F := F) d L cc0_scratch4 ∗ held (F := F) d L cc0_scratch5 ∗ held (F := F) d L cc0_scratch6 ∗ held (F := F) d L cc0_scratch7 ∗ held (F := F) d L cc0_scratch8 ∗ held (F := F) d L cc0_scratch9 ∗ R)
abbrev sems (R : sProp 𝕄) : sProp 𝕄 :=
  iprop(sem0 d L cc0_scoped0.sem ∗ sem0 d L cc0_scoped1.sem ∗ sem0 d L cc0_scoped2.sem ∗ sem0 d L cc0_scoped3.sem ∗ sem0 d L cc0_scoped4.sem ∗ sem0 d L cc0_scoped5.sem ∗ sem0 d L cc0_scoped6.sem ∗ sem0 d L cc0_scoped7.sem ∗ sem0 d L cc0_scoped8.sem ∗ sem0 d L cc0_scoped9.sem ∗ sem0 d L cc0_scoped10.sem ∗ R)

/-- The buffers that the launch deals the tile, and the semaphores. -/
theorem own_bufs : ∃ R, (SparseCore.Cfg.ownBufs (tV d L) : sProp 𝕄) = bufs d L R := by
  refine ⟨bigSep (SparseCore.Cfg.ownRefs (τ := τ) (sig := sig) (tV d L).2 \ (bufList.map fun r => (tV d L).2.devRef r).toFinset) fun b => iprop(∃ f, (((tV d L).1, b) : Loc nD τ sig) ↦{fullShare} f), ?_⟩
  unfold SparseCore.Cfg.ownBufs
  have hown : ∀ a ∈ bufList.map fun r => (tV d L).2.devRef r, a ∈ SparseCore.Cfg.ownRefs (τ := τ) (sig := sig) (tV d L).2 := fun a ha => by
    obtain ⟨r, hr, rfl⟩ := List.mem_map.mp ha
    exact SparseCore.Cfg.mem_ownRefs_of_owner ((show ∀ r ∈ bufList, ((tV d L).2.devRef r).owner = .proc (tV d L).2 by
      intro r hr; simp only [bufList, List.mem_cons, List.not_mem_nil, or_false] at hr
      rcases hr with rfl | rfl | rfl | rfl | rfl | rfl | rfl | rfl | rfl | rfl <;> rfl) r hr)
  rw [bigSep_list _ (bufList.map fun r => (tV d L).2.devRef r) _ (List.Nodup.map (Proc.devRef_injective _) bufList_nodup) hown]
  generalize (bigSep (SDiff.sdiff (α := Finset (DevRef τ sig)) _ _) _ : sProp 𝕄) = R
  rfl

theorem own_sems : ∃ R, (SparseCore.Cfg.ownSems0 (tV d L) : sProp 𝕄) = sems d L R := by
  refine ⟨bigSep (SparseCore.Cfg.ownCells (tV d L) \ (semList.map fun s => ((tV d L, .dma s) : GSem nD τ sig)).toFinset) fun g => semVal g 0, ?_⟩
  unfold SparseCore.Cfg.ownSems0
  have hown : ∀ a ∈ semList.map fun s => ((tV d L, .dma s) : GSem nD τ sig), a ∈ SparseCore.Cfg.ownCells (tV d L) := fun a ha => by
    obtain ⟨s, hs, rfl⟩ := List.mem_map.mp ha
    exact SparseCore.Cfg.mem_ownCells.mpr ⟨rfl, (show ∀ s ∈ semList, (SemLoc.dma s : SemLoc sig).isScoped .scVector = true by decide) s hs⟩
  rw [bigSep_list _ (semList.map fun s => ((tV d L, .dma s) : GSem nD τ sig)) _ (List.Nodup.map (fun a b e => SemLoc.dma.inj (Prod.mk.inj e).2) semList_nodup) hown]
  generalize (bigSep (SDiff.sdiff (α := Finset (GSem nD τ sig)) _ _) _ : sProp 𝕄) = R
  rfl

/-! ## The task -/

/-- Device `d`'s result array. -/
abbrev outLoc (d : Dev nD) : Loc nD τ sig := (SparseCore.T d).loc main_v2
abbrev idxLoc (d : Dev nD) : Loc nD τ sig := (SparseCore.T d).loc main_v0
abbrev batLoc (d : Dev nD) : Loc nD τ sig := (SparseCore.T d).loc main_arg1
abbrev wLoc (d : Dev nD) : Loc nD τ sig := (SparseCore.T d).loc main_v1

/-- A tile's share of the three operands. -/
abbrev operands (d : Dev nD) (j : Fin τ.nSub) : sProp 𝕄 :=
  iprop((idxLoc d ↦{cut j} (VX d : Buf (Elt F) (idxLoc d))) ∗ (batLoc d ↦{cut j} (VB d : Buf (Elt F) (batLoc d))) ∗ (wLoc d ↦{cut j} (VW d : Buf (Elt F) (wLoc d))))

/-- What a task is handed: its share of the operands, its rows of the shared arrays, its part of the result. -/
abbrev goV (d : Dev nD) (c : Fin τ.nSC) (j : Fin τ.nSub) : sProp 𝕄 :=
  iprop(operands VX VB VW d j ∗ (∃ f, minLoc d c ↦[minRow j.val]{fullShare} f) ∗ (∃ f, accLoc d c ↦[accRow j.val]{fullShare} f)
    ∗ if j.val < 8 then iprop(∃ f, outLoc d ↦[partSet j.val]{fullShare} f) else iprop(emp))
/-- What it hands back: its share of the operands and of the minima, its band of the sums, its part of the result at the
    graphs' sums, its barrier semaphore at zero. -/
abbrev tdV (d : Dev nD) (c : Fin τ.nSC) (j : Fin τ.nSub) : sProp 𝕄 :=
  iprop(operands VX VB VW d j ∗ (minLoc d c ↦{cut j} (minsF (VX d) : Buf (Elt F) (minLoc d c)))
    ∗ (if j.val < 8 then (accLoc d c ↦[bandSet j.val]{fullShare} (accF (VX d) (VB d) (VW d) : Buf (Elt F) (accLoc d c))) else iprop(emp))
    ∗ (if j.val < 8 then (outLoc d ↦[partSet j.val]{fullShare} (outF (VX d) (VB d) (VW d) : Buf (Elt F) (outLoc d))) else iprop(emp))
    ∗ semVal (bcell d c j) 0)

theorem band_pts (h : k0_cond3 L = 1#1) (f : Buf (Elt F) (accLoc d (cV L))) :
    ((bandAcc L h).view.loc (tV d L) ↦[(bandAcc L h).view.set]{fullShare} f : sProp 𝕄) = (accLoc d (cV L) ↦[bandSet (jL L).val]{fullShare} f) := by
  rw [bandAcc_set]; rfl
theorem part_pts (h : k0_cond3 L = 1#1) (f : Buf (Elt F) (outLoc d)) :
    ((partOut L h).view.loc (tV d L) ↦[(partOut L h).view.set]{fullShare} f : sProp 𝕄) = (outLoc d ↦[partSet (jL L).val]{fullShare} f) := by
  rw [partOut_set]

/-- The end of the task, of a tile that has a band: its part of the result. -/
theorem wp_last {a : BitVec 32} (h : k0_cond3 L = 1#1) {h1 h2 h3 h4 h5} {R : sProp 𝕄} :
    iprop((ctl d L O W₀ ∗ held (F := F) d L cc0_scratch8 ∗ held (F := F) d L cc0_scratch9 ∗ sem0 d L cc0_scoped9.sem ∗ sem0 d L cc0_scoped10.sem
        ∗ (accLoc d (cV L) ↦[bandSet (jL L).val]{fullShare} (accF (VX d) (VB d) (VW d) : Buf (Elt F) (accLoc d (cV L))))
        ∗ ∃ f, outLoc d ↦[partSet (jL L).val]{fullShare} f)
      ∗ R)
    ⊢ wp frame (wpE (defs₀ (F := F)) 𝒱₀ (tV d L) none) Set.univ
        (onArgs (k0_part4 (F := F) L) a h >>= fun _ =>
          (Prog.lift (.enqueueDma bOut (.here (partOut L h)) (.dma cc0_scoped10.sem) h1 h2 h3) >>= fun _ =>
            Prog.lift (.waitDma2 cc0_scoped10.sem bOut (partOut L h) h4 h5) >>= fun _ => (pure ⟨⟩ : TileProg F L PUnit)))
        fun _ => iprop((ctl d L O W₀ ∗ held (F := F) d L cc0_scratch8 ∗ held (F := F) d L cc0_scratch9 ∗ sem0 d L cc0_scoped9.sem ∗ sem0 d L cc0_scoped10.sem
          ∗ (accLoc d (cV L) ↦[bandSet (jL L).val]{fullShare} (accF (VX d) (VB d) (VW d) : Buf (Elt F) (accLoc d (cV L))))
          ∗ (outLoc d ↦[partSet (jL L).val]{fullShare} (outF (VX d) (VB d) (VW d) : Buf (Elt F) (outLoc d))))
        ∗ R) := by
  iintro ⟨⟨Hc, ⟨%f8, B8⟩, ⟨%f9, B9⟩, S9, S10, Hacc, ⟨%fo, Ho⟩⟩, HR⟩
  ihave B9 := (upto_intro d L bOut (g := outG L (VX d) (VB d) (VW d)) (n := 0) (f := f9) fun x h => absurd h (Nat.not_lt_zero _)) $$ B9
  ihave Hacc := (Entails.of_eq (band_pts (F := F) d L h _).symm) $$ Hacc
  iapply (wp_part4 d L (O := O) (W₀ := W₀) (X := VX d) (B := VB d) (W := VW d) a h) $$ [Hc Hacc B8 B9 S9]
  · isplitl [Hc]; · iexact Hc
    isplitl [Hacc]; · iexact Hacc
    isplitl [B8]; · iexact B8
    isplitl [B9]; · iexact B9
    iexact S9
  iintro ⟨Hc, Hacc, B8, B9, S9⟩
  ihave Ho := (Entails.of_eq (part_pts (F := F) d L h _).symm) $$ Ho
  iapply (wp_out d L (O := O) (W₀ := W₀) (X := VX d) (B := VB d) (W := VW d) h) $$ [Hc B9 Ho S10]
  · isplitl [Hc]; · iexact Hc
    isplitl [B9]; · iexact B9
    isplitl [Ho]; · iexact Ho
    iexact S10
  iintro ⟨Hc, B9, Ho, S10⟩
  ihave B9 := (upto_open d L bOut _ 128) $$ B9
  icases B9 with ⟨%g9, -, B9⟩
  ihave Hacc := (Entails.of_eq (band_pts (F := F) d L h _)) $$ Hacc
  ihave Ho := (Entails.of_eq (part_pts (F := F) d L h _)) $$ Ho
  rw [wp_pure]; imodintro
  isplitr [HR]; swap; · iexact HR
  isplitl [Hc]; · iexact Hc
  isplitl [B8]; · iexists _; iexact B8
  isplitl [B9]; · iexists _; iexact B9
  isplitl [S9]; · iexact S9
  isplitl [S10]; · iexact S10
  isplitl [Hacc]; · iexact Hacc
  iexact Ho

set_option maxHeartbeats 4000000 in
/-- The task. -/
theorem wp_task (hin : InRange (VX d) (VB d)) (κ : GSem nD τ sig → ℕ) (κ' : Fin τ.nSub → ℕ) (hO : ∀ g ι, 0 < O g ι → 14 ≤ (K (F := F)).lev g ι) {RB RS : sProp 𝕄} :
    iprop(barInvs VX VB VW d (cV L) κ ∗ depInvs (F := F) VX d (cV L) κ' ∗ toMeet1 d (cV L) (jV L) ∗ toMeet2 d (cV L) (jV L)
        ∗ ctl d L (O + dues d (cV L) (some 1) + dues d (cV L) (some 0)) W₀ ∗ goV VX VB VW d (cV L) (jV L) ∗ bufs d L RB ∗ sems d L RS)
      ⊢ wp frame (wpE (defs₀ (F := F)) 𝒱₀ (tV d L) none) Set.univ (onArgs (cc0_sc_call (F := F) L))
        fun _ => iprop(ctl d L O W₀ ∗ tdV VX VB VW d (cV L) (jV L) ∗ bufs d L RB ∗ sems d L RS) := by
  iintro ⟨#Hbar, #Hdep, H1, H2, Hc, ⟨⟨HX, HB, HW⟩, ⟨%fm, Hmin⟩, ⟨%fa, Hacc⟩, Hout⟩,
    ⟨⟨%f0, B0⟩, ⟨%f1, B1⟩, ⟨%f2, B2⟩, B3, B4, B5, B6, B7, B8, B9, HRB⟩, ⟨S0, S1, S2, S3, S4, S5, S6, S7, S8, S9, S10, HRS⟩⟩
  simp only [onArgs, cc0_sc_call_eq_skeleton]
  unfold cc0_sc_call_skel
  iapply (wp_part10 VX VB VW d L hin κ κ' hO (W₀ := W₀) (q1 := cut (jV L)) (q2 := cut (jV L)) (q3 := cut (jV L)) (fm := fm) (fa := fa)) $$ [H1 H2 Hc HX HB HW B0 B1 B2 Hmin Hacc B3 B4 B5 B6 B7 S0 S1 S2 S3 S4 S5 S6 S7 S8]
  · isplitr; · iexact Hbar
    isplitr; · iexact Hdep
    isplitl [H1]; · iexact H1
    isplitl [H2]; · iexact H2
    isplitl [Hc]; · iexact Hc
    isplitl [HX HB HW B0 B1 B2 S0 S1 S2 S3 S4 S5]
    · unfold fetched
      isplitl [HX]; · iexact HX
      isplitl [HB]; · iexact HB
      isplitl [HW]; · iexact HW
      isplitl [B0]; · iapply (upto_intro d L bIdx fun x h => absurd h (Nat.not_lt_zero _)); iexact B0
      isplitl [B1]; · iapply (upto_intro d L bBat fun x h => absurd h (Nat.not_lt_zero _)); iexact B1
      isplitl [B2]; · iapply (upto_intro d L bW fun x h => absurd h (Nat.not_lt_zero _)); iexact B2
      isplitl [S0]; · iexact S0
      isplitl [S1]; · iexact S1
      isplitl [S2]; · iexact S2
      isplitl [S3]; · iexact S3
      isplitl [S4]; · iexact S4
      iexact S5
    isplitl [Hmin]; · iexact Hmin
    isplitl [Hacc]; · iexact Hacc
    isplitl [B3]; · iexact B3
    isplitl [B4]; · iexact B4
    isplitl [B5]; · iexact B5
    isplitl [B6]; · iexact B6
    isplitl [B7]; · iexact B7
    isplitl [S6]; · iexact S6
    isplitl [S7]; · iexact S7
    iexact S8
  iintro %a ⟨Hc, Hf, Hmin, B3, B4, B5, B6, B7, S6, S7, S8, Hz, Hpay⟩
  unfold fetched
  icases Hf with ⟨HX, HB, HW, Hx, Hb, Hw, S0, S1, S2, S3, S4, S5⟩
  ihave Hx := (upto_open d L bIdx _ 0) $$ Hx
  icases Hx with ⟨%g0, -, B0⟩
  ihave Hb := (upto_open d L bBat _ 0) $$ Hb
  icases Hb with ⟨%g1, -, B1⟩
  ihave Hw := (upto_open d L bW _ 0) $$ Hw
  icases Hw with ⟨%g2, -, B2⟩
  by_cases hj : (jL L).val < 8
  · have h : k0_cond3 L = 1#1 := (cond3_iff L).mpr hj
    ihave Hout := (Entails.of_eq (if_pos (show (jV L).val < 8 from hj))) $$ Hout
    ihave Hacc := ((pays_blocks VX VB VW d (cV L) (jV L) hj).trans (Entails.of_eq (blocks_band VX VB VW d (cV L) (jL L).val))) $$ Hpay
    rw [dif_pos h]
    iapply (wp_wand_r frame (wpE (defs₀ (F := F)) 𝒱₀ (tV d L) none) Set.univ)
    isplitl [Hc B8 B9 S9 S10 Hacc Hout]
    · iapply (wp_last VX VB VW d L (O := O) (W₀ := W₀) h (R := iprop(emp)))
      isplitl; swap; · iempintro
      isplitl [Hc]; · iexact Hc
      isplitl [B8]; · iexact B8
      isplitl [B9]; · iexact B9
      isplitl [S9]; · iexact S9
      isplitl [S10]; · iexact S10
      isplitl [Hacc]; · iexact Hacc
      iexact Hout
    iintro %_ ⟨⟨Hc, B8, B9, S9, S10, Hacc, Hout⟩, -⟩
    isplitl [Hc]; · iexact Hc
    isplitl [HX HB HW Hmin Hacc Hout Hz]
    · isplitl [HX HB HW]
      · isplitl [HX]; · iexact HX
        isplitl [HB]; · iexact HB
        iexact HW
      isplitl [Hmin]; · iexact Hmin
      isplitl [Hacc]; · iapply (Entails.of_eq (if_pos (show (jV L).val < 8 from hj)).symm); iexact Hacc
      isplitl [Hout]; · iapply (Entails.of_eq (if_pos (show (jV L).val < 8 from hj)).symm); iexact Hout
      iexact Hz
    isplitl [B0 B1 B2 B3 B4 B5 B6 B7 B8 B9 HRB]
    · isplitl [B0]; · iexists _; iexact B0
      isplitl [B1]; · iexists _; iexact B1
      isplitl [B2]; · iexists _; iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact HRB
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HRS
  · have h : ¬ k0_cond3 L = 1#1 := fun h => hj (cond3_lt L h)
    rw [dif_neg h]
    beta_reduce
    rw [wp_pure]; imodintro
    isplitl [Hc]; · iexact Hc
    isplitl [HX HB HW Hmin Hz]
    · isplitl [HX HB HW]
      · isplitl [HX]; · iexact HX
        isplitl [HB]; · iexact HB
        iexact HW
      isplitl [Hmin]; · iexact Hmin
      isplitr; · iapply (Entails.of_eq (if_neg (show ¬ (jV L).val < 8 from hj)).symm); iempintro
      isplitr; · iapply (Entails.of_eq (if_neg (show ¬ (jV L).val < 8 from hj)).symm); iempintro
      iexact Hz
    isplitl [B0 B1 B2 B3 B4 B5 B6 B7 B8 B9 HRB]
    · isplitl [B0]; · iexists _; iexact B0
      isplitl [B1]; · iexists _; iexact B1
      isplitl [B2]; · iexists _; iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      iexact HRB
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact HRS

end Task

end Cert.Proof.Seg
-- ==== Proof.Launch.lean ====
/-
The call's obligations: what the launch hands a tile for its two meetings, what the call takes and gives back, the
tile's obligation, and how the operands split into the tiles' and rejoin.
-/
module

public import proofs.«01_k».proof.Proof.Task

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

attribute [local instance] blocks

variable [FloatOps F] (VX VB : Dev nD → S100000.Idx → BitVec 32) (VW : Dev nD → S86.Idx → F .f32)

/-! ## What the handshakes carry -/

/-- A tile's kit: every barrier cell's invariant and every row's deposit, under names of the launch's choosing, and what
    the tile brings to the two meetings. -/
def kit (d : Dev nD) (c : Fin τ.nSC) (i : Fin τ.nSub) : sProp 𝕄 :=
  iprop((∃ κ, barInvs VX VB VW d c κ) ∗ (∃ κ', depInvs (F := F) VX d c κ') ∗ toMeet1 d c i ∗ toMeet2 d c i)

/-- What a tile of the grid owes at its entry: a unit on every tile's cell, at each of the two meetings. -/
def oxV (d : Dev nD) (c : Fin τ.nSC) : CellTallies nD τ sig (HIx 2) := dues d c (some 1) + dues d c (some 0)

theorem oxV_lev {d : Dev nD} {c : Fin τ.nSC} {g : GSem nD τ sig} {ι : HIx 2} (h : 0 < oxV d c g ι) :
    3 ≤ (K (F := F)).lev g ι ∧ (K (F := F)).lev g ι ≤ 13 := by
  have hs : oxV d c g ι = dues d c (some 1) g ι + dues d c (some 0) g ι := rfl
  rw [hs] at h
  rcases Nat.add_pos_iff_pos_or_pos.mp h with h | h <;> obtain ⟨j, rfl, rfl⟩ := dues_pos h
  · rw [lev_bar d c _ 1]; decide
  · rw [lev_bar d c _ 0]; decide

/-- The three operands whole. -/
abbrev wholes (d : Dev nD) : sProp 𝕄 :=
  iprop((idxLoc d ↦{fullShare} (VX d : Buf (Elt F) (idxLoc d))) ∗ (batLoc d ↦{fullShare} (VB d : Buf (Elt F) (batLoc d))) ∗ (wLoc d ↦{fullShare} (VW d : Buf (Elt F) (wLoc d))))
/-- The barrier semaphores of a SparseCore's tiles, at zero. -/
abbrev bars (d : Dev nD) (c : Fin τ.nSC) : sProp 𝕄 := bigSep Finset.univ fun j : Fin τ.nSub => semVal (bcell d c j) 0
abbrev outPts (d : Dev nD) : sProp 𝕄 := outLoc d ↦{fullShare} (outF (VX d) (VB d) (VW d) : Buf (Elt F) (outLoc d))

set_option backward.proofsInPublic true in
/-- The one call takes the three operands and the result whole and gives them back, the result at the graphs' sums. -/
def P : (K (F := F)).Pay (N := 2) (nD := nD) (Val := Elt F) (Name := ℕ) (U := UU) where
  st := fun q d _ => match q with | 0 => iprop(wholes VX VB VW d ∗ ∃ f, outLoc d ↦{fullShare} f)
  dn := fun q d c => match q with | 0 => iprop(wholes VX VB VW d ∗ outPts VX VB VW d ∗ bars d (coreOf (F := F) c))
  go := fun q d c i => match q with | 0 => goV VX VB VW d (coreOf (F := F) c) ((K (F := F)).sub 0 i)
  td := fun q d c i => match q with | 0 => tdV VX VB VW d (coreOf (F := F) c) ((K (F := F)).sub 0 i)
  x := fun _ thr => match thr with
    | (d, .scVector c i) => if c.val < 1 then kit VX VB VW d c i else iprop(emp)
    | _ => iprop(emp)
  ox := fun _ thr => match thr with
    | (d, .scVector c _) => if c.val < 1 then oxV d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · exact oxV_lev h
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

theorem goV_storable (d : Dev nD) (c : Fin τ.nSC) (j : Fin τ.nSub) : BI.Storable (upEmb : UEmb _ 𝕄) (goV VX VB VW d c j) := by
  unfold goV operands; split <;> infer_instance
theorem tdV_storable (d : Dev nD) (c : Fin τ.nSC) (j : Fin τ.nSub) : BI.Storable (upEmb : UEmb _ 𝕄) (tdV VX VB VW d c j) := by
  unfold tdV operands; split <;> infer_instance

instance P_storable : (P VX VB VW).IsStorable where
  st q d _ := match q with
    | 0 => (inferInstance : BI.Storable (upEmb : UEmb _ 𝕄) iprop(wholes VX VB VW d ∗ ∃ f, outLoc d ↦{fullShare} f))
  dn q d c := match q with
    | 0 => (inferInstance : BI.Storable (upEmb : UEmb _ 𝕄) iprop(wholes VX VB VW d ∗ outPts VX VB VW d ∗ bars d (coreOf (F := F) c)))
  go q d c i := match q with | 0 => goV_storable VX VB VW d _ _
  td q d c i := match q with | 0 => tdV_storable VX VB VW d _ _

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => onArgs (cc0_sc_call (F := F) (coordsV c s))) ⟨⟩ c s := rfl

/-- The task from what the launch and the call hand the tile. -/
theorem tile_body (d : Dev nD) (L : grid0.Coords) (hin : InRange (VX d) (VB d)) (O : CellTallies nD τ sig (HIx 2)) (W : Waits sig (HIx 2))
    (hO : ∀ g, O g none = 0) (hOlev : ∀ g ι, 0 < O g ι → 14 ≤ (K (F := F)).lev g ι) :
    iprop(levAts (K (F := F)).L (K (F := F)).lev ∗ kit VX VB VW d (cV L) (jV L) ∗ goV VX VB VW d (cV L) (jV L)
        ∗ scopedBufs (tV d L) ∗ scopedSems0 (tV d L) ∗ owes (tV d L) (O + oxV d (cV L)) W)
      ⊢ wp frame (wpE (defs₀ (F := F)) 𝒱₀ (tV d L) none) Set.univ (onArgs (cc0_sc_call (F := F) L))
        fun _ => iprop(tdV VX VB VW d (cV L) (jV L) ∗ scopedBufs (tV d L) ∗ scopedSems0 (tV d L)
          ∗ ∃ W', ⌜∀ p ∈ W', p ∈ W ∨ p.2 = none ∨ Blocks.blk (0 : Fin 1) p.2⌝ ∗ owes (tV d L) O W') := by
  rw [(K (F := F)).scopedBufs_V facts, SparseCore.Cfg.scopedSems0_V]
  obtain ⟨RB, hRB⟩ := own_bufs (F := F) d L
  obtain ⟨RS, hRS⟩ := own_sems (F := F) d L
  rw [hRB, hRS]
  unfold kit oxV
  iintro ⟨#Hlv, ⟨⟨%κ, #Hbar⟩, ⟨%κ', #Hdep⟩, H1, H2⟩, Hgo, HB, HS, HO⟩
  iapply (wp_wand_r frame (wpE (defs₀ (F := F)) 𝒱₀ (tV d L) none) Set.univ)
  isplitl [H1 H2 Hgo HB HS HO]
  · iapply (wp_task VX VB VW d L hin κ κ' hOlev (W₀ := W) (RB := RB) (RS := RS))
    isplitr; · iexact Hbar
    isplitr; · iexact Hdep
    isplitl [H1]; · iexact H1
    isplitl [H2]; · iexact H2
    isplitl [HO]
    · unfold ctl
      isplitr; · iexact Hlv
      isplitr
      · ipureintro; intro g
        show O g none + dues d (cV L) (some 1) g none + dues d (cV L) (some 0) g none = 0
        rw [hO g, dues_none d (cV L) 1 g, dues_none d (cV L) 0 g]
      iexists W
      isplitr; · ipureintro; exact fun p hp => .inl hp
      rw [← add_assoc]
      iexact HO
    isplitl [Hgo]; · iexact Hgo
    isplitl [HB]; · iexact HB
    iexact HS
  iintro %a ⟨Hc, Htd, HB, HS⟩
  unfold ctl
  icases Hc with ⟨-, -, HO⟩
  isplitl [Htd]; · iexact Htd
  isplitl [HB]; · iexact HB
  isplitl [HS]; · iexact HS
  iexact HO

set_option maxRecDepth 16384 in
theorem tileObl (hin : ∀ d, InRange (VX d) (VB d)) : (K (F := F)).TileObl (D (F := F)) 𝒱 (P VX VB VW) v₀ 0 := by
  intro d c i O W hO hOlev _
  have hc : ((K (F := F)).core 0 c).val < 1 := c.isLt
  have hci : ((K (F := F)).core 0 c).val < grid0.bound 0 ∧ ((K (F := F)).sub 0 i).val < grid0.bound 1 := ⟨c.isLt, i.isLt⟩
  rw [show (P VX VB VW).ox 0 (V d ((K (F := F)).core 0 c) ((K (F := F)).sub 0 i)) = oxV d ((K (F := F)).core 0 c) from if_pos hc,
    show (P VX VB VW).x 0 (V d ((K (F := F)).core 0 c) ((K (F := F)).sub 0 i)) = kit VX VB VW d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body VX VB VW d (coordsV ⟨_, hci.1⟩ ⟨_, hci.2⟩) (hin d) O W hO hOlev

/-! ## How the operands split into the tiles' and rejoin -/

theorem tasks_eq (Φ : Fin τ.nSub → sProp 𝕄) : (bigSep Finset.univ fun i : Fin ((K (F := F)).nSub 0) => Φ ((K (F := F)).sub 0 i)) = bigSep Finset.univ Φ :=
  bigSep_congr fun _ _ => congrArg Φ (Fin.ext rfl)

/-- An array whole is its shares, one per tile. -/
theorem shares_eq (ℓ : Loc nD τ sig) (f : Buf (Elt F) ℓ) : (ℓ ↦{fullShare} f : sProp 𝕄) = bigSep Finset.univ fun j : Fin τ.nSub => ℓ ↦{cut j} f :=
  Transfers.pointsTo_deal (Finset.univ : Finset (Fin τ.nSub)) ⟨⟨0, by decide⟩, Finset.mem_univ _⟩ fullShare

/-- The shared arrays by rows, the sums by bands, the result by parts. -/
theorem min_rows (d : Dev nD) (c : Fin τ.nSC) (f : Buf (Elt F) (minLoc d c)) :
    (minLoc d c ↦{fullShare} f : sProp 𝕄) = bigSep Finset.univ fun j : Fin τ.nSub => minLoc d c ↦[minRow j.val]{fullShare} f :=
  (congrArg (fun S => (minLoc d c ↦[S]{fullShare} f : sProp 𝕄)) minRows_univ).symm.trans (pointsTo_biUnion _ _ minRows_disj)
theorem acc_rows (d : Dev nD) (c : Fin τ.nSC) (f : Buf (Elt F) (accLoc d c)) :
    (accLoc d c ↦{fullShare} f : sProp 𝕄) = bigSep Finset.univ fun j : Fin τ.nSub => accLoc d c ↦[accRow j.val]{fullShare} f :=
  (congrArg (fun S => (accLoc d c ↦[S]{fullShare} f : sProp 𝕄)) accRows_univ).symm.trans (pointsTo_biUnion _ _ accRows_disj)
theorem acc_bands (d : Dev nD) (c : Fin τ.nSC) (f : Buf (Elt F) (accLoc d c)) :
    (accLoc d c ↦{fullShare} f : sProp 𝕄) = bigSep Finset.univ fun j : Fin τ.nSub => if j.val < 8 then (accLoc d c ↦[bandSet j.val]{fullShare} f) else iprop(emp) :=
  ((congrArg (fun S => (accLoc d c ↦[S]{fullShare} f : sProp 𝕄)) bands_univ).symm.trans (pointsTo_biUnion _ _ bands_disj)).trans
    (first_eight (F := F) fun j => (accLoc d c ↦[bandSet j]{fullShare} f)).symm
theorem out_parts (d : Dev nD) (f : Buf (Elt F) (outLoc d)) :
    (outLoc d ↦{fullShare} f : sProp 𝕄) = bigSep Finset.univ fun j : Fin τ.nSub => if j.val < 8 then (outLoc d ↦[partSet j.val]{fullShare} f) else iprop(emp) :=
  ((congrArg (fun S => (outLoc d ↦[S]{fullShare} f : sProp 𝕄)) parts_univ).symm.trans (pointsTo_biUnion _ _ parts_disj)).trans
    (first_eight (F := F) fun j => (outLoc d ↦[partSet j]{fullShare} f)).symm

theorem scratch_ne : (cc0_scratch11 : Ref sig .scVector) ≠ cc0_scratch10 := by decide

/-- The two shared arrays are among the sequencer's own. -/
theorem ownBufs_S (d : Dev nD) (c : Fin τ.nSC) :
    ∃ R : sProp 𝕄, (SparseCore.Cfg.ownBufs (S d c) : sProp 𝕄) = iprop((∃ f, minLoc d c ↦{fullShare} f) ∗ (∃ f, accLoc d c ↦{fullShare} f) ∗ R) := by
  let p : Proc τ := .scVector c ⟨0, by decide⟩
  have hm : p.devRef cc0_scratch10 ∈ SparseCore.Cfg.ownRefs (τ := τ) (sig := sig) (.scScalar c) := (SparseCore.Cfg.mem_ownRefs (p := Proc.scScalar c)).mpr rfl
  have ha : p.devRef cc0_scratch11 ∈ SparseCore.Cfg.ownRefs (τ := τ) (sig := sig) (.scScalar c) := (SparseCore.Cfg.mem_ownRefs (p := Proc.scScalar c)).mpr rfl
  have hne : p.devRef cc0_scratch11 ≠ p.devRef cc0_scratch10 := fun e => absurd (Proc.devRef_injective p e) scratch_ne
  refine ⟨bigSep (((SparseCore.Cfg.ownRefs (τ := τ) (sig := sig) (.scScalar c)).erase (p.devRef cc0_scratch10)).erase (p.devRef cc0_scratch11)) fun b => iprop(∃ f, ((d, b) : Loc nD τ sig) ↦{fullShare} f), ?_⟩
  unfold SparseCore.Cfg.ownBufs
  rw [SparseCore.bigSep_erase' hm, SparseCore.bigSep_erase' (Finset.mem_erase.mpr ⟨hne, ha⟩)]

/-- One contents of a family of parts serves every part. -/
theorem some_each {J : Type} [DecidableEq J] (s : Finset J) {A : Type} (Φ : J → A → sProp 𝕄) (a : A) : bigSep s (fun j => Φ j a) ⊢ bigSep s fun j => iprop(∃ a, Φ j a) :=
  bigSep_mono fun j _ => BI.BIClass.exists_intro (Φ := fun a => Φ j a) a

theorem out_go (d : Dev nD) : iprop(∃ f, outLoc d ↦{fullShare} f)
    ⊢ (bigSep Finset.univ fun j : Fin τ.nSub => if j.val < 8 then iprop(∃ f, outLoc d ↦[partSet j.val]{fullShare} f) else iprop(emp) : sProp 𝕄) := by
  iintro ⟨%f, H⟩
  ihave H := (Entails.of_eq (out_parts d f)) $$ H
  iapply (SparseCore.ent (bigSep_mono (s := (Finset.univ : Finset (Fin τ.nSub)))
    (Φ := fun j => if j.val < 8 then (outLoc d ↦[partSet j.val]{fullShare} f : sProp 𝕄) else iprop(emp))
    (Ψ := fun j => if j.val < 8 then (iprop(∃ f, outLoc d ↦[partSet j.val]{fullShare} f) : sProp 𝕄) else iprop(emp)) fun j _ => by
      split
      · exact BI.BIClass.exists_intro (Φ := fun f => (outLoc d ↦[partSet j.val]{fullShare} f : sProp 𝕄)) f
      · exact BI.Entails.refl _))
  iexact H

theorem gos_eq (d : Dev nD) (c : Fin τ.nSC) : (bigSep Finset.univ fun j : Fin τ.nSub => goV VX VB VW d c j)
    = iprop(wholes VX VB VW d ∗ (bigSep Finset.univ fun j : Fin τ.nSub => iprop(∃ f, minLoc d c ↦[minRow j.val]{fullShare} f))
      ∗ (bigSep Finset.univ fun j : Fin τ.nSub => iprop(∃ f, accLoc d c ↦[accRow j.val]{fullShare} f))
      ∗ (bigSep Finset.univ fun j : Fin τ.nSub => if j.val < 8 then iprop(∃ f, outLoc d ↦[partSet j.val]{fullShare} f) else iprop(emp)) : sProp 𝕄) := by
  unfold goV operands wholes
  rw [bigSep_sep', bigSep_sep', bigSep_sep', bigSep_sep', bigSep_sep', ← shares_eq, ← shares_eq, ← shares_eq]

theorem tds_eq (d : Dev nD) (c : Fin τ.nSC) : (bigSep Finset.univ fun j : Fin τ.nSub => tdV VX VB VW d c j)
    = iprop(wholes VX VB VW d ∗ (minLoc d c ↦{fullShare} (minsF (VX d) : Buf (Elt F) (minLoc d c))) ∗ (accLoc d c ↦{fullShare} (accF (VX d) (VB d) (VW d) : Buf (Elt F) (accLoc d c)))
      ∗ outPts VX VB VW d ∗ bars d c : sProp 𝕄) := by
  unfold tdV operands wholes outPts bars
  rw [bigSep_sep', bigSep_sep', bigSep_sep', bigSep_sep', bigSep_sep', bigSep_sep', ← shares_eq, ← shares_eq, ← shares_eq, ← shares_eq, ← acc_bands, ← out_parts]

theorem vecSplit : (K (F := F)).VecSplit (P VX VB VW) 0 := by
  intro d c
  show iprop((wholes VX VB VW d ∗ ∃ f, outLoc d ↦{fullShare} f) ∗ SparseCore.Cfg.ownBufs (S d (coreOf (F := F) c))) ⊢ |={Set.univ}=> iprop(
      (bigSep Finset.univ fun i : Fin ((K (F := F)).nSub 0) => goV VX VB VW d (coreOf (F := F) c) ((K (F := F)).sub 0 i))
      ∗ ((bigSep Finset.univ fun i : Fin ((K (F := F)).nSub 0) => tdV VX VB VW d (coreOf (F := F) c) ((K (F := F)).sub 0 i))
          -∗ iprop((wholes VX VB VW d ∗ outPts VX VB VW d ∗ bars d (coreOf (F := F) c)) ∗ SparseCore.Cfg.ownBufs (S d (coreOf (F := F) c)))))
  rw [tasks_eq (F := F) (goV VX VB VW d (coreOf (F := F) c)), tasks_eq (F := F) (tdV VX VB VW d (coreOf (F := F) c)), gos_eq, tds_eq]
  obtain ⟨R, hR⟩ := ownBufs_S (F := F) d (coreOf (F := F) c)
  rw [hR]
  iintro ⟨⟨Hw, Ho⟩, ⟨%fm, Hm⟩, ⟨%fa, Ha⟩, HR⟩; imodintro
  isplitl [Hw Ho Hm Ha]
  · isplitl [Hw]; · iexact Hw
    isplitl [Hm]
    · iapply (some_each (F := F) Finset.univ (fun (j : Fin τ.nSub) f => (minLoc d (coreOf (F := F) c) ↦[minRow j.val]{fullShare} f : sProp 𝕄)) fm)
      iapply (Entails.of_eq (min_rows d (coreOf (F := F) c) fm)); iexact Hm
    isplitl [Ha]
    · iapply (some_each (F := F) Finset.univ (fun (j : Fin τ.nSub) f => (accLoc d (coreOf (F := F) c) ↦[accRow j.val]{fullShare} f : sProp 𝕄)) fa)
      iapply (Entails.of_eq (acc_rows d (coreOf (F := F) c) fa)); iexact Ha
    iapply (out_go (F := F) d); iexact Ho
  iintro ⟨Hw, Hm, Ha, Ho, Hb⟩
  isplitl [Hw Ho Hb]
  · isplitl [Hw]; · iexact Hw
    isplitl [Ho] <;> iassumption
  isplitl [Hm]; · iexists _; iexact Hm
  isplitl [Ha]; · iexists _; iexact Ha
  iexact HR

end Cert.Proof.Seg
-- ==== Proof.Fund.lean ====
/-
The launch's ghost state: the barrier cells begun, the deposits set up, and every tile of the grid dealt its kit.
-/
module

public import proofs.«01_k».proof.Proof.Launch

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

attribute [local instance] blocks

/-! ## The cells and the tokens -/

abbrev DCI : Type := Dev nD × Fin τ.nSC × Fin τ.nSub
/-- A tile's cell on the semaphore `s`. -/
abbrev cellOn (s : SemLoc sig) (x : DCI) : GSem nD τ sig := (V x.1 x.2.1 x.2.2, s)
/-- The tiles of the grid. -/
abbrev tiles : Finset DCI := Finset.univ.filter fun x => x.2.1.val < 1
theorem mem_tiles (d : Dev nD) {c : Fin τ.nSC} (hc : c.val < 1) (i : Fin τ.nSub) : ((d, c, i) : DCI) ∈ tiles := Finset.mem_filter.mpr ⟨Finset.mem_univ _, hc⟩

def cells (s : SemLoc sig) : Finset (GSem nD τ sig) := tiles.image (cellOn s)
/-- The barrier cells: those of the free semaphores that the proof takes at the launch. -/
abbrev bCells : Finset (GSem nD τ sig) := cells (.reg sc_bar0)
/-- Every tile's token `n i` in every tile's cell on `s`. -/
def toks (s : SemLoc sig) (n : ℕ → ℕ) : Finset (GSem nD τ sig × ℕ × ℕ) :=
  (tiles ×ˢ Finset.univ).image fun x : DCI × Fin (grid0.bound 1) => (cellOn s (x.1.1, x.1.2.1, x.2.castLE hsub0), 0, n x.1.2.2.val)

theorem cellOn_inj (s : SemLoc sig) : Function.Injective (cellOn s) := fun a b e => by
  obtain ⟨h1, h2⟩ := Prod.mk.inj (Prod.mk.inj e).1; obtain ⟨h3, h4⟩ := Proc.scVector.inj h2
  exact Prod.ext h1 (Prod.ext h3 h4)

theorem mem_cells (s : SemLoc sig) (x : DCI) (h : x.2.1.val < 1) : cellOn s x ∈ cells s := Finset.mem_image_of_mem _ (Finset.mem_filter.mpr ⟨Finset.mem_univ _, h⟩)
theorem bar_free : ¬ (SemLoc.reg sc_bar0 : SemLoc sig).isScoped .scVector := by decide
theorem bar_ne_go : (SemLoc.reg sc_bar0 : SemLoc sig) ≠ .reg (K (F := F)).go := fun h => sc_bar0_ne_go (SemLoc.reg.inj h)

theorem cells_disj : Disjoint bCells (cells (.reg sc_go)) := Finset.disjoint_left.mpr fun g h h' => by
  obtain ⟨x, -, rfl⟩ := Finset.mem_image.mp h
  obtain ⟨y, -, e⟩ := Finset.mem_image.mp h'
  exact sc_bar0_ne_go (SemLoc.reg.inj (Prod.mk.inj e).2).symm

abbrev later (n : ℕ) : ℕ := 16 + n

theorem toks_disj : Disjoint (toks (.reg sc_bar0) id) (toks (.reg sc_bar0) later) := Finset.disjoint_left.mpr fun g h h' => by
  obtain ⟨x, -, rfl⟩ := Finset.mem_image.mp h
  obtain ⟨y, -, e⟩ := Finset.mem_image.mp h'
  have e2 : 16 + y.1.2.2.val = x.1.2.2.val := (Prod.mk.inj (Prod.mk.inj e).2).2
  have hx : x.1.2.2.val < 16 := x.1.2.2.isLt
  omega
theorem toks_disj' (n n' : ℕ → ℕ) : Disjoint (toks (.reg sc_bar0) n) (toks (.reg sc_go) n') := Finset.disjoint_left.mpr fun g h h' => by
  obtain ⟨x, -, rfl⟩ := Finset.mem_image.mp h
  obtain ⟨y, -, e⟩ := Finset.mem_image.mp h'
  exact sc_bar0_ne_go (SemLoc.reg.inj (Prod.mk.inj (Prod.mk.inj e).1).2).symm

theorem cells_eq (s : SemLoc sig) (Φ : GSem nD τ sig → sProp 𝕄) : bigSep (cells s) Φ = bigSep tiles fun x : DCI => Φ (cellOn s x) := by
  unfold cells; exact SparseCore.bigSep_image_of_injOn (fun a _ b _ e => cellOn_inj s e) Φ

theorem toks_eq (s : SemLoc sig) (n : ℕ → ℕ) (hn : Function.Injective n) : (bigSep (toks s n) fun x => (dutyTok EB x.1 x.2.1 x.2.2 : sProp 𝕄))
    = bigSep tiles fun x : DCI => bigSep Finset.univ fun j : Fin (grid0.bound 1) => dutyTok EB (cellOn s (x.1, x.2.1, j.castLE hsub0)) 0 (n x.2.2.val) := by
  unfold toks
  rw [SparseCore.bigSep_image_of_injOn, SparseCore.bigSep_product]
  rintro ⟨⟨d, c, i⟩, j⟩ - ⟨⟨d', c', i'⟩, j'⟩ - e
  obtain ⟨e1, e2⟩ := Prod.mk.inj e
  have hd := cellOn_inj s e1
  obtain ⟨rfl, h⟩ := Prod.mk.inj hd
  obtain ⟨rfl, hj⟩ := Prod.mk.inj h
  obtain rfl : j = j' := Fin.ext (congrArg Fin.val hj)
  obtain rfl : i = i' := Fin.ext (hn (Prod.mk.inj e2).2)
  rfl

variable [FloatOps F] (VX VB : Dev nD → S100000.Idx → BitVec 32) (VW : Dev nD → S86.Idx → F .f32)

/-- The launch element of the ghost state. -/
def u₀ : UU := (initOf (K (F := F)).hsCells (K (F := F)).hsToks,
  (initOf (bCells ∪ cells (.reg sc_go)) ((toks (.reg sc_bar0) id ∪ toks (.reg sc_bar0) later) ∪ toks (.reg sc_go) id), 1))

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

/-- Every barrier semaphore of the grid at zero, out of the free semaphores the launch hands over. -/
theorem sems_b : ((K (F := F)).freeOn (· ∈ bCells) : sProp 𝕄) ⊢ bigSep bCells fun g => semVal g 0 := by
  rw [cells_eq, bigSep_filter]
  unfold SparseCore.Cfg.freeOn
  refine sep_elim_right.trans (bigSep_mono fun x _ => ?_)
  split
  · next hc =>
    have hmem : SemLoc.reg sc_bar0 ∈ (((Finset.univ.filter fun sm : SemLoc sig => ¬sm.isScoped .scVector).erase (.reg (K (F := F)).go)).filter
        fun sm => ((V x.1 x.2.1 x.2.2, sm) : GSem nD τ sig) ∈ bCells) :=
      Finset.mem_filter.mpr ⟨Finset.mem_erase.mpr ⟨bar_ne_go, Finset.mem_filter.mpr ⟨Finset.mem_univ _, bar_free⟩⟩, mem_cells _ x hc⟩
    exact bigSep_elim (Φ := fun sm : SemLoc sig => (semVal (V x.1 x.2.1 x.2.2, sm) 0 : sProp 𝕄)) hmem
  · exact fun _ _ => trivial

/-- The barrier cells' invariants, allocated at once. -/
theorem invs_b : iprop((bigSep bCells fun g => (semVal g 0 : sProp 𝕄)) ∗ bigSep bCells fun g => initState EB g)
    ⊢ |={Set.univ}=> iprop(∃ κ : GSem nD τ sig → ℕ, bigSep tiles fun x => cellInv EB (bRd VX VB VW) (κ (cellOn (.reg sc_bar0) x)) (cellOn (.reg sc_bar0) x)) := by
  refine (sep_mono_right (bigSep_mono fun _ _ => roundState_init EB (bRd VX VB VW))).trans ?_
  refine (Rounds.bodies_intro EB (bRd VX VB VW) bCells).trans ((inv_alloc_family bCells (Rounds.body EB (bRd VX VB VW)) ∅ (E := Set.univ)).trans ?_)
  iintro H
  imod H with ⟨%κ, -, Hinv⟩
  imodintro; iexists κ
  iapply (Entails.of_eq (cells_eq (F := F) (.reg sc_bar0) fun g => cellInv EB (bRd VX VB VW) (κ g) g)); iexact Hinv

/-- The deposits' invariants, nothing deposited. -/
theorem invs_g : (bigSep (cells (.reg sc_go)) fun g => initState EB g : sProp 𝕄)
    ⊢ |={Set.univ}=> iprop(∃ κ : DCI → ℕ, bigSep tiles fun x => inv (κ x) (depBody (F := F) VX x.1 x.2.1 x.2.2)) := by
  rw [cells_eq]
  refine BIBase.Entails.trans (Q := bigSep tiles fun x : DCI => depBody (F := F) VX x.1 x.2.1 x.2.2) (bigSep_mono fun x _ => ?_)
    ((inv_alloc_family tiles (fun x : DCI => depBody (F := F) VX x.1 x.2.1 x.2.2) ∅ (E := Set.univ)).trans ?_)
  · show (initState EB (gcell x.1 x.2.1 x.2.2) : sProp 𝕄) ⊢ depBody (F := F) VX x.1 x.2.1 x.2.2
    iintro ⟨H, -⟩
    unfold depBody
    ileft; iexact H
  · iintro H
    imod H with ⟨%κ, -, Hinv⟩
    imodintro; iexists κ; iexact Hinv

/-! ## The credit -/

theorem sum_units (g : GSem nD τ sig) (ι : HIx 2) : ∀ n : ℕ, ∑ _ : Fin n, tallyAt g ι 1 = (tallyAt g ι n : CellTallies nD τ sig (HIx 2))
  | 0 => by rw [Finset.univ_eq_empty, Finset.sum_empty, tallyAt_zero]
  | n + 1 => by rw [Fin.sum_univ_castSucc, sum_units g ι n, tallyAt_add]

/-- The credit of what all the tiles owe at one meeting, regrouped by cell. -/
theorem dues_deal (d : Dev nD) (c : Fin τ.nSC) (ι : HIx 2) :
    (bigSep Finset.univ fun _ : Fin τ.nSub => cred (dues d c ι) : sProp 𝕄) = bigSep Finset.univ fun j : Fin τ.nSub => cred (tallyAt (bcell d c j) ι 16) := by
  unfold dues
  rw [show (fun _ : Fin τ.nSub => (cred (∑ j : Fin (grid0.bound 1), tallyAt (bcell d c (j.castLE hsub0)) ι 1) : sProp 𝕄))
    = fun _ : Fin τ.nSub => bigSep Finset.univ fun j : Fin (grid0.bound 1) => cred (tallyAt (bcell d c (j.castLE hsub0)) ι 1) from
    funext fun _ => SparseCore.Cfg.cred_finsum _ _, bigSep_univ_comm]
  refine bigSep_congr fun j _ => ?_
  rw [← SparseCore.Cfg.cred_finsum, sum_units]; rfl

/-- A family over the tiles of the grid, device by device and SparseCore by SparseCore. -/
theorem tiles_eq (Φ : DCI → sProp 𝕄) : bigSep tiles Φ
    = bigSep Finset.univ fun d : Dev nD => bigSep Finset.univ fun c : Fin τ.nSC => bigSep Finset.univ fun i : Fin τ.nSub => if c.val < 1 then Φ (d, c, i) else BI.emp := by
  rw [bigSep_filter, bigSep_univ_prod]
  exact bigSep_congr fun d _ => bigSep_univ_prod _

theorem dues_all (ι : HIx 2) : (bigSep tiles fun x : DCI => cred (dues x.1 x.2.1 ι) : sProp 𝕄) = bigSep tiles fun x : DCI => cred (tallyAt (bcell x.1 x.2.1 x.2.2) ι 16) := by
  rw [tiles_eq, tiles_eq]
  refine bigSep_congr fun d _ => bigSep_congr fun c _ => ?_
  by_cases hc : c.val < 1
  · simp only [hc, ↓reduceIte]; exact dues_deal d c ι
  · simp only [hc, ↓reduceIte]

/-- The credit for the tiles' debts: each tile the sixteen units of its own cell, at each meeting. -/
theorem creds_b : ((P VX VB VW).oxCred : sProp 𝕄)
    ⊢ iprop((bigSep tiles fun x : DCI => cred (tallyAt (bcell x.1 x.2.1 x.2.2) (some 0) 16)) ∗ bigSep tiles fun x : DCI => cred (tallyAt (bcell x.1 x.2.1 x.2.2) (some 1) 16)) := by
  rw [← dues_all, ← dues_all, ← bigSep_sep', tiles_eq]
  unfold SparseCore.Cfg.Pay.oxCred
  rw [SparseCore.Cfg.bigSep_threads (fun thr : Thread nD τ => (cred ((P VX VB VW).oxFrom 0 thr) : sProp 𝕄))]
  refine sep_elim_right.trans (sep_elim_right.trans ?_)
  rw [bigSep_univ_prod]
  refine bigSep_mono fun d _ => ?_
  rw [bigSep_univ_prod]
  refine bigSep_mono fun c _ => bigSep_mono fun i _ => ?_
  dsimp only
  by_cases hc : c.val < 1
  · simp only [hc, ↓reduceIte]
    have hox : (P VX VB VW).oxFrom 0 (V d c i) = oxV d c := by
      rw [show (0 : ℕ) = (0 : Fin 1).val from rfl, (P VX VB VW).oxFrom_step, (P VX VB VW).oxFrom_end _ (n := (0 : Fin 1).val + 1) le_rfl, add_zero]; exact if_pos hc
    rw [hox]
    unfold oxV
    exact ((cred_add _ _).1).trans sep_comm
  · simp only [hc, ↓reduceIte]
    exact fun _ _ => trivial

/-! ## The kits -/

/-- Nothing for each is nothing. -/
theorem all_emp {I : Type} (s : Finset I) : (bigSep s fun _ => (iprop(emp) : sProp 𝕄)) = iprop(emp) := bigSep_emp_const s

/-- What every tile of the grid is handed alike. -/
abbrev shared : sProp 𝕄 :=
  iprop((∃ κ : GSem nD τ sig → ℕ, bigSep tiles fun x : DCI => cellInv EB (bRd VX VB VW) (κ (cellOn (.reg sc_bar0) x)) (cellOn (.reg sc_bar0) x))
    ∗ (∃ κ : DCI → ℕ, bigSep tiles fun x => inv (κ x) (depBody (F := F) VX x.1 x.2.1 x.2.2))
    ∗ bigSep tiles fun x : DCI => reached EB (cellOn (.reg sc_bar0) x) 0)
/-- What each tile is handed of its own. -/
abbrev mine (x : DCI) : sProp 𝕄 :=
  iprop(atPos EB (cellOn (.reg sc_bar0) x) 0 ∅ 0 ∗ atPos EB (cellOn (.reg sc_go) x) 0 ∅ 0
    ∗ (bigSep Finset.univ fun j : Fin (grid0.bound 1) => dutyTok EB (cellOn (.reg sc_bar0) (x.1, x.2.1, j.castLE hsub0)) 0 (id x.2.2.val))
    ∗ (bigSep Finset.univ fun j : Fin (grid0.bound 1) => dutyTok EB (cellOn (.reg sc_bar0) (x.1, x.2.1, j.castLE hsub0)) 0 (later x.2.2.val))
    ∗ (bigSep Finset.univ fun j : Fin (grid0.bound 1) => dutyTok EB (cellOn (.reg sc_go) (x.1, x.2.1, j.castLE hsub0)) 0 (id x.2.2.val))
    ∗ cred (tallyAt (bcell x.1 x.2.1 x.2.2) (some 0) 16) ∗ cred (tallyAt (bcell x.1 x.2.1 x.2.2) (some 1) 16))

theorem kit_intro (x : DCI) (h : x ∈ tiles) : iprop(shared VX VB VW ∗ mine x) ⊢ (kit VX VB VW x.1 x.2.1 x.2.2 : sProp 𝕄) := by
  obtain ⟨d, c, i⟩ := x
  have hc : c.val < 1 := (Finset.mem_filter.mp h).2
  iintro ⟨⟨⟨%κ, #Hinv⟩, ⟨%κ', #Hdep⟩, #Hr⟩, Hat, Hag, Ht, Ht', Hg, Hc, Hc'⟩
  have hrr : (bigSep tiles fun x : DCI => reached EB (cellOn (.reg sc_bar0) x) 0 : sProp 𝕄)
      ⊢ bigSep Finset.univ fun j : Fin (grid0.bound 1) => reached EB (bcell d c (j.castLE hsub0)) 0 :=
    pers_all (F := F) _ fun j _ => bigSep_elim (Φ := fun x : DCI => (reached EB (cellOn (.reg sc_bar0) x) 0 : sProp 𝕄)) (mem_tiles d hc (Fin.castLE hsub0 j))
  ihave #Hrr := hrr $$ Hr
  unfold kit
  isplitr
  · iexists κ
    iapply (pers_all (F := F) (Finset.univ : Finset (Fin (grid0.bound 1))) (fun j _ =>
      bigSep_elim (Φ := fun x : DCI => (cellInv EB (bRd VX VB VW) (κ (cellOn (.reg sc_bar0) x)) (cellOn (.reg sc_bar0) x) : sProp 𝕄)) (mem_tiles d hc (Fin.castLE hsub0 j))))
    iexact Hinv
  isplitr
  · iexists fun k => κ' (d, c, k)
    iapply (pers_all (F := F) (Finset.univ : Finset (Fin τ.nSub)) (fun j _ =>
      bigSep_elim (Φ := fun x : DCI => (inv (κ' x) (depBody (F := F) VX x.1 x.2.1 x.2.2) : sProp 𝕄)) (mem_tiles d hc j)))
    iexact Hdep
  isplitr [Ht' Hc']
  · unfold toMeet1
    rw [bigSep_sep']
    isplitl [Ht]
    · isplitl [Ht]; · iexact Ht
      iexact Hrr
    isplitl [Hc]; · iexact Hc
    isplitl [Hat]; · iexact Hat
    isplitl [Hag]; · iexact Hag
    iexact Hg
  · unfold toMeet2
    rw [bigSep_sep']
    isplitl [Ht']
    · isplitl [Ht']; · iexact Ht'
      iexact Hrr
    iexact Hc'

theorem Px_T (d : Dev nD) : (bigSep Finset.univ fun q : Fin 1 => (P VX VB VW).x q (SparseCore.T d)) = iprop(emp) := bigSep_univ_of_subsingleton (0 : Fin 1)
theorem Px_S (d : Dev nD) (c : Fin τ.nSC) : (bigSep Finset.univ fun q : Fin 1 => (P VX VB VW).x q (S d c)) = iprop(emp) := bigSep_univ_of_subsingleton (0 : Fin 1)
theorem Px_V (d : Dev nD) (c : Fin τ.nSC) (i : Fin τ.nSub) :
    (bigSep Finset.univ fun q : Fin 1 => (P VX VB VW).x q (V d c i)) = if c.val < 1 then kit VX VB VW d c i else iprop(emp) := bigSep_univ_of_subsingleton (0 : Fin 1)

/-- Each tile of the grid its kit. -/
theorem kits_deal : iprop(shared VX VB VW ∗ bigSep tiles (mine (F := F)))
    ⊢ (bigSep Finset.univ fun thr : Thread nD τ => bigSep Finset.univ fun q : Fin 1 => (P VX VB VW).x q thr : sProp 𝕄) := by
  rw [SparseCore.Cfg.bigSep_threads (fun thr : Thread nD τ => bigSep Finset.univ fun q : Fin 1 => (P VX VB VW).x q thr)]
  simp only [Px_T, Px_S, Px_V, all_emp]
  iintro ⟨#Hsh, H⟩
  isplitr; · iempintro
  isplitr; · iempintro
  iapply (SparseCore.ent (Entails.of_eq (bigSep_filter Finset.univ (fun x : DCI => x.2.1.val < 1) fun x => kit VX VB VW x.1 x.2.1 x.2.2)))
  iapply (beside_all (F := F) (P := shared VX VB VW) (Φ := mine (F := F)) fun x h => kit_intro VX VB VW x h)
  isplitr; · iexact Hsh
  iexact H

/-- What the launch hands over, from its ghost state, the credit and the free semaphores. -/
theorem hu₀ : iprop(ownU (u₀ (F := F)) ∗ (P VX VB VW).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P VX VB VW).x q thr) : sProp 𝕄) := by
  unfold u₀
  iintro ⟨Hu, Hcred, Hfree⟩
  ihave H := (ownU_split _ _) $$ Hu
  icases H with ⟨HH, HB⟩
  imod (Rounds.fund_init EB (bCells ∪ cells (.reg sc_go)) ((toks (.reg sc_bar0) id ∪ toks (.reg sc_bar0) later) ∪ toks (.reg sc_go) id)) $$ HB with ⟨Hst, Hr, Hat, Htok⟩
  ihave Hst := (Entails.of_eq (SparseCore.bigSep_union' cells_disj)) $$ Hst
  icases Hst with ⟨Hst, Hsg⟩
  ihave Hr := (Entails.of_eq (SparseCore.bigSep_union' cells_disj)) $$ Hr
  icases Hr with ⟨#Hr, -⟩
  ihave Hat := (Entails.of_eq (SparseCore.bigSep_union' cells_disj)) $$ Hat
  icases Hat with ⟨Hat, Hag⟩
  ihave Htok := (Entails.of_eq (SparseCore.bigSep_union' (Finset.disjoint_union_left.mpr ⟨toks_disj' id id, toks_disj' later id⟩))) $$ Htok
  icases Htok with ⟨Htok, Hg⟩
  ihave Htok := (Entails.of_eq (SparseCore.bigSep_union' toks_disj)) $$ Htok
  icases Htok with ⟨Ht, Ht'⟩
  ihave Hsems := (sems_b (F := F)) $$ Hfree
  imod (invs_b VX VB VW) $$ [Hsems Hst] with #Hinv
  · isplitl [Hsems] <;> iassumption
  imod (invs_g (F := F) VX) $$ Hsg with #Hdep
  ihave Hcred := (creds_b VX VB VW) $$ Hcred
  icases Hcred with ⟨Hc, Hc'⟩
  ihave Hr := (Entails.of_eq (cells_eq (F := F) (.reg sc_bar0) fun g => reached EB g 0)) $$ Hr
  ihave Hat := (Entails.of_eq (cells_eq (F := F) (.reg sc_bar0) fun g => atPos EB g 0 ∅ 0)) $$ Hat
  ihave Hag := (Entails.of_eq (cells_eq (F := F) (.reg sc_go) fun g => atPos EB g 0 ∅ 0)) $$ Hag
  ihave Ht := (Entails.of_eq (toks_eq (F := F) (.reg sc_bar0) id fun _ _ h => h)) $$ Ht
  ihave Ht' := (Entails.of_eq (toks_eq (F := F) (.reg sc_bar0) later fun _ _ h => Nat.add_left_cancel h)) $$ Ht'
  ihave Hg := (Entails.of_eq (toks_eq (F := F) (.reg sc_go) id fun _ _ h => h)) $$ Hg
  imodintro
  isplitl [HH]; · iexact HH
  isplitr; · rw [all_emp]; iempintro
  iapply (kits_deal VX VB VW)
  isplitr
  · isplitr; · iexact Hinv
    isplitr; · iexact Hdep
    iexact Hr
  unfold mine
  rw [bigSep_sep', bigSep_sep', bigSep_sep', bigSep_sep', bigSep_sep', bigSep_sep']
  isplitl [Hat]; · iexact Hat
  isplitl [Hag]; · iexact Hag
  isplitl [Ht]; · iexact Ht
  isplitl [Ht']; · iexact Ht'
  isplitl [Hg]; · iexact Hg
  isplitl [Hc]; · iexact Hc
  iexact Hc'

end Cert.Proof.Seg
-- ==== Proof.Run.lean ====
/-
The program's run, over any floats: from arguments in range it ends with the arguments unchanged, the result at the
graphs' sums, and every semaphore at zero.
-/
module

public import proofs.«01_k».proof.Proof.Fund

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)
open Idealize.ShloMosaic.Tactic

variable {F : FTy → Type}

local notation "𝕄" => MT nD τ sig (HIx 2) (Elt F) ℕ UU ℕ

attribute [local instance] blocks

variable [FloatOps F] (m : (ℓ : Loc nD τ sig) → Buf (Elt F) ℓ) (ρ : Dev nD → PrngReg)

/-! ## The arrays of @main -/

abbrev a0 : DevRef τ sig := Proc.devRef .tc (main_arg0 : Ref sig .tc)
abbrev a1 : DevRef τ sig := Proc.devRef .tc (main_arg1 : Ref sig .tc)
abbrev a2 : DevRef τ sig := Proc.devRef .tc (main_arg2 : Ref sig .tc)
abbrev v0 : DevRef τ sig := Proc.devRef .tc (main_v0 : Ref sig .tc)
abbrev v1 : DevRef τ sig := Proc.devRef .tc (main_v1 : Ref sig .tc)
abbrev v2 : DevRef τ sig := Proc.devRef .tc (main_v2 : Ref sig .tc)
abbrev v3 : DevRef τ sig := Proc.devRef .tc (main_v3 : Ref sig .tc)
abbrev S7 : Finset (DevRef τ sig) := {a0, a1, a2, v0, v1, v2, v3}

abbrev x0Loc (d : Dev nD) : Loc nD τ sig := (SparseCore.T d).loc main_arg0
abbrev w0Loc (d : Dev nD) : Loc nD τ sig := (SparseCore.T d).loc main_arg2
abbrev resLoc (d : Dev nD) : Loc nD τ sig := (SparseCore.T d).loc main_v3

abbrev opX : HloOp τ sig (Elt F) := StableHlo.reshape main_arg0 main_v0 (rfl : (.i32 : EltTy) = .i32) shapeCasts_S100000x1_S100000
abbrev opW : HloOp τ sig (Elt F) := StableHlo.reshape main_arg2 main_v1 (rfl : (.f32 : EltTy) = .f32) shapeCasts_S86x1_S86
abbrev opR : HloOp τ sig (Elt F) := StableHlo.reshape main_v2 main_v3 (rfl : (.f32 : EltTy) = .f32) shapeCasts_S1024_S1024x1

/-- The nodes' element numbers, their graphs and the table, as the call reads them. -/
def VX (d : Dev nD) : S100000.Idx → BitVec 32 := shapeCast S100000 (m (x0Loc d) : S100000x1.Idx → BitVec 32) shapeCasts_S100000x1_S100000
def VB (d : Dev nD) : S100000.Idx → BitVec 32 := m (batLoc d)
def VW (d : Dev nD) : S86.Idx → F .f32 := shapeCast S86 (m (w0Loc d) : S86x1.Idx → F .f32) shapeCasts_S86x1_S86
/-- The result: the graphs' sums as a column. -/
def Rv (d : Dev nD) : S1024x1.Idx → F .f32 := shapeCast S1024x1 (outF (VX m d) (VB m d) (VW m d)) shapeCasts_S1024_S1024x1

theorem held_S7 (d : Dev nD) (W : Valuation τ sig (Elt F)) : (StableHlo.held (SparseCore.T d) S7 W : sProp 𝕄)
    = iprop((x0Loc d ↦{fullShare} W a0) ∗ (batLoc d ↦{fullShare} W a1) ∗ (w0Loc d ↦{fullShare} W a2) ∗ (idxLoc d ↦{fullShare} W v0)
      ∗ (wLoc d ↦{fullShare} W v1) ∗ (outLoc d ↦{fullShare} W v2) ∗ resLoc d ↦{fullShare} W v3) := by
  unfold StableHlo.held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

def V0 (d : Dev nD) : Valuation τ sig (Elt F) := fun b => m (d, b)
/-- Before the call, and after it. -/
def V1 (d : Dev nD) : Valuation τ sig (Elt F) := (opW (F := F)).result ((opX (F := F)).result (V0 m d))
def V2 (d : Dev nD) : Valuation τ sig (Elt F) := Function.update (V1 m d) v2 (outF (VX m d) (VB m d) (VW m d))

theorem unscoped_held (d : Dev nD) : (unscopedBufs d (fun b => m ((SparseCore.T d).loc b)) : sProp 𝕄) = StableHlo.held (SparseCore.T d) S7 (V0 m d) := by
  rw [held_S7]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- An array that neither reshape writes is at its launch contents. -/
theorem V1_keep (d : Dev nD) (r : Ref sig .tc) (h : r ≠ main_v0) (h' : r ≠ main_v1) : V1 m d (Proc.devRef .tc r) = m (d, Proc.devRef .tc r) := by
  unfold V1
  rw [StableHlo.reshape_result_ne _ _ _ _ _ _ _ h', StableHlo.reshape_result_ne _ _ _ _ _ _ _ h]; rfl
theorem V1_x (d : Dev nD) : V1 m d v0 = VX m d := by
  unfold V1
  rw [StableHlo.reshape_result_ne _ _ _ _ _ _ _ (show main_v0 ≠ main_v1 by decide), StableHlo.reshape_result]; rfl
theorem V1_w (d : Dev nD) : V1 m d v1 = VW m d := by
  unfold V1
  rw [StableHlo.reshape_result, StableHlo.reshape_result_ne _ _ _ _ _ _ _ (show main_arg2 ≠ main_v0 by decide)]; rfl

theorem held_V1 (d : Dev nD) : (StableHlo.held (SparseCore.T d) S7 ((opW (F := F)).result ((opX (F := F)).result (V0 m d))) : sProp 𝕄)
    = iprop((x0Loc d ↦{fullShare} m (x0Loc d)) ∗ (batLoc d ↦{fullShare} (VB m d : Buf (Elt F) (batLoc d))) ∗ (w0Loc d ↦{fullShare} m (w0Loc d))
      ∗ (idxLoc d ↦{fullShare} (VX m d : Buf (Elt F) (idxLoc d))) ∗ (wLoc d ↦{fullShare} (VW m d : Buf (Elt F) (wLoc d)))
      ∗ (outLoc d ↦{fullShare} m (outLoc d)) ∗ resLoc d ↦{fullShare} m (resLoc d)) := by
  show StableHlo.held (SparseCore.T d) S7 (V1 m d) = _
  rw [held_S7, V1_keep m d main_arg0 (by decide) (by decide), V1_keep m d main_arg1 (by decide) (by decide), V1_keep m d main_arg2 (by decide) (by decide),
    V1_keep m d main_v2 (by decide) (by decide), V1_keep m d main_v3 (by decide) (by decide), V1_x, V1_w]
  rfl

theorem held_V2 (d : Dev nD) : (StableHlo.held (SparseCore.T d) S7 (V2 m d) : sProp 𝕄)
    = iprop((x0Loc d ↦{fullShare} m (x0Loc d)) ∗ (batLoc d ↦{fullShare} (VB m d : Buf (Elt F) (batLoc d))) ∗ (w0Loc d ↦{fullShare} m (w0Loc d))
      ∗ (idxLoc d ↦{fullShare} (VX m d : Buf (Elt F) (idxLoc d))) ∗ (wLoc d ↦{fullShare} (VW m d : Buf (Elt F) (wLoc d)))
      ∗ outPts (VX m) (VB m) (VW m) d ∗ resLoc d ↦{fullShare} m (resLoc d)) := by
  have h : ∀ r : DevRef τ sig, r ≠ v2 → V2 m d r = V1 m d r := fun r h => Function.update_of_ne h _ _
  rw [held_S7, h a0 (by decide), h a1 (by decide), h a2 (by decide), h v0 (by decide), h v1 (by decide), h v3 (by decide),
    show V2 m d v2 = outF (VX m d) (VB m d) (VW m d) from Function.update_self _ _ _,
    V1_keep m d main_arg0 (by decide) (by decide), V1_keep m d main_arg1 (by decide) (by decide), V1_keep m d main_arg2 (by decide) (by decide),
    V1_keep m d main_v3 (by decide) (by decide), V1_x, V1_w]
  rfl

/-- What @main leaves: the arguments at their launch contents, the result, the barrier semaphores at zero. -/
abbrev FIN (d : Dev nD) : sProp 𝕄 :=
  iprop((x0Loc d ↦{fullShare} m (x0Loc d)) ∗ (batLoc d ↦{fullShare} m (batLoc d)) ∗ (w0Loc d ↦{fullShare} m (w0Loc d))
    ∗ (resLoc d ↦{fullShare} (Rv m d : Buf (Elt F) (resLoc d))) ∗ bars d (coreOf (F := F) 0))

theorem held_end (d : Dev nD) : (StableHlo.held (SparseCore.T d) S7 ((opR (F := F)).result (V2 m d)) : sProp 𝕄)
    ⊢ iprop((x0Loc d ↦{fullShare} m (x0Loc d)) ∗ (batLoc d ↦{fullShare} m (batLoc d)) ∗ (w0Loc d ↦{fullShare} m (w0Loc d))
      ∗ (resLoc d ↦{fullShare} (Rv m d : Buf (Elt F) (resLoc d)))) := by
  have hk : ∀ r : Ref sig .tc, r ≠ main_v3 → (opR (F := F)).result (V2 m d) (Proc.devRef .tc r) = V2 m d (Proc.devRef .tc r) := fun r h =>
    StableHlo.reshape_result_ne _ _ _ _ _ _ _ h
  have h : ∀ r : DevRef τ sig, r ≠ v2 → V2 m d r = V1 m d r := fun r h => Function.update_of_ne h _ _
  have hr : (opR (F := F)).result (V2 m d) v3 = Rv m d := by
    rw [StableHlo.reshape_result]
    unfold Rv
    rw [show V2 m d (Proc.devRef .tc main_v2) = outF (VX m d) (VB m d) (VW m d) from Function.update_self _ _ _]
    rfl
  rw [held_S7, hk main_arg0 (by decide), hk main_arg1 (by decide), hk main_arg2 (by decide), hr, h _ (by decide), h _ (by decide), h _ (by decide),
    V1_keep m d main_arg0 (by decide) (by decide), V1_keep m d main_arg1 (by decide) (by decide), V1_keep m d main_arg2 (by decide) (by decide)]
  iintro ⟨H0, H1, H2, -, -, -, H3⟩
  isplitl [H0]; · iexact H0
  isplitl [H1]; · iexact H1
  isplitl [H2]; · iexact H2
  iexact H3

theorem st0_eq (d : Dev nD) : (bigSep Finset.univ fun c : Fin ((K (F := F)).nCore 0) => (P (VX m) (VB m) (VW m)).st 0 d c)
    = iprop(wholes (VX m) (VB m) (VW m) d ∗ ∃ f, outLoc d ↦{fullShare} f) := bigSep_univ_of_subsingleton (0 : Fin 1)
theorem dn0_eq (d : Dev nD) : (bigSep Finset.univ fun c : Fin ((K (F := F)).nCore 0) => (P (VX m) (VB m) (VW m)).dn 0 d c)
    = iprop(wholes (VX m) (VB m) (VW m) d ∗ outPts (VX m) (VB m) (VW m) d ∗ bars d (coreOf (F := F) 0)) := bigSep_univ_of_subsingleton (0 : Fin 1)

theorem hX : (opX (F := F)).bufs ⊆ S7 := show ({a0, v0} : Finset (DevRef τ sig)) ⊆ S7 by decide
theorem hW : (opW (F := F)).bufs ⊆ S7 := show ({a2, v1} : Finset (DevRef τ sig)) ⊆ S7 by decide
theorem hR : (opR (F := F)).bufs ⊆ S7 := show ({v2, v3} : Finset (DevRef τ sig)) ⊆ S7 by decide

/-- @main on device `d`'s TensorCore: the two reshapes, the call, the last reshape. -/
theorem hmain (κ : GSem nD τ sig → ℕ) (d : Dev nD) :
    iprop((K (F := F)).ctx EH (P (VX m) (VB m) (VW m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S7) hX (V := V0 m d)) $$ [Hb Hheld]
  · isplitl [Hb] <;> iassumption
  iintro ⟨Hb, Hheld⟩
  rw [wp_ret]; imodintro
  iapply (wp_hlo_within 𝒱 (SparseCore.T d) none Set.univ (op := opW) (S := S7) hW (V := (opX (F := F)).result (V0 m d))) $$ [Hb Hheld]
  · isplitl [Hb] <;> iassumption
  iintro ⟨Hb, Hheld⟩
  rw [wp_ret]; imodintro
  ihave Hh := (Entails.of_eq (held_V1 m d)) $$ Hheld
  icases Hh with ⟨H0, H1, H2, Hx, Hw, Ho, H3⟩
  iapply ((K (F := F)).wp_run (D (F := F)) 𝒱 (EH := EH) (P := P (VX m) (VB m) (VW m)) κ d 0) $$ [Hst H0 H1 H2 Hx Hw Ho H3 Hb Hts]
  isplitr; · iexact Hctx
  isplitl [Hst]; · iexact Hst
  isplitl [H1 Hx Hw Ho]
  · rw [st0_eq]
    isplitl [H1 Hx Hw]
    · isplitl [Hx]; · iexact Hx
      isplitl [H1] <;> iassumption
    iexists _; iexact Ho
  iintro ⟨Hst, Hdn⟩
  ihave Hdn := (Entails.of_eq (dn0_eq m d)) $$ Hdn
  icases Hdn with ⟨⟨Hx, H1, Hw⟩, Ho, Hbars⟩
  iapply (wp_hlo_within 𝒱 (SparseCore.T d) none Set.univ (op := opR) (S := S7) hR (V := V2 m d)) $$ [Hb H0 H1 H2 Hx Hw Ho H3]
  · isplitl [Hb]; · iexact Hb
    iapply (Entails.of_eq (held_V2 m d).symm)
    isplitl [H0]; · iexact H0
    isplitl [H1]; · iexact H1
    isplitl [H2]; · iexact H2
    isplitl [Hx]; · iexact Hx
    isplitl [Hw]; · iexact Hw
    isplitl [Ho]; · iexact Ho
    iexact H3
  iintro ⟨Hb, Hheld⟩
  ihave Hh := (held_end m d) $$ Hheld
  icases Hh with ⟨H0, H1, H2, H3⟩
  rw [wp_ret]; imodintro; imodintro
  isplitl [Hst]; · iexact Hst
  isplitr [Hb Hts]
  · isplitl [H0]; · iexact H0
    isplitl [H1]; · iexact H1
    isplitl [H2]; · iexact H2
    isplitl [H3]; · iexact H3
    iexact Hbars
  isplitl [Hb] <;> iassumption

/-! ## The final state -/

/-- What is read of a device's final state. -/
def fq (d : Dev nD) (s' : Phys nD τ sig (Elt F)) : Prop :=
  s'.mem.mem (x0Loc d) = m (x0Loc d) ∧ s'.mem.mem (batLoc d) = m (batLoc d) ∧ s'.mem.mem (w0Loc d) = m (w0Loc d)
    ∧ s'.mem.mem (resLoc d) = Rv m d ∧ ∀ j : Fin τ.nSub, s'.mem.sem (bcell d (coreOf (F := F) 0) j) = 0

theorem read_whole (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx =>
  ⟨((sep_mono_left sep_elim_left).trans (read_whole _ _ s')) x hx,
    ((sep_mono_left (sep_elim_right.trans sep_elim_left)).trans (read_whole _ _ s')) x hx,
    ((sep_mono_left (sep_elim_right.trans (sep_elim_right.trans sep_elim_left))).trans (read_whole _ _ s')) x hx,
    ((sep_mono_left (sep_elim_right.trans (sep_elim_right.trans (sep_elim_right.trans sep_elim_left)))).trans (read_whole _ _ s')) x hx,
    fun j => ((sep_mono_left (sep_elim_right.trans (sep_elim_right.trans (sep_elim_right.trans (sep_elim_right.trans
      (SparseCore.ent (bigSep_elim (Finset.mem_univ j)))))))).trans (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  obtain rfl : c = coreOf (F := F) 0 := Fin.ext (Nat.lt_one_iff.mp (Finset.mem_filter.mp hx).2)
  exact (h d).2.2.2.2 i

/-! ## The program's run -/

/-- How the program ends. -/
def QC : PUnit × MemSt nD τ sig (Elt F) → Prop := fun r =>
  (∀ c : Dev nD, r.2.mem (x0Loc c) = m (x0Loc c) ∧ r.2.mem (batLoc c) = m (batLoc c) ∧ r.2.mem (w0Loc c) = m (w0Loc c) ∧ r.2.mem (resLoc c) = Rv m c)
    ∧ r.2.sem = fun _ => 0

theorem run_main [∀ e, Nonempty (Elt F e)] (hin : ∀ d, InRange (VX m d) (VB m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (VX m) (VB m) (VW m)) (hA := hA m) facts v₀
    (fun q hq => match q with | 0 => nomatch hq)
    (fun q _ => match q with | 0 => tileObl (VX m) (VB m) (VW m) hin)
    (fun q _ => match q with | 0 => vecSplit (VX m) (VB m) (VW m))
    m ρ main (fun _ => iprop(emp)) (FIN m) (u₀ (F := F)) (hu₀ (VX m) (VB m) (VW m)) (hmain m ρ) (fq m) (hfin m) (QC m)
    (fun _ h hz => ⟨fun c => ⟨(h c).1, (h c).2.1, (h c).2.2.1, (h c).2.2.2.1⟩, hz⟩)

end Cert.Proof.Seg
-- ==== Proof.Frames.lean ====
/-
The frames: arguments in range, read back from the precondition, and the runs of the kernel, of its ideal form and of
the reference.
-/
module

public import proofs.«01_k».proof.Proof.Run
public import proofs.«01_k».proof.Proof.Gen.Kernel
public import proofs.«01_k».proof.Proof.Gen.Pre_in_range
public import proofs.«01_k».proof.Proof.Gen.ReferenceIdeal
public import proofs.«01_k».proof.Proof.Gen.ReferenceIdeal.Run
public import proofs.«01_k».proof.Defs
public import Idealize.ShloMosaic.Lib.ReduceAll

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

attribute [local instance] blocks

/-! ## The precondition read back -/

instance : Subsingleton Cert.Pre_in_range.S_.Idx := ⟨fun _ _ => funext fun a => a.elim0⟩

/-- A word at least zero and less than `n`, both signed, is less than `n`. -/
theorem toNat_lt_of_cmp {x n : BitVec 32} {k : ℕ} (hn : n.toInt = k) (h0 : IntOp.cmpi .sge x 0#32 = 1#1) (h1 : IntOp.cmpi .slt x n = 1#1) : x.toNat < k := by
  have h0 := IntOp.cmpi_sge.1 h0
  have h1 := IntOp.cmpi_slt.1 h1
  rw [show (0#32 : BitVec 32).toInt = 0 by decide] at h0
  rw [hn] at h1
  have := BitVec.toInt_eq_toNat_cond x
  split at this <;> omega

/-- The precondition holds of arguments whose element numbers and graph numbers are in range. -/
theorem pre_range [FloatOps F] (A0 : IVec Cert.Pre_in_range.S100000x1 32) (A1 : IVec Cert.Pre_in_range.S100000 32) (A2 : FVec F Cert.Pre_in_range.S86x1 .f32)
    (h : Cert.Pre_in_range.fn (F := F) A0 A1 A2 = fun _ => 1#1) : (∀ i, (A0 i).toNat < 86) ∧ ∀ i, (A1 i).toNat < 1024 := by
  have h := congrFun h (fun a => a.elim0)
  obtain ⟨h, h4⟩ := IntOp.andi_eq_one.1 h
  obtain ⟨h, h3⟩ := IntOp.andi_eq_one.1 h
  obtain ⟨h1, h2⟩ := IntOp.andi_eq_one.1 h
  exact ⟨fun i => toNat_lt_of_cmp (n := 86#32) (by decide) (Host.reduce_andi_all _ _ _ _ _ h1 i) (Host.reduce_andi_all _ _ _ _ _ h2 i),
    fun i => toNat_lt_of_cmp (n := 1024#32) (by decide) (Host.reduce_andi_all _ _ _ _ _ h3 i) (Host.reduce_andi_all _ _ _ _ _ h4 i)⟩

/-- The call's operands are in range where the arguments meet the precondition. -/
theorem inRange_of_pre [FloatOps F] (m : (ℓ : Loc nD τ sig) → Buf (Elt F) ℓ)
    (h : ∀ c : Dev nD, Cert.Pre_in_range.fn (F := F) (m (x0Loc c)) (m (batLoc c)) (m (w0Loc c)) = fun _ => 1#1) (d : Dev nD) : InRange (VX m d) (VB m d) :=
  have h := pre_range _ _ _ (h d)
  ⟨fun _ => h.1 _, fun x => h.2 x⟩

/-! ## The frames -/

/-- The kernel's frame: the program's run at bit-exact floats, the result dropped. -/
theorem frame_kernel : Cert.quiescent_Kernel := fun m ρ hp =>
  (θ_run Cert.KernelIdeal.defs _ _).mono (fun _ h => ⟨fun c => ⟨(h.1 c).1, (h.1 c).2.1, (h.1 c).2.2.1⟩, h.2⟩)
    (run_main (F := Bits) m ρ (inRange_of_pre (F := Bits) m hp))

/-- The ideal kernel's frame: the program's run at extended reals, the result dropped. -/
theorem frame_kernelIdeal : Cert.quiescent_KernelIdeal := fun m ρ hp =>
  (θ_run Cert.KernelIdeal.defs _ _).mono (fun _ h => ⟨fun c => ⟨(h.1 c).1, (h.1 c).2.1, (h.1 c).2.2.1⟩, h.2⟩)
    (run_main (F := Ideal) m ρ (inRange_of_pre (F := Ideal) m hp))

/-- The reference's frame: its run, the result dropped; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Seg
-- ==== Proof.Sums.lean ====
/-
What the kernel's sums come to over the extended reals: each graph's sum is the sum, over its nodes, of their weights.
-/
module

public import proofs.«01_k».proof.Proof.Scatter
public import Idealize.ShloMosaic.PureOps.Ideal.Laws

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Tactic
open Finset (range sum_range_succ sum_congr)

variable {F : FTy → Type}

local notation "𝕄" => MT nD τ sig (HIx 2) (Elt F) ℕ UU ℕ

attribute [local instance] blocks

/-- `L` stretches of `T` numbers each are the first `T * L` numbers. -/
theorem sum_blocks {M : Type} [AddCommMonoid M] (f : ℕ → M) (T : ℕ) : ∀ L, ∑ l ∈ range L, ∑ t ∈ range T, f (T * l + t) = ∑ n ∈ range (T * L), f n
  | 0 => by simp
  | L + 1 => by rw [sum_range_succ, sum_blocks f T L, Nat.mul_succ, Finset.sum_range_add]

section

variable (X B : S100000.Idx → BitVec 32) (W : S86.Idx → Ideal .f32)

/-- Node `n`'s weight where its graph is `g`, else zero. -/
def term (g n : ℕ) : EReal := if (nodeB B n).toNat = g then wRow X W (nodeX X n).toNat else 0

variable {X B W}

/-- The first `k` lanes of a step add to region `r`'s sum of graph `g` the terms of their nodes in that region. -/
theorem laneAdds (h : InRange X B) (i t : ℕ) (A : ℕ → Ideal .f32) {g r : ℕ} (hg : g < 1024) (hr : r < 4) : ∀ k,
    ((List.range k).foldl (laneAdd X B W i t) A (1041 * r + g) : EReal)
      = A (1041 * r + g) + ∑ l ∈ range k, if l % 4 = r then term X B W g (6256 * i + (391 * l + t)) else 0
  | 0 => by simp
  | k + 1 => by
    rw [List.range_succ, List.foldl_append, sum_range_succ, ← add_assoc, ← laneAdds h i t A hg hr k]
    show laneAdd X B W i t _ k (1041 * r + g) = _
    have hb := nodeB_le h (6256 * i + (391 * k + t))
    have hk : k % 4 < 4 := Nat.mod_lt _ (by decide)
    unfold laneAdd term
    by_cases h1 : k % 4 = r
    · by_cases h2 : (nodeB B (6256 * i + (391 * k + t))).toNat = g
      · rw [if_pos (by omega), if_pos h1, if_pos h2]; rfl
      · rw [if_neg (by omega), if_pos h1, if_neg h2, add_zero]
    · rw [if_neg (by omega), if_neg h1, add_zero]

/-- Region `r`'s sum of graph `g` after `T` steps. -/
theorem accAt_sum (h : InRange X B) (i : ℕ) {g r : ℕ} (hg : g < 1024) (hr : r < 4) : ∀ m,
    (accAt X B W i m (1041 * r + g) : EReal) = ∑ t ∈ range m, ∑ l ∈ range 16, if l % 4 = r then term X B W g (6256 * i + (391 * l + t)) else 0
  | 0 => (Ideal.ofBits_zero_f32).trans (Finset.sum_range_zero _).symm
  | m + 1 => by
    rw [sum_range_succ, ← accAt_sum h i hg hr m]
    exact laneAdds h i m _ hg hr 16

/-- One number is the sum of its shares in the four regions. -/
theorem four_regions (l : ℕ) (x : EReal) :
    (if l % 4 = 0 then x else 0) + (if l % 4 = 1 then x else 0) + (if l % 4 = 2 then x else 0) + (if l % 4 = 3 then x else 0) = x := by
  have h : l % 4 = 0 ∨ l % 4 = 1 ∨ l % 4 = 2 ∨ l % 4 = 3 := by omega
  rcases h with h | h | h | h <;> rw [h] <;> simp

/-- Tile `i`'s sum of graph `g` is that of its chunk's terms. -/
theorem accV_sum (h : InRange X B) (i : ℕ) {g : ℕ} (hg : g < 1024) : (accV X B W i g : EReal) = ∑ n ∈ range 6256, term X B W g (6256 * i + n) := by
  have hr := fun (r : ℕ) (hr : r < 4) => accAt_sum (W := W) h i hg hr 391
  have h0 := hr 0 (by decide); have h1 := hr 1 (by decide); have h2 := hr 2 (by decide); have h3 := hr 3 (by decide)
  rw [Nat.mul_zero, Nat.zero_add] at h0
  unfold accV
  show ((accAt X B W i 391 g : EReal) + accAt X B W i 391 (1041 * 1 + g) + accAt X B W i 391 (1041 * 2 + g) + accAt X B W i 391 (1041 * 3 + g)) = _
  rw [h0, h1, h2, h3, ← Finset.sum_add_distrib, ← Finset.sum_add_distrib, ← Finset.sum_add_distrib]
  rw [show (6256 : ℕ) = 391 * 16 from rfl, ← sum_blocks (fun n => term X B W g (391 * 16 * i + n)) 391 16, Finset.sum_comm]
  refine sum_congr rfl fun t _ => ?_
  rw [← Finset.sum_add_distrib, ← Finset.sum_add_distrib, ← Finset.sum_add_distrib]
  exact sum_congr rfl fun l _ => four_regions l _

/-- Graph `g`'s sum over the first `k` tiles. -/
theorem outAt_sum (h : InRange X B) {g : ℕ} (hg : g < 1024) : ∀ k, (outAt X B W g k : EReal) = ∑ i ∈ range k, ∑ n ∈ range 6256, term X B W g (6256 * i + n)
  | 0 => (Ideal.ofBits_zero_f32).trans (Finset.sum_range_zero _).symm
  | k + 1 => by
    rw [sum_range_succ, ← outAt_sum h hg k, ← accV_sum h k hg]; rfl

/-- The numbers past the last node name no graph. -/
theorem term_pad {g : ℕ} (hg : g < 1024) (n : ℕ) : term X B W g (100000 + n) = 0 := by
  unfold term nodeB
  rw [dif_neg (by omega), if_neg (by rw [show (1024#32 : BitVec 32).toNat = 1024 from rfl]; omega)]

/-- Graph `g`'s sum is that of its nodes' weights. -/
theorem out_sum (h : InRange X B) {g : ℕ} (hg : g < 1024) : (outAt X B W g 16 : EReal) = ∑ n ∈ range 100000, term X B W g n := by
  rw [outAt_sum h hg, sum_blocks, show 6256 * 16 = 100000 + 96 from rfl, Finset.sum_range_add]
  rw [Finset.sum_eq_zero (s := range 96) fun n _ => term_pad hg n, add_zero]

end

/-! ## The least element number and the shift -/

/-- A minimum is at least one exactly when both numbers are. -/
theorem one_le_minsi (a b : BitVec 32) : 1 ≤ (IntOp.minsi a b).toInt ↔ 1 ≤ a.toInt ∧ 1 ≤ b.toInt := by
  unfold IntOp.minsi
  split
  · next h => have := BitVec.slt_iff_toInt_lt.mp h; omega
  · next h => have := mt BitVec.slt_iff_toInt_lt.mpr h; omega

/-- One where a number is at least one, else zero. -/
theorem select_ge_one (a : BitVec 32) : Scalar.select (Scalar.cmpi .sge a 1#32) 1#32 0#32 = if 1 ≤ a.toInt then 1#32 else 0#32 := by
  by_cases h : 1 ≤ a.toInt
  · rw [if_pos h, show Scalar.cmpi .sge a 1#32 = 1#1 from IntOp.cmpi_sge.2 h]; rfl
  · rw [if_neg h]
    rcases BitVec.eq_zero_or_eq_one (Scalar.cmpi .sge a 1#32) with e | e
    · rw [e]; rfl
    · exact absurd (IntOp.cmpi_sge.1 e) h

section

variable (X : S100000.Idx → BitVec 32)

theorem one_le_laneMin (i l : ℕ) : ∀ n, 1 ≤ (laneMin X i l n).toInt ↔ ∀ t < n, 1 ≤ (nodeX X (6256 * i + (16 * t + l))).toInt
  | 0 => ⟨fun _ _ h => absurd h (Nat.not_lt_zero _), fun _ => by unfold laneMin; decide⟩
  | n + 1 => by
    unfold laneMin
    rw [one_le_minsi, one_le_laneMin i l n]
    exact ⟨fun h t ht => (Nat.lt_succ_iff_lt_or_eq.mp ht).elim (h.1 t) fun e => e ▸ h.2, fun h => ⟨fun t ht => h t (Nat.lt_succ_of_lt ht), h n (Nat.lt_succ_self n)⟩⟩

theorem one_le_tileMin (l : ℕ) : ∀ k, 1 ≤ (tileMin X l k).toInt ↔ ∀ i < k, 1 ≤ (laneMin X i l 391).toInt
  | 0 => ⟨fun _ _ h => absurd h (Nat.not_lt_zero _), fun _ => by unfold tileMin; decide⟩
  | k + 1 => by
    unfold tileMin
    rw [one_le_minsi, one_le_tileMin l k]
    exact ⟨fun h t ht => (Nat.lt_succ_iff_lt_or_eq.mp ht).elim (h.1 t) fun e => e ▸ h.2, fun h => ⟨fun t ht => h t (Nat.lt_succ_of_lt ht), h k (Nat.lt_succ_self k)⟩⟩

theorem one_le_allMin : ∀ l, 1 ≤ (allMin X l).toInt ↔ ∀ j ≤ l, 1 ≤ (tileMin X j 16).toInt
  | 0 => ⟨fun h j hj => by obtain rfl := Nat.le_zero.mp hj; exact h, fun h => h 0 le_rfl⟩
  | l + 1 => by
    unfold allMin
    rw [one_le_minsi, one_le_allMin l]
    exact ⟨fun h j hj => (Nat.le_succ_iff.mp hj).elim (h.1 j) fun e => e ▸ h.2, fun h => ⟨fun j hj => h j (Nat.le_succ_of_le hj), h (l + 1) le_rfl⟩⟩

/-- The least of the kernel's minima is at least one exactly when every element number is. -/
theorem one_le_min : 1 ≤ (allMin X 15).toInt ↔ ∀ x, 1 ≤ (X x).toInt := by
  rw [one_le_allMin]
  constructor
  · intro h x
    have hx : (x 0).val < 100000 := (x 0).isLt
    have hn := (one_le_laneMin X ((x 0).val / 6256) ((x 0).val % 6256 % 16) 391).mp
      ((one_le_tileMin X ((x 0).val % 6256 % 16) 16).mp (h _ (by omega)) _ (by omega)) ((x 0).val % 6256 / 16) (by omega)
    rw [show 6256 * ((x 0).val / 6256) + (16 * ((x 0).val % 6256 / 16) + (x 0).val % 6256 % 16) = (x 0).val by omega] at hn
    unfold nodeX at hn
    rw [dif_pos hx] at hn
    rwa [show x = ix1 (x 0).val hx from funext fun a => by obtain rfl : a = 0 := Subsingleton.elim _ _; rfl]
  · intro h j _
    rw [one_le_tileMin]
    intro i _
    rw [one_le_laneMin]
    intro t _
    unfold nodeX
    split
    · exact h _
    · decide

/-- The shift is one where every element number is at least one, else zero. -/
theorem shift_eq [Decidable (∀ x, 1 ≤ (X x).toInt)] : shift X = if ∀ x, 1 ≤ (X x).toInt then 1#32 else 0#32 := by
  unfold shift
  rw [select_ge_one]
  simp only [one_le_min]

end

end Cert.Proof.Seg
-- ==== Proof.RefValue.lean ====
/-
What the reference computes over the extended reals from arguments in range: each graph's sum is the sum, over its
nodes, of the table's entries at the nodes' shifted element numbers.
-/
module

public import proofs.«01_k».proof.Proof.Gen.ReferenceIdeal
public import proofs.«01_k».proof.Proof.Gen.ReferenceIdeal.Run
public import Idealize.ShloMosaic.PureOps.Ideal.Laws
public import Idealize.ShloMosaic.Lib.ReduceAll
public import Idealize.ShloMosaic.Lib.Routing.Ops
public import Idealize.ShloMosaic.Lib.Routing.OpsPair

@[expose] public section

noncomputable section

namespace Cert.Proof.Ref

open Cert.ReferenceIdeal Cert.ReferenceIdeal.Gen
open Idealize.ShloMosaic Idealize.ShloMosaic.ValueIdx

variable {F : FTy → Type} [FloatOps F]

/-! ## The reference's terms -/

section

variable (X : IVec S100000 32)

/-- By how much the element numbers are shifted down. -/
def shiftR : IVec S_ 32 :=
  select (andi (cmpi .sge (Host.reduce IntOp.minsi X (constantI S_ 32 2147483647#32) reducesTo_S100000_S_d0 h_S_) (constantI S_ 32 1#32))
    (cmpi .sle (Host.reduce IntOp.maxsi X (constantI S_ 32 2147483648#32) reducesTo_S100000_S_d0 h_S_) (constantI S_ 32 86#32)))
    (constantI S_ 32 1#32) (constantI S_ 32 0#32)
/-- The shifted element numbers, clipped to the table's rows. -/
def clipR : IVec S100000 32 :=
  minsi (broadcastInDim S100000 ![] bcast_S_S100000 (id (constantI S_ 32 85#32)))
    (maxsi (broadcastInDim S100000 ![] bcast_S_S100000 (id (constantI S_ 32 0#32))) (subi X (broadcastInDim S100000 ![] bcast_S_S100000 (id (shiftR X)))))
/-- The rows looked up, as a column. -/
def rowR : IVec S100000x1 32 :=
  broadcastInDim S100000x1 ![0] bcast_S100000_S100000x1_0
    (select (cmpi .slt (clipR X) (broadcastInDim S100000 ![] bcast_S_S100000 (constantI S_ 32 0#32)))
      (addi (clipR X) (broadcastInDim S100000 ![] bcast_S_S100000 (constantI S_ 32 86#32))) (clipR X))
/-- Whether each row is one of the table's. -/
def okR : IVec S100000x1 1 :=
  andi (cmpi .sge (rowR X) (broadcastInDim S100000x1 ![] bcast_S_S100000x1 (constantI S_ 32 0#32)))
    (cmpi .sle (rowR X) (broadcastInDim S100000x1 ![0, 1] bcast_S1x1_S100000x1_0_1 (broadcastInDim S1x1 ![1] bcast_S1_S1x1_1 (constantI S1 32 85#32))))
/-- The nodes' values. -/
def updR (W : FVec F S86x1 .f32) : FVec F S100000x1 .f32 :=
  select (broadcastInDim S100000x1 ![0] bcast_S100000_S100000x1_0 (Host.reduce IntOp.andi (okR X) (constantI S_ 1 1#1) reducesTo_S100000x1_S100000_d1 h_S_))
    (Host.gather gather_S86x1_S100000x1_S100000x1_1_0_n_n_0_1_11 W (rowR X))
    (broadcastInDim S100000x1 ![] bcast_S_S100000x1 (constant S_ .f32 0x7FC00000#32))
/-- The graphs' sums. -/
def outR (B : IVec S100000 32) (W : FVec F S86x1 .f32) : FVec F S1024x1 .f32 :=
  Host.scatterAdd scatter_S1024x1_S100000x1_S100000x1_1_0_0_1 (broadcastInDim S1024x1 ![] bcast_S_S1024x1 (constant S_ .f32 0x00000000#32))
    (broadcastInDim S100000x1 ![0] bcast_S100000_S100000x1_0 B) (updR X W)

end

/-- The reference's result is the graphs' sums of its arguments. -/
theorem res_eq (m : (ℓ : Loc nD τ sig) → Buf (Elt F) ℓ) (c : Dev nD) : Cert.ReferenceIdeal.Value.res_main_v14 m c
    = outR (shapeCast S100000 (m ((c.tc : Thread nD τ).loc main_arg0) : S100000x1.Idx → BitVec 32) shapeCasts_S100000x1_S100000)
        (m ((c.tc : Thread nD τ).loc main_arg1)) (m ((c.tc : Thread nD τ).loc main_arg2)) := rfl

/-! ## The shift -/

/-- A property that a body's result has exactly when both its operands have it holds of a fold exactly when it holds of
    the initial value and of everything folded. -/
theorem foldl_iff {α β : Type} (f : α → α → α) (P : α → Prop) (hP : ∀ a b, P (f a b) ↔ P a ∧ P b) (x : β → α) :
    ∀ (l : List β) (init : α), P (l.foldl (fun r i => f r (x i)) init) ↔ P init ∧ ∀ i ∈ l, P (x i)
  | [], init => by simp
  | b :: l, init => by rw [List.foldl_cons, foldl_iff f P hP x l, hP, List.forall_mem_cons, and_assoc]

instance : Subsingleton S_.Idx := ⟨fun _ _ => funext fun a => a.elim0⟩

/-- Such a property of a reduction to one number. -/
theorem reduce_iff {α : Type} (f : α → α → α) (P : α → Prop) (hP : ∀ a b, P (f a b) ↔ P a ∧ P b) (x : S100000.Idx → α) (init : S_.Idx → α) (j : S_.Idx) :
    P (Host.reduce f x init reducesTo_S100000_S_d0 h_S_ j) ↔ P (init (Shape.Idx.first h_S_)) ∧ ∀ i, P (x i) := by
  rw [Host.reduce_eq_foldl, foldl_iff f P hP]
  refine and_congr_right fun _ => ⟨fun h i => h i (List.mem_filter.2 ⟨List.mem_map.2 ⟨S100000.rowMajor i, List.mem_finRange _, Equiv.symm_apply_apply _ _⟩, ?_⟩), fun h i _ => h i⟩
  exact decide_eq_true (Subsingleton.elim _ _)

theorem le_minsi (k : ℤ) (a b : BitVec 32) : k ≤ (IntOp.minsi a b).toInt ↔ k ≤ a.toInt ∧ k ≤ b.toInt := by
  unfold IntOp.minsi
  split
  · next h => have := BitVec.slt_iff_toInt_lt.mp h; omega
  · next h => have := mt BitVec.slt_iff_toInt_lt.mpr h; omega
theorem maxsi_le (k : ℤ) (a b : BitVec 32) : (IntOp.maxsi a b).toInt ≤ k ↔ a.toInt ≤ k ∧ b.toInt ≤ k := by
  unfold IntOp.maxsi
  split
  · next h => have := BitVec.slt_iff_toInt_lt.mp h; omega
  · next h => have := mt BitVec.slt_iff_toInt_lt.mpr h; omega

variable {X : IVec S100000 32}

/-- A word less than 86 is that number signed. -/
theorem toInt_small {x : BitVec 32} (h : x.toNat < 2147483648) : x.toInt = x.toNat := by
  rw [BitVec.toInt_eq_toNat_cond, if_pos (by omega)]

open Classical in
/-- Of element numbers below 86 the shift is one where every number is at least one, else zero. -/
theorem shiftR_eq (hX : ∀ i, (X i).toNat < 86) (j : S_.Idx) : shiftR X j = if ∀ i, 1 ≤ (X i).toInt then 1#32 else 0#32 := by
  have h1 : IntOp.cmpi .sge (Host.reduce IntOp.minsi X (constantI S_ 32 2147483647#32) reducesTo_S100000_S_d0 h_S_ j) 1#32 = 1#1 ↔ ∀ i, 1 ≤ (X i).toInt := by
    rw [IntOp.cmpi_sge]
    refine (reduce_iff IntOp.minsi (fun a => (1#32 : BitVec 32).toInt ≤ a.toInt) (fun a b => le_minsi _ a b) X _ j).trans ?_
    exact ⟨fun h => h.2, fun h => ⟨by decide, h⟩⟩
  have h2 : IntOp.cmpi .sle (Host.reduce IntOp.maxsi X (constantI S_ 32 2147483648#32) reducesTo_S100000_S_d0 h_S_ j) 86#32 = 1#1 := by
    rw [IntOp.cmpi_sle]
    refine (reduce_iff IntOp.maxsi (fun a => a.toInt ≤ (86#32 : BitVec 32).toInt) (fun a b => maxsi_le _ a b) X _ j).mpr ⟨by decide, fun i => ?_⟩
    have := hX i
    rw [toInt_small (by omega), show (86#32 : BitVec 32).toInt = 86 by decide]; omega
  show Scalar.select (IntOp.andi (IntOp.cmpi .sge (Host.reduce IntOp.minsi X (constantI S_ 32 2147483647#32) reducesTo_S100000_S_d0 h_S_ j) 1#32)
    (IntOp.cmpi .sle (Host.reduce IntOp.maxsi X (constantI S_ 32 2147483648#32) reducesTo_S100000_S_d0 h_S_ j) 86#32)) 1#32 0#32 = _
  rw [h2]
  by_cases h : ∀ i, 1 ≤ (X i).toInt
  · rw [if_pos h, h1.mpr h]; rfl
  · rw [if_neg h]
    rcases BitVec.eq_zero_or_eq_one (IntOp.cmpi .sge (Host.reduce IntOp.minsi X (constantI S_ 32 2147483647#32) reducesTo_S100000_S_d0 h_S_ j) 1#32) with e | e
    · rw [e]; rfl
    · exact absurd (h1.mp e) h

/-! ## The rows -/

/-- Clipping changes no shifted number in range. -/
theorem clip_word : ∀ (k : Fin 86) (s : Fin 2), s.val ≤ k.val →
    IntOp.minsi 85#32 (IntOp.maxsi 0#32 (BitVec.ofNat 32 k.val - BitVec.ofNat 32 s.val)) = BitVec.ofNat 32 (k.val - s.val) := by decide
/-- Nor does the wrap of negative numbers. -/
theorem wrap_word : ∀ k : Fin 86, Scalar.select (IntOp.cmpi .slt (BitVec.ofNat 32 k.val) 0#32) (BitVec.ofNat 32 k.val + 86#32) (BitVec.ofNat 32 k.val) = BitVec.ofNat 32 k.val := by
  decide
/-- A number in range passes the check of the range. -/
theorem ok_word : ∀ k : Fin 86, IntOp.andi (IntOp.cmpi .sge (BitVec.ofNat 32 k.val) 0#32) (IntOp.cmpi .sle (BitVec.ofNat 32 k.val) 85#32) = 1#1 := by decide

open Classical in
/-- The shift, as a number. -/
def sh (X : IVec S100000 32) : ℕ := if ∀ i, 1 ≤ (X i).toInt then 1 else 0

theorem sh_lt (X : IVec S100000 32) : sh X < 2 := by unfold sh; split <;> decide
/-- The shift is at most every element number. -/
theorem sh_le (hX : ∀ i, (X i).toNat < 86) (i : S100000.Idx) : sh X ≤ (X i).toNat := by
  unfold sh
  split
  · next h => have := h i; have hx := hX i; rw [toInt_small (by omega)] at this; omega
  · exact Nat.zero_le _

theorem shiftR_sh (hX : ∀ i, (X i).toNat < 86) (j : S_.Idx) : shiftR X j = BitVec.ofNat 32 (sh X) := by
  rw [shiftR_eq hX]; unfold sh; split <;> rfl

theorem clipR_eq (hX : ∀ i, (X i).toNat < 86) (i : S100000.Idx) : clipR X i = BitVec.ofNat 32 ((X i).toNat - sh X) := by
  have h := clip_word ⟨(X i).toNat, hX i⟩ ⟨sh X, sh_lt X⟩ (sh_le hX i)
  rw [BitVec.ofNat_toNat, BitVec.setWidth_eq, ← shiftR_sh hX ix0] at h
  refine Eq.trans ?_ h
  show IntOp.minsi 85#32 (IntOp.maxsi 0#32 (X i - shiftR X _)) = _
  exact congrArg (fun j => IntOp.minsi 85#32 (IntOp.maxsi 0#32 (X i - shiftR X j))) (Subsingleton.elim (α := S_.Idx) _ ix0)

/-- A column read off a vector. -/
theorem column {α : Type} (v : S100000.Idx → α) (n : Fin 100000) (b : Fin 1) : broadcastInDim S100000x1 ![0] bcast_S100000_S100000x1_0 v (ix2 n b) = v (ix1 n) := by
  unfold broadcastInDim
  refine congrArg v (funext fun a => Fin.ext ?_)
  match a with
  | ⟨0, _⟩ => rfl

theorem rowR_eq (hX : ∀ i, (X i).toNat < 86) (n : Fin 100000) (b : Fin 1) : rowR X (ix2 n b) = BitVec.ofNat 32 ((X (ix1 n)).toNat - sh X) := by
  have hx := hX (ix1 n)
  have h := wrap_word ⟨(X (ix1 n)).toNat - sh X, by omega⟩
  unfold rowR
  rw [column]
  refine Eq.trans ?_ h
  show Scalar.select (IntOp.cmpi .slt (clipR X (ix1 n)) 0#32) (clipR X (ix1 n) + 86#32) (clipR X (ix1 n)) = _
  rw [clipR_eq hX]

theorem okR_at (hX : ∀ i, (X i).toNat < 86) (n : Fin 100000) (b : Fin 1) : okR X (ix2 n b) = 1#1 := by
  have hx := hX (ix1 n)
  refine Eq.trans ?_ (ok_word ⟨(X (ix1 n)).toNat - sh X, by omega⟩)
  show IntOp.andi (IntOp.cmpi .sge (rowR X (ix2 n b)) 0#32) (IntOp.cmpi .sle (rowR X (ix2 n b)) 85#32) = _
  rw [rowR_eq hX]
theorem okR_eq (hX : ∀ i, (X i).toNat < 86) (i : S100000x1.Idx) : okR X i = 1#1 :=
  (congrArg (okR X) (eq_ix2 i)).trans (okR_at hX (i 0) (i 1))

/-- Where the condition holds a selection takes its first operand. -/
theorem select_at {s : Shape} {α : Type} (c : IVec s 1) (x y : s.Idx → α) (i : s.Idx) (h : c i = 1#1) : select c x y i = x i := by
  show Scalar.select (c i) (x i) (y i) = x i
  rw [h, select_one]

/-- Every node's check passes. -/
theorem mask_at (hX : ∀ i, (X i).toNat < 86) (n : Fin 100000) (b : Fin 1) :
    broadcastInDim S100000x1 ![0] bcast_S100000_S100000x1_0 (Host.reduce IntOp.andi (okR X) (constantI S_ 1 1#1) reducesTo_S100000x1_S100000_d1 h_S_) (ix2 n b) = 1#1 :=
  (column _ n b).trans (Host.reduce_andi_one _ _ _ _ _ rfl (okR_eq hX))

/-- A node's value is the table's entry at its shifted element number. -/
theorem updR_eq (hX : ∀ i, (X i).toNat < 86) (W : FVec F S86x1 .f32) (n : Fin 100000) (b : Fin 1) :
    updR X W (ix2 n b) = W (ix2 ⟨(X (ix1 n)).toNat - sh X, by have := hX (ix1 n); omega⟩ b) := by
  unfold updR
  rw [select_at _ _ _ _ (mask_at hX n b)]
  exact Routing.gather_row _ rfl rfl rfl rfl rfl W (rowR X) n b _ (rowR_eq hX n 0) (by decide)

/-! ## The sums -/

/-- Update `n` lands at the graph that its index names. -/
theorem lands (idx : IVec S100000x1 32) (n : Fin 100000) (b : Fin 1) (g : Fin 1024) (c : Fin 1) :
    (scatter_S1024x1_S100000x1_S100000x1_1_0_0_1).resultIdx? (ix2 n b) idx = some (ix2 g c) ↔ (idx (ix2 n 0)).toInt = g.val := by
  have hs0 : (scatter_S1024x1_S100000x1_S100000x1_1_0_0_1).start (ix2 n b) idx 0 = (idx (ix2 n 0)).toInt := by
    unfold ScatterDims.start
    rw [dif_pos (show (0 : Fin 2) ∈ (scatter_S1024x1_S100000x1_S100000x1_1_0_0_1).scatterDimsToOperandDims from List.mem_singleton.mpr rfl)]
    congr 1
    refine congrArg idx (funext fun a => Fin.ext ?_)
    match a with
    | ⟨0, _⟩ => rfl
    | ⟨1, _⟩ => rfl
  have hs1 : (scatter_S1024x1_S100000x1_S100000x1_1_0_0_1).start (ix2 n b) idx 1 = 0 := rfl
  have hw0 : (scatter_S1024x1_S100000x1_S100000x1_1_0_0_1).window (ix2 n b) 0 = 0 := rfl
  have hw1 : (scatter_S1024x1_S100000x1_S100000x1_1_0_0_1).window (ix2 n b) 1 = b.val := rfl
  refine (Routing.resultIdx?_ix2 _ _ _ g c).trans ?_
  rw [hs0, hs1, hw0, hw1]
  have := b.isLt; have := c.isLt
  omega

/-- Graph `g`'s sum, over the extended reals, is that of its nodes' table entries. -/
theorem outR_sum (hX : ∀ i, (X i).toNat < 86) (B : IVec S100000 32) (hB : ∀ i, (B i).toNat < 1024) (W : FVec Ideal S86x1 .f32) (g : Fin 1024) (c : Fin 1) :
    (outR X B W (ix2 g c) : EReal) = ∑ n : Fin 100000, if (B (ix1 n)).toNat = g.val then W (ix2 ⟨(X (ix1 n)).toNat - sh X, by have := hX (ix1 n); omega⟩ 0) else 0 := by
  unfold outR Host.scatterAdd
  rw [Ideal.hostScatterAdd_def]
  unfold Ideal.hostScatterAdd
  rw [show (broadcastInDim S1024x1 ![] bcast_S_S1024x1 (constant (F := Ideal) S_ .f32 0x00000000#32) (ix2 g c) : EReal) = 0 from Ideal.ofBits_zero_f32, zero_add,
    Finset.sum_filter, sum_idx2]
  refine Finset.sum_congr rfl fun n _ => ?_
  rw [Fin.sum_univ_one]
  have hb := hB (ix1 n)
  refine if_congr ((lands _ n 0 g c).trans ?_) (updR_eq hX W n 0) rfl
  rw [column, toInt_small (by omega)]
  omega

end Cert.Proof.Ref
-- ==== Proof.Algebraic.lean ====
/-
The kernel's result is the reference's over the extended reals, from arguments in range.
-/
module

public import proofs.«01_k».proof.Proof.Frames
public import proofs.«01_k».proof.Proof.Sums
public import proofs.«01_k».proof.Proof.RefValue

@[expose] public section

noncomputable section

namespace Cert.Proof.Seg

open Cert.KernelIdeal Cert.KernelIdeal.Gen
open Idealize.ShloMosaic Idealize.SL.Sem
open Idealize.ShloMosaic.ValueIdx (ix2 eq_ix2)

/-- The reference's frame under the precondition, which it does not need. -/
theorem frame_reference_in_range : Cert.quiescent_ReferenceIdeal_pre_in_range := fun m ρ _ => frame_reference m ρ trivial

/-! ## The two values -/

section

variable {X B : S100000.Idx → BitVec 32}

/-- Kernel and reference shift the element numbers by the same. -/
theorem shift_sh : (shift X).toNat = Ref.sh X := by
  classical
  rw [shift_eq]
  unfold Ref.sh
  by_cases h : ∀ x, 1 ≤ (X x).toInt
  · rw [if_pos h, if_pos h]; rfl
  · rw [if_neg h, if_neg h]; rfl

/-- A vector's index, in the two spellings. -/
theorem ix1_eq {k : ℕ} (n : Fin k) : (ix1 n.val n.isLt : (⟨1, ![k]⟩ : Shape).Idx) = ValueIdx.ix1 n :=
  funext fun a => match a with | ⟨0, _⟩ => rfl

/-- A node's element number and its graph, in the two spellings. -/
theorem nodeX_at (n : Fin 100000) : nodeX X n.val = X (ValueIdx.ix1 n) := by
  unfold nodeX; rw [dif_pos n.isLt, ix1_eq]
theorem nodeB_at (n : Fin 100000) : nodeB B n.val = B (ValueIdx.ix1 n) := by
  unfold nodeB; rw [dif_pos n.isLt, ix1_eq]

/-- The shifted table's row `k`, read off the table's column. -/
theorem wRow_at (W : S86x1.Idx → EReal) (hc : S86x1.ShapeCasts S86) (k : ℕ) (hk : k - Ref.sh X < 86) :
    (wRow (F := Ideal) X (shapeCast S86 W hc) k : EReal) = W (ix2 ⟨k - Ref.sh X, hk⟩ 0) := by
  unfold wRow
  rw [shift_sh, dif_pos hk, ix1_eq (⟨k - Ref.sh X, hk⟩ : Fin 86)]
  exact Routing.cast21 W hc ⟨k - Ref.sh X, hk⟩ 0 ⟨k - Ref.sh X, hk⟩ (by show k - Ref.sh X = (k - Ref.sh X) * 1 + 0; omega)

/-- A node's term in the kernel's sum is its term in the reference's. -/
theorem term_eq (W : S86x1.Idx → EReal) (hc : S86x1.ShapeCasts S86) (g : ℕ) (n : Fin 100000) (hn : (X (ValueIdx.ix1 n)).toNat - Ref.sh X < 86) :
    term X B (shapeCast S86 W hc) g n.val = if (B (ValueIdx.ix1 n)).toNat = g then W (ix2 ⟨(X (ValueIdx.ix1 n)).toNat - Ref.sh X, hn⟩ 0) else 0 := by
  unfold term
  rw [nodeB_at, nodeX_at, wRow_at W hc _ hn]

/-- The kernel's sums are the reference's. -/
theorem out_eq (h : InRange X B) (W : S86x1.Idx → EReal) (hc : S86x1.ShapeCasts S86) (hr : S1024.ShapeCasts S1024x1) :
    shapeCast S1024x1 (outF (F := Ideal) X B (shapeCast S86 W hc)) hr = Ref.outR (F := Ideal) X B W := by
  funext j
  rw [eq_ix2 j]
  refine ((Routing.cast12 _ hr (j 0) (j 1) (j 0) ?_).trans ((out_sum h (j 0).isLt).trans ?_)).trans (Ref.outR_sum h.1 B h.2 W (j 0) (j 1)).symm
  · have := (j 1).isLt
    show (j 0).val = (j 0).val * 1 + (j 1).val
    change (j 1).val < 1 at this
    omega
  · rw [Finset.sum_range]
    exact Finset.sum_congr rfl fun n _ => term_eq W hc _ n _

end

/-! ## The claim -/

/-- From arguments in range the kernel's result and the reference's are equal over the extended reals. -/
theorem algebraic : Cert.algebraic_KernelIdeal_ReferenceIdeal := fun m g m' g' hp ha =>
  have hin := inRange_of_pre (F := Ideal) m hp
  ⟨fun c => Rv (F := Ideal) m c,
    (θ_run Cert.KernelIdeal.defs _ _).mono (fun _ h c => ⟨(h.1 c).2.2.2, (h.1 c).1, (h.1 c).2.1, (h.1 c).2.2.1⟩) (run_main (F := Ideal) m g hin),
    (θ_run Cert.ReferenceIdeal.defs _ _).mono (fun _ h c => ⟨(h c).1.trans (by
        rw [Ref.res_eq, (ha c).1, (ha c).2.1, (ha c).2.2]
        exact (out_eq (hin c) _ _ _).symm), (h c).2⟩)
      (Cert.ReferenceIdeal.Value.run (F := Ideal) m' g')⟩

end Cert.Proof.Seg
-- ==== Proof.lean ====
/-
The proof of `Cert.Claim`: the frames of the kernel, of its ideal form and of the reference, that the ideal form is the
kernel over the extended reals, and that kernel and reference then compute the same sums. The frames are in
`Proof/Frames.lean`, the equation of the two results in `Proof/Algebraic.lean`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate, the programs' stated side conditions first. -/
theorem claim : Cert.Claim :=
  ⟨Cert.Kernel.Gen.facts, Cert.KernelIdeal.Gen.facts, Cert.ReferenceIdeal.Gen.facts, Cert.Pre_in_range.Gen.facts,
    Seg.frame_kernel, Seg.frame_kernelIdeal, Seg.frame_reference, Seg.frame_reference_in_range, trivial, Seg.algebraic⟩

end Cert.Proof

end
